-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S64x196x4096 : Shape := ⟨3, ![64, 196, 4096]⟩
abbrev S64x196 : Shape := ⟨2, ![64, 196]⟩
abbrev S_ : Shape := ⟨0, ![]⟩

class Facts : Prop where
  bcast_S_S64x196x4096 : S_.BroadcastsInDim S64x196x4096 (![] : Fin 0 → Fin S64x196x4096.rank)
  reducesTo_S64x196x4096_S_d0_1_2 : S64x196x4096.ReducesTo [0, 1, 2] S_
  h_S_ : 0 < S_.numel

variable [Facts]

def fn {F : FTy → Type} [FloatOps F] (main_arg0 : FVec F S64x196x4096 .f32) (main_arg1 : FVec F S64x196x4096 .f32) (main_arg2 : IVec S64x196 1) : IVec S_ 1 :=
  let main_v0 : FVec F S64x196x4096 .f32 := Host.absf main_arg0
  let main_cst : FVec F S_ .f32 := constant S_ .f32 0x7F800000#32
  let main_v1 : FVec F S64x196x4096 .f32 := broadcastInDim S64x196x4096 ![] bcast_S_S64x196x4096 main_cst
  let main_v2 : IVec S64x196x4096 1 := cmpf .olt main_v0 main_v1
  let main_v3 : FVec F S64x196x4096 .f32 := Host.absf main_arg1
  let main_cst_0 : FVec F S_ .f32 := constant S_ .f32 0x7F800000#32
  let main_v4 : FVec F S64x196x4096 .f32 := broadcastInDim S64x196x4096 ![] bcast_S_S64x196x4096 main_cst_0
  let main_v5 : IVec S64x196x4096 1 := cmpf .olt main_v3 main_v4
  let main_v6 : IVec S64x196x4096 1 := andi main_v2 main_v5
  let main_cst_1 : FVec F S_ .f32 := constant S_ .f32 0x00000000#32
  let main_v7 : FVec F S64x196x4096 .f32 := broadcastInDim S64x196x4096 ![] bcast_S_S64x196x4096 main_cst_1
  let main_v8 : IVec S64x196x4096 1 := cmpf .ogt main_arg0 main_v7
  let main_cst_2 : FVec F S_ .f32 := constant S_ .f32 0x00000000#32
  let main_v9 : FVec F S64x196x4096 .f32 := broadcastInDim S64x196x4096 ![] bcast_S_S64x196x4096 main_cst_2
  let main_v10 : IVec S64x196x4096 1 := cmpf .oeq main_arg0 main_v9
  let main_cst_3 : FVec F S_ .f32 := constant S_ .f32 0x00000000#32
  let main_v11 : FVec F S64x196x4096 .f32 := broadcastInDim S64x196x4096 ![] bcast_S_S64x196x4096 main_cst_3
  let main_v12 : IVec S64x196x4096 1 := cmpf .ogt main_arg1 main_v11
  let main_v13 : IVec S64x196x4096 1 := andi main_v10 main_v12
  let main_v14 : IVec S64x196x4096 1 := ori main_v8 main_v13
  let main_v15 : IVec S64x196x4096 1 := andi main_v6 main_v14
  let main_c : IVec S_ 1 := constantI S_ 1 1#1
  let main_v16 : IVec S_ 1 := (fun x v => Host.reduce IntOp.andi x v reducesTo_S64x196x4096_S_d0_1_2 h_S_) main_v15 main_c
  main_v16
-- ==== Kernel.lean ====
abbrev S64x196x4096 : Shape := ⟨3, ![64, 196, 4096]⟩
abbrev S64x196 : Shape := ⟨2, ![64, 196]⟩
abbrev S0 : Shape := ⟨1, ![0]⟩
abbrev S196x64x4096 : Shape := ⟨3, ![196, 64, 4096]⟩
abbrev S196x8x8x32x128 : Shape := ⟨5, ![196, 8, 8, 32, 128]⟩
abbrev S196x8x32x8x128 : Shape := ⟨5, ![196, 8, 32, 8, 128]⟩
abbrev S401408x128 : Shape := ⟨2, ![401408, 128]⟩
abbrev S196x64 : Shape := ⟨2, ![196, 64]⟩
abbrev S196x64x1 : Shape := ⟨3, ![196, 64, 1]⟩
abbrev S196x64x128 : Shape := ⟨3, ![196, 64, 128]⟩
abbrev S1x1 : Shape := ⟨2, ![1, 1]⟩
abbrev S4x64x128 : Shape := ⟨3, ![4, 64, 128]⟩
abbrev S4x64x4096 : Shape := ⟨3, ![4, 64, 4096]⟩
abbrev S4x64x1 : Shape := ⟨3, ![4, 64, 1]⟩
abbrev S1x4x64x4096 : Shape := ⟨4, ![1, 4, 64, 4096]⟩
abbrev S1 : Shape := ⟨1, ![1]⟩
abbrev S1x1x1x1 : Shape := ⟨4, ![1, 1, 1, 1]⟩
abbrev S4x64 : Shape := ⟨2, ![4, 64]⟩
abbrev S1x4x64 : Shape := ⟨3, ![1, 4, 64]⟩
abbrev S1x1x1 : Shape := ⟨3, ![1, 1, 1]⟩
abbrev S_ : Shape := ⟨0, ![]⟩
abbrev S5632 : Shape := ⟨1, ![5632]⟩
abbrev S88x64 : Shape := ⟨2, ![88, 64]⟩
abbrev S32x16 : Shape := ⟨2, ![32, 16]⟩
abbrev S176 : Shape := ⟨1, ![176]⟩
abbrev S11x16 : Shape := ⟨2, ![11, 16]⟩
abbrev S128 : Shape := ⟨1, ![128]⟩
abbrev S128x128 : Shape := ⟨2, ![128, 128]⟩
abbrev S16 : Shape := ⟨1, ![16]⟩
abbrev S1x16 : Shape := ⟨2, ![1, 16]⟩

abbrev nBuf : Table → Nat
  | .hbm => 34
  | .local .tc .vmem => 6
  | .local .tc .smem => 2
  | .local .scVector .vmem => 10
  | _ => 0

abbrev bufTy : (tb : Table) → Fin (nBuf tb) → BufTy
  | .hbm, ⟨0, _⟩ => ⟨S64x196x4096, .f32⟩
  | .hbm, ⟨1, _⟩ => ⟨S64x196x4096, .f32⟩
  | .hbm, ⟨2, _⟩ => ⟨S64x196, .i1⟩
  | .hbm, ⟨3, _⟩ => ⟨S0, .i32⟩
  | .hbm, ⟨4, _⟩ => ⟨S196x64x4096, .f32⟩
  | .hbm, ⟨5, _⟩ => ⟨S196x64x4096, .f32⟩
  | .hbm, ⟨6, _⟩ => ⟨S196x8x8x32x128, .f32⟩
  | .hbm, ⟨7, _⟩ => ⟨S196x8x32x8x128, .f32⟩
  | .hbm, ⟨8, _⟩ => ⟨S401408x128, .f32⟩
  | .hbm, ⟨9, _⟩ => ⟨S196x8x8x32x128, .f32⟩
  | .hbm, ⟨10, _⟩ => ⟨S196x8x32x8x128, .f32⟩
  | .hbm, ⟨11, _⟩ => ⟨S401408x128, .f32⟩
  | .hbm, ⟨12, _⟩ => ⟨S196x64, .i1⟩
  | .hbm, ⟨13, _⟩ => ⟨S196x64, .f32⟩
  | .hbm, ⟨14, _⟩ => ⟨S196x64x1, .f32⟩
  | .hbm, ⟨15, _⟩ => ⟨S196x64x128, .f32⟩
  | .hbm, ⟨16, _⟩ => ⟨S1x1, .f32⟩
  | .hbm, ⟨17, _⟩ => ⟨S1x1, .f32⟩
  | .hbm, ⟨18, _⟩ => ⟨S_, .i32⟩
  | .hbm, ⟨19, _⟩ => ⟨S5632, .i32⟩
  | .hbm, ⟨20, _⟩ => ⟨S88x64, .i1⟩
  | .hbm, ⟨21, _⟩ => ⟨S5632, .i1⟩
  | .hbm, ⟨22, _⟩ => ⟨S5632, .i32⟩
  | .hbm, ⟨23, _⟩ => ⟨S5632, .i32⟩
  | .hbm, ⟨24, _⟩ => ⟨S32x16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64x196, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local .tc .vmem, ⟨0, _⟩ => ⟨S4x64x128, .f32⟩
  | .local .tc .vmem, ⟨1, _⟩ => ⟨S4x64x128, .f32⟩
  | .local .tc .vmem, ⟨2, _⟩ => ⟨S4x64x4096, .f32⟩
  | .local .tc .vmem, ⟨3, _⟩ => ⟨S4x64x4096, .f32⟩
  | .local .tc .vmem, ⟨4, _⟩ => ⟨S4x64x4096, .f32⟩
  | .local .tc .vmem, ⟨5, _⟩ => ⟨S4x64x4096, .f32⟩
  | .local .tc .smem, ⟨0, _⟩ => ⟨S1x1, .f32⟩
  | .local .tc .smem, ⟨1, _⟩ => ⟨S1x1, .f32⟩
  | .local .scVector .vmem, ⟨0, _⟩ => ⟨S176, .i32⟩
  | .local .scVector .vmem, ⟨1, _⟩ => ⟨S11x16, .i32⟩
  | .local .scVector .vmem, ⟨2, _⟩ => ⟨S128, .i32⟩
  | .local .scVector .vmem, ⟨3, _⟩ => ⟨S128, .i32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | .local .scVector .vmem, ⟨8, _⟩ => ⟨S16, .f32⟩
  | .local .scVector .vmem, ⟨9, _⟩ => ⟨S16, .i32⟩
  | _, _ => ⟨S64x196x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v17_scv : Ref sig .scVector := ⟨.hbm, 23, rfl⟩
abbrev main_v4_scv : Ref sig .scVector := ⟨.hbm, 8, rfl⟩
abbrev main_v7_scv : Ref sig .scVector := ⟨.hbm, 11, rfl⟩
abbrev main_v18_scv : Ref sig .scVector := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_stg4_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![27], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c176_i32 : BitVec 32 := 176#32
  let v2 : BitVec 32 := Scalar.muli v1 c176_i32
  ![v2.toNat]

def k1_chk1 (v52 : IVec S16 32) : Prop :=
  (∀ a x, ((![v52] : Fin 1 → IVec S16 32) a x).toNat < S16.size a)
theorem k1_idx1_inb : ∀ (v52 : IVec S16 32) (k1_hw1 : k1_chk1 v52), ∀ a x, ((![v52] : Fin 1 → IVec S16 32) a x).toNat < S16.size a := fun v52 k1_hw1 => k1_hw1

def k1_chk2 (v63 : IVec S16 32) : Prop :=
  (∀ a x, ((![v63] : Fin 1 → IVec S16 32) a x).toNat < S16.size a)
theorem k1_idx2_inb : ∀ (v63 : IVec S16 32) (k1_hw2 : k1_chk2 v63), ∀ a x, ((![v63] : Fin 1 → IVec S16 32) a x).toNat < S16.size a := fun v63 k1_hw2 => k1_hw2

def k1_chk3 (v74 : IVec S16 32) : Prop :=
  (∀ a x, ((![v74] : Fin 1 → IVec S16 32) a x).toNat < S16.size a)
theorem k1_idx3_inb : ∀ (v74 : IVec S16 32) (k1_hw3 : k1_chk3 v74), ∀ a x, ((![v74] : Fin 1 → IVec S16 32) a x).toNat < S16.size a := fun v74 k1_hw3 => k1_hw3

def k1_chk4 (v85 : IVec S16 32) : Prop :=
  (∀ a x, ((![v85] : Fin 1 → IVec S16 32) a x).toNat < S16.size a)
theorem k1_idx4_inb : ∀ (v85 : IVec S16 32) (k1_hw4 : k1_chk4 v85), ∀ a x, ((![v85] : Fin 1 → IVec S16 32) a x).toNat < S16.size a := fun v85 k1_hw4 => k1_hw4

def k1_chk5 (v96 : IVec S16 32) (v98 : IVec S16 32) : Prop :=
  (∀ a x, ((![v96, v98] : Fin 2 → IVec S16 32) a x).toNat < S11x16.size a)
theorem k1_idx5_inb : ∀ (v96 : IVec S16 32) (v98 : IVec S16 32) (k1_hw5 : k1_chk5 v96 v98), ∀ a x, ((![v96, v98] : Fin 2 → IVec S16 32) a x).toNat < S11x16.size a := fun v96 v98 k1_hw5 => k1_hw5

def k1_chk6 (v113 : IVec S16 32) : Prop :=
  (∀ a x, ((![v113] : Fin 1 → IVec S16 32) a x).toNat < S16.size a)
theorem k1_idx6_inb : ∀ (v113 : IVec S16 32) (k1_hw6 : k1_chk6 v113), ∀ a x, ((![v113] : Fin 1 → IVec S16 32) a x).toNat < S16.size a := fun v113 k1_hw6 => k1_hw6

def k1_chk7 (v124 : IVec S16 32) : Prop :=
  (∀ a x, ((![v124] : Fin 1 → IVec S16 32) a x).toNat < S16.size a)
theorem k1_idx7_inb : ∀ (v124 : IVec S16 32) (k1_hw7 : k1_chk7 v124), ∀ a x, ((![v124] : Fin 1 → IVec S16 32) a x).toNat < S16.size a := fun v124 k1_hw7 => k1_hw7

def k1_chk8 (v135 : IVec S16 32) : Prop :=
  (∀ a x, ((![v135] : Fin 1 → IVec S16 32) a x).toNat < S16.size a)
theorem k1_idx8_inb : ∀ (v135 : IVec S16 32) (k1_hw8 : k1_chk8 v135), ∀ a x, ((![v135] : Fin 1 → IVec S16 32) a x).toNat < S16.size a := fun v135 k1_hw8 => k1_hw8

def k1_chk9 (v146 : IVec S16 32) : Prop :=
  (∀ a x, ((![v146] : Fin 1 → IVec S16 32) a x).toNat < S16.size a)
theorem k1_idx9_inb : ∀ (v146 : IVec S16 32) (k1_hw9 : k1_chk9 v146), ∀ a x, ((![v146] : Fin 1 → IVec S16 32) a x).toNat < S16.size a := fun v146 k1_hw9 => k1_hw9

def k1_chk10 (v157 : IVec S16 32) (v159 : IVec S16 32) : Prop :=
  (∀ a x, ((![v157, v159] : Fin 2 → IVec S16 32) a x).toNat < S11x16.size a)
theorem k1_idx10_inb : ∀ (v157 : IVec S16 32) (v159 : IVec S16 32) (k1_hw10 : k1_chk10 v157 v159), ∀ a x, ((![v157, v159] : Fin 2 → IVec S16 32) a x).toNat < S11x16.size a := fun v157 v159 k1_hw10 => k1_hw10

def k1_chk11 (v174 : IVec S16 32) : Prop :=
  (∀ a x, ((![v174] : Fin 1 → IVec S16 32) a x).toNat < S16.size a)
theorem k1_idx11_inb : ∀ (v174 : IVec S16 32) (k1_hw11 : k1_chk11 v174), ∀ a x, ((![v174] : Fin 1 → IVec S16 32) a x).toNat < S16.size a := fun v174 k1_hw11 => k1_hw11

def k1_chk12 (v185 : IVec S16 32) : Prop :=
  (∀ a x, ((![v185] : Fin 1 → IVec S16 32) a x).toNat < S16.size a)
theorem k1_idx12_inb : ∀ (v185 : IVec S16 32) (k1_hw12 : k1_chk12 v185), ∀ a x, ((![v185] : Fin 1 → IVec S16 32) a x).toNat < S16.size a := fun v185 k1_hw12 => k1_hw12

def k1_chk13 (v196 : IVec S16 32) : Prop :=
  (∀ a x, ((![v196] : Fin 1 → IVec S16 32) a x).toNat < S16.size a)
theorem k1_idx13_inb : ∀ (v196 : IVec S16 32) (k1_hw13 : k1_chk13 v196), ∀ a x, ((![v196] : Fin 1 → IVec S16 32) a x).toNat < S16.size a := fun v196 k1_hw13 => k1_hw13

def k1_chk14 (v207 : IVec S16 32) : Prop :=
  (∀ a x, ((![v207] : Fin 1 → IVec S16 32) a x).toNat < S16.size a)
theorem k1_idx14_inb : ∀ (v207 : IVec S16 32) (k1_hw14 : k1_chk14 v207), ∀ a x, ((![v207] : Fin 1 → IVec S16 32) a x).toNat < S16.size a := fun v207 k1_hw14 => k1_hw14

def k1_chk15 (v218 : IVec S16 32) (v220 : IVec S16 32) : Prop :=
  (∀ a x, ((![v218, v220] : Fin 2 → IVec S16 32) a x).toNat < S11x16.size a)
theorem k1_idx15_inb : ∀ (v218 : IVec S16 32) (v220 : IVec S16 32) (k1_hw15 : k1_chk15 v218 v220), ∀ a x, ((![v218, v220] : Fin 2 → IVec S16 32) a x).toNat < S11x16.size a := fun v218 v220 k1_hw15 => k1_hw15

def k1_chk16 (v235 : IVec S16 32) : Prop :=
  (∀ a x, ((![v235] : Fin 1 → IVec S16 32) a x).toNat < S16.size a)
theorem k1_idx16_inb : ∀ (v235 : IVec S16 32) (k1_hw16 : k1_chk16 v235), ∀ a x, ((![v235] : Fin 1 → IVec S16 32) a x).toNat < S16.size a := fun v235 k1_hw16 => k1_hw16

def k1_chk17 (v246 : IVec S16 32) : Prop :=
  (∀ a x, ((![v246] : Fin 1 → IVec S16 32) a x).toNat < S16.size a)
theorem k1_idx17_inb : ∀ (v246 : IVec S16 32) (k1_hw17 : k1_chk17 v246), ∀ a x, ((![v246] : Fin 1 → IVec S16 32) a x).toNat < S16.size a := fun v246 k1_hw17 => k1_hw17

def k1_chk18 (v257 : IVec S16 32) : Prop :=
  (∀ a x, ((![v257] : Fin 1 → IVec S16 32) a x).toNat < S16.size a)
theorem k1_idx18_inb : ∀ (v257 : IVec S16 32) (k1_hw18 : k1_chk18 v257), ∀ a x, ((![v257] : Fin 1 → IVec S16 32) a x).toNat < S16.size a := fun v257 k1_hw18 => k1_hw18

def k1_chk19 (v268 : IVec S16 32) : Prop :=
  (∀ a x, ((![v268] : Fin 1 → IVec S16 32) a x).toNat < S16.size a)
theorem k1_idx19_inb : ∀ (v268 : IVec S16 32) (k1_hw19 : k1_chk19 v268), ∀ a x, ((![v268] : Fin 1 → IVec S16 32) a x).toNat < S16.size a := fun v268 k1_hw19 => k1_hw19

def k1_chk20 (v279 : IVec S16 32) (v281 : IVec S16 32) : Prop :=
  (∀ a x, ((![v279, v281] : Fin 2 → IVec S16 32) a x).toNat < S11x16.size a)
theorem k1_idx20_inb : ∀ (v279 : IVec S16 32) (v281 : IVec S16 32) (k1_hw20 : k1_chk20 v279 v281), ∀ a x, ((![v279, v281] : Fin 2 → IVec S16 32) a x).toNat < S11x16.size a := fun v279 v281 k1_hw20 => k1_hw20

def k1_chk21 (v296 : IVec S16 32) : Prop :=
  (∀ a x, ((![v296] : Fin 1 → IVec S16 32) a x).toNat < S16.size a)
theorem k1_idx21_inb : ∀ (v296 : IVec S16 32) (k1_hw21 : k1_chk21 v296), ∀ a x, ((![v296] : Fin 1 → IVec S16 32) a x).toNat < S16.size a := fun v296 k1_hw21 => k1_hw21

def k1_chk22 (v307 : IVec S16 32) : Prop :=
  (∀ a x, ((![v307] : Fin 1 → IVec S16 32) a x).toNat < S16.size a)
theorem k1_idx22_inb : ∀ (v307 : IVec S16 32) (k1_hw22 : k1_chk22 v307), ∀ a x, ((![v307] : Fin 1 → IVec S16 32) a x).toNat < S16.size a := fun v307 k1_hw22 => k1_hw22

def k1_chk23 (v318 : IVec S16 32) : Prop :=
  (∀ a x, ((![v318] : Fin 1 → IVec S16 32) a x).toNat < S16.size a)
theorem k1_idx23_inb : ∀ (v318 : IVec S16 32) (k1_hw23 : k1_chk23 v318), ∀ a x, ((![v318] : Fin 1 → IVec S16 32) a x).toNat < S16.size a := fun v318 k1_hw23 => k1_hw23

def k1_chk24 (v329 : IVec S16 32) : Prop :=
  (∀ a x, ((![v329] : Fin 1 → IVec S16 32) a x).toNat < S16.size a)
theorem k1_idx24_inb : ∀ (v329 : IVec S16 32) (k1_hw24 : k1_chk24 v329), ∀ a x, ((![v329] : Fin 1 → IVec S16 32) a x).toNat < S16.size a := fun v329 k1_hw24 => k1_hw24

def k1_chk25 (v340 : IVec S16 32) (v342 : IVec S16 32) : Prop :=
  (∀ a x, ((![v340, v342] : Fin 2 → IVec S16 32) a x).toNat < S11x16.size a)
theorem k1_idx25_inb : ∀ (v340 : IVec S16 32) (v342 : IVec S16 32) (k1_hw25 : k1_chk25 v340 v342), ∀ a x, ((![v340, v342] : Fin 2 → IVec S16 32) a x).toNat < S11x16.size a := fun v340 v342 k1_hw25 => k1_hw25

def k1_chk26 (v357 : IVec S16 32) : Prop :=
  (∀ a x, ((![v357] : Fin 1 → IVec S16 32) a x).toNat < S16.size a)
theorem k1_idx26_inb : ∀ (v357 : IVec S16 32) (k1_hw26 : k1_chk26 v357), ∀ a x, ((![v357] : Fin 1 → IVec S16 32) a x).toNat < S16.size a := fun v357 k1_hw26 => k1_hw26

def k1_chk27 (v368 : IVec S16 32) : Prop :=
  (∀ a x, ((![v368] : Fin 1 → IVec S16 32) a x).toNat < S16.size a)
theorem k1_idx27_inb : ∀ (v368 : IVec S16 32) (k1_hw27 : k1_chk27 v368), ∀ a x, ((![v368] : Fin 1 → IVec S16 32) a x).toNat < S16.size a := fun v368 k1_hw27 => k1_hw27

def k1_chk28 (v379 : IVec S16 32) : Prop :=
  (∀ a x, ((![v379] : Fin 1 → IVec S16 32) a x).toNat < S16.size a)
theorem k1_idx28_inb : ∀ (v379 : IVec S16 32) (k1_hw28 : k1_chk28 v379), ∀ a x, ((![v379] : Fin 1 → IVec S16 32) a x).toNat < S16.size a := fun v379 k1_hw28 => k1_hw28

def k1_chk29 (v390 : IVec S16 32) : Prop :=
  (∀ a x, ((![v390] : Fin 1 → IVec S16 32) a x).toNat < S16.size a)
theorem k1_idx29_inb : ∀ (v390 : IVec S16 32) (k1_hw29 : k1_chk29 v390), ∀ a x, ((![v390] : Fin 1 → IVec S16 32) a x).toNat < S16.size a := fun v390 k1_hw29 => k1_hw29

def k1_chk30 (v401 : IVec S16 32) (v403 : IVec S16 32) : Prop :=
  (∀ a x, ((![v401, v403] : Fin 2 → IVec S16 32) a x).toNat < S11x16.size a)
theorem k1_idx30_inb : ∀ (v401 : IVec S16 32) (v403 : IVec S16 32) (k1_hw30 : k1_chk30 v401 v403), ∀ a x, ((![v401, v403] : Fin 2 → IVec S16 32) a x).toNat < S11x16.size a := fun v401 v403 k1_hw30 => k1_hw30

def k1_chk31 (v418 : IVec S16 32) : Prop :=
  (∀ a x, ((![v418] : Fin 1 → IVec S16 32) a x).toNat < S16.size a)
theorem k1_idx31_inb : ∀ (v418 : IVec S16 32) (k1_hw31 : k1_chk31 v418), ∀ a x, ((![v418] : Fin 1 → IVec S16 32) a x).toNat < S16.size a := fun v418 k1_hw31 => k1_hw31

def k1_chk32 (v429 : IVec S16 32) : Prop :=
  (∀ a x, ((![v429] : Fin 1 → IVec S16 32) a x).toNat < S16.size a)
theorem k1_idx32_inb : ∀ (v429 : IVec S16 32) (k1_hw32 : k1_chk32 v429), ∀ a x, ((![v429] : Fin 1 → IVec S16 32) a x).toNat < S16.size a := fun v429 k1_hw32 => k1_hw32

def k1_chk33 (v440 : IVec S16 32) : Prop :=
  (∀ a x, ((![v440] : Fin 1 → IVec S16 32) a x).toNat < S16.size a)
theorem k1_idx33_inb : ∀ (v440 : IVec S16 32) (k1_hw33 : k1_chk33 v440), ∀ a x, ((![v440] : Fin 1 → IVec S16 32) a x).toNat < S16.size a := fun v440 k1_hw33 => k1_hw33

def k1_chk34 (v451 : IVec S16 32) : Prop :=
  (∀ a x, ((![v451] : Fin 1 → IVec S16 32) a x).toNat < S16.size a)
theorem k1_idx34_inb : ∀ (v451 : IVec S16 32) (k1_hw34 : k1_chk34 v451), ∀ a x, ((![v451] : Fin 1 → IVec S16 32) a x).toNat < S16.size a := fun v451 k1_hw34 => k1_hw34

def k1_chk35 (v462 : IVec S16 32) (v464 : IVec S16 32) : Prop :=
  (∀ a x, ((![v462, v464] : Fin 2 → IVec S16 32) a x).toNat < S11x16.size a)
theorem k1_idx35_inb : ∀ (v462 : IVec S16 32) (v464 : IVec S16 32) (k1_hw35 : k1_chk35 v462 v464), ∀ a x, ((![v462, v464] : Fin 2 → IVec S16 32) a x).toNat < S11x16.size a := fun v462 v464 k1_hw35 => k1_hw35

def k1_chk36 (v479 : IVec S16 32) : Prop :=
  (∀ a x, ((![v479] : Fin 1 → IVec S16 32) a x).toNat < S16.size a)
theorem k1_idx36_inb : ∀ (v479 : IVec S16 32) (k1_hw36 : k1_chk36 v479), ∀ a x, ((![v479] : Fin 1 → IVec S16 32) a x).toNat < S16.size a := fun v479 k1_hw36 => k1_hw36

def k1_chk37 (v490 : IVec S16 32) : Prop :=
  (∀ a x, ((![v490] : Fin 1 → IVec S16 32) a x).toNat < S16.size a)
theorem k1_idx37_inb : ∀ (v490 : IVec S16 32) (k1_hw37 : k1_chk37 v490), ∀ a x, ((![v490] : Fin 1 → IVec S16 32) a x).toNat < S16.size a := fun v490 k1_hw37 => k1_hw37

def k1_chk38 (v501 : IVec S16 32) : Prop :=
  (∀ a x, ((![v501] : Fin 1 → IVec S16 32) a x).toNat < S16.size a)
theorem k1_idx38_inb : ∀ (v501 : IVec S16 32) (k1_hw38 : k1_chk38 v501), ∀ a x, ((![v501] : Fin 1 → IVec S16 32) a x).toNat < S16.size a := fun v501 k1_hw38 => k1_hw38

def k1_chk39 (v512 : IVec S16 32) : Prop :=
  (∀ a x, ((![v512] : Fin 1 → IVec S16 32) a x).toNat < S16.size a)
theorem k1_idx39_inb : ∀ (v512 : IVec S16 32) (k1_hw39 : k1_chk39 v512), ∀ a x, ((![v512] : Fin 1 → IVec S16 32) a x).toNat < S16.size a := fun v512 k1_hw39 => k1_hw39

def k1_chk40 (v523 : IVec S16 32) (v525 : IVec S16 32) : Prop :=
  (∀ a x, ((![v523, v525] : Fin 2 → IVec S16 32) a x).toNat < S11x16.size a)
theorem k1_idx40_inb : ∀ (v523 : IVec S16 32) (v525 : IVec S16 32) (k1_hw40 : k1_chk40 v523 v525), ∀ a x, ((![v523, v525] : Fin 2 → IVec S16 32) a x).toNat < S11x16.size a := fun v523 v525 k1_hw40 => k1_hw40

def k1_chk41 (v540 : IVec S16 32) : Prop :=
  (∀ a x, ((![v540] : Fin 1 → IVec S16 32) a x).toNat < S16.size a)
theorem k1_idx41_inb : ∀ (v540 : IVec S16 32) (k1_hw41 : k1_chk41 v540), ∀ a x, ((![v540] : Fin 1 → IVec S16 32) a x).toNat < S16.size a := fun v540 k1_hw41 => k1_hw41

def k1_chk42 (v551 : IVec S16 32) : Prop :=
  (∀ a x, ((![v551] : Fin 1 → IVec S16 32) a x).toNat < S16.size a)
theorem k1_idx42_inb : ∀ (v551 : IVec S16 32) (k1_hw42 : k1_chk42 v551), ∀ a x, ((![v551] : Fin 1 → IVec S16 32) a x).toNat < S16.size a := fun v551 k1_hw42 => k1_hw42

def k1_chk43 (v562 : IVec S16 32) : Prop :=
  (∀ a x, ((![v562] : Fin 1 → IVec S16 32) a x).toNat < S16.size a)
theorem k1_idx43_inb : ∀ (v562 : IVec S16 32) (k1_hw43 : k1_chk43 v562), ∀ a x, ((![v562] : Fin 1 → IVec S16 32) a x).toNat < S16.size a := fun v562 k1_hw43 => k1_hw43

def k1_chk44 (v573 : IVec S16 32) : Prop :=
  (∀ a x, ((![v573] : Fin 1 → IVec S16 32) a x).toNat < S16.size a)
theorem k1_idx44_inb : ∀ (v573 : IVec S16 32) (k1_hw44 : k1_chk44 v573), ∀ a x, ((![v573] : Fin 1 → IVec S16 32) a x).toNat < S16.size a := fun v573 k1_hw44 => k1_hw44

def k1_chk45 (v584 : IVec S16 32) (v586 : IVec S16 32) : Prop :=
  (∀ a x, ((![v584, v586] : Fin 2 → IVec S16 32) a x).toNat < S11x16.size a)
theorem k1_idx45_inb : ∀ (v584 : IVec S16 32) (v586 : IVec S16 32) (k1_hw45 : k1_chk45 v584 v586), ∀ a x, ((![v584, v586] : Fin 2 → IVec S16 32) a x).toNat < S11x16.size a := fun v584 v586 k1_hw45 => k1_hw45

def k1_chk46 (v601 : IVec S16 32) : Prop :=
  (∀ a x, ((![v601] : Fin 1 → IVec S16 32) a x).toNat < S16.size a)
theorem k1_idx46_inb : ∀ (v601 : IVec S16 32) (k1_hw46 : k1_chk46 v601), ∀ a x, ((![v601] : Fin 1 → IVec S16 32) a x).toNat < S16.size a := fun v601 k1_hw46 => k1_hw46

def k1_chk47 (v612 : IVec S16 32) : Prop :=
  (∀ a x, ((![v612] : Fin 1 → IVec S16 32) a x).toNat < S16.size a)
theorem k1_idx47_inb : ∀ (v612 : IVec S16 32) (k1_hw47 : k1_chk47 v612), ∀ a x, ((![v612] : Fin 1 → IVec S16 32) a x).toNat < S16.size a := fun v612 k1_hw47 => k1_hw47

def k1_chk48 (v623 : IVec S16 32) : Prop :=
  (∀ a x, ((![v623] : Fin 1 → IVec S16 32) a x).toNat < S16.size a)
theorem k1_idx48_inb : ∀ (v623 : IVec S16 32) (k1_hw48 : k1_chk48 v623), ∀ a x, ((![v623] : Fin 1 → IVec S16 32) a x).toNat < S16.size a := fun v623 k1_hw48 => k1_hw48

def k1_chk49 (v634 : IVec S16 32) : Prop :=
  (∀ a x, ((![v634] : Fin 1 → IVec S16 32) a x).toNat < S16.size a)
theorem k1_idx49_inb : ∀ (v634 : IVec S16 32) (k1_hw49 : k1_chk49 v634), ∀ a x, ((![v634] : Fin 1 → IVec S16 32) a x).toNat < S16.size a := fun v634 k1_hw49 => k1_hw49

def k1_chk50 (v645 : IVec S16 32) (v647 : IVec S16 32) : Prop :=
  (∀ a x, ((![v645, v647] : Fin 2 → IVec S16 32) a x).toNat < S11x16.size a)
theorem k1_idx50_inb : ∀ (v645 : IVec S16 32) (v647 : IVec S16 32) (k1_hw50 : k1_chk50 v645 v647), ∀ a x, ((![v645, v647] : Fin 2 → IVec S16 32) a x).toNat < S11x16.size a := fun v645 v647 k1_hw50 => k1_hw50

def k1_chk51 (v662 : IVec S16 32) : Prop :=
  (∀ a x, ((![v662] : Fin 1 → IVec S16 32) a x).toNat < S16.size a)
theorem k1_idx51_inb : ∀ (v662 : IVec S16 32) (k1_hw51 : k1_chk51 v662), ∀ a x, ((![v662] : Fin 1 → IVec S16 32) a x).toNat < S16.size a := fun v662 k1_hw51 => k1_hw51

def k1_chk52 (v673 : IVec S16 32) : Prop :=
  (∀ a x, ((![v673] : Fin 1 → IVec S16 32) a x).toNat < S16.size a)
theorem k1_idx52_inb : ∀ (v673 : IVec S16 32) (k1_hw52 : k1_chk52 v673), ∀ a x, ((![v673] : Fin 1 → IVec S16 32) a x).toNat < S16.size a := fun v673 k1_hw52 => k1_hw52

def k1_chk53 (v684 : IVec S16 32) : Prop :=
  (∀ a x, ((![v684] : Fin 1 → IVec S16 32) a x).toNat < S16.size a)
theorem k1_idx53_inb : ∀ (v684 : IVec S16 32) (k1_hw53 : k1_chk53 v684), ∀ a x, ((![v684] : Fin 1 → IVec S16 32) a x).toNat < S16.size a := fun v684 k1_hw53 => k1_hw53

def k1_chk54 (v695 : IVec S16 32) : Prop :=
  (∀ a x, ((![v695] : Fin 1 → IVec S16 32) a x).toNat < S16.size a)
theorem k1_idx54_inb : ∀ (v695 : IVec S16 32) (k1_hw54 : k1_chk54 v695), ∀ a x, ((![v695] : Fin 1 → IVec S16 32) a x).toNat < S16.size a := fun v695 k1_hw54 => k1_hw54

def k1_chk55 (v706 : IVec S16 32) (v708 : IVec S16 32) : Prop :=
  (∀ a x, ((![v706, v708] : Fin 2 → IVec S16 32) a x).toNat < S11x16.size a)
theorem k1_idx55_inb : ∀ (v706 : IVec S16 32) (v708 : IVec S16 32) (k1_hw55 : k1_chk55 v706 v708), ∀ a x, ((![v706, v708] : Fin 2 → IVec S16 32) a x).toNat < S11x16.size a := fun v706 v708 k1_hw55 => k1_hw55
def k1_off2 : Fin 2 → Nat :=
  let c0_i32_329 : BitVec 32 := 0#32
  let c0_i32_331 : BitVec 32 := 0#32
  let v783 : BitVec 1 := Scalar.cmpi .sgt c0_i32_329 c0_i32_331
  let v784 : BitVec 32 := Scalar.extui v783
  let c0_i32_332 : BitVec 32 := 0#32
  let v785 : BitVec 1 := Scalar.cmpi .slt c0_i32_329 c0_i32_332
  let v786 : BitVec 32 := Scalar.extui v785
  let v787 : BitVec 32 := Scalar.subi v784 v786
  let c4_i32_330 : BitVec 32 := 4#32
  let c0_i32_333 : BitVec 32 := 0#32
  let v788 : BitVec 1 := Scalar.cmpi .sgt c4_i32_330 c0_i32_333
  let v789 : BitVec 32 := Scalar.extui v788
  let c0_i32_334 : BitVec 32 := 0#32
  let v790 : BitVec 1 := Scalar.cmpi .slt c4_i32_330 c0_i32_334
  let v791 : BitVec 32 := Scalar.extui v790
  let v792 : BitVec 32 := Scalar.subi v789 v791
  let v793 : BitVec 1 := Scalar.cmpi .ne v787 v792
  let v794 : BitVec 32 := Scalar.remsi c0_i32_329 c4_i32_330
  let c0_i32_335 : BitVec 32 := 0#32
  let v795 : BitVec 1 := Scalar.cmpi .ne v794 c0_i32_335
  let v796 : BitVec 1 := Scalar.andi v793 v795
  let v782 : BitVec 32 := Scalar.divsi c0_i32_329 c4_i32_330
  let c1_i32_336 : BitVec 32 := 1#32
  let v797 : BitVec 32 := Scalar.subi v782 c1_i32_336
  let v798 : BitVec 32 := Scalar.select v796 v797 v782
  let v809 : Index := Scalar.indexCast v798
  let c0_344 : Index := 0#32
  ![v809.toNat, 0]
@[reducible] def k1_t1_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) : Scf.Loop 32 :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_323 : BitVec 32 := 1#32
  ⟨c0_i32_321, v758, c1_i32_323⟩

def k1_off3 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : Fin 2 → Nat :=
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c1_i32_354 : BitVec 32 := 1#32
  let v827 : BitVec 32 := Scalar.addi v783 c1_i32_354
  let c0_i32_356 : BitVec 32 := 0#32
  let v829 : BitVec 1 := Scalar.cmpi .sgt v827 c0_i32_356
  let v830 : BitVec 32 := Scalar.extui v829
  let c0_i32_357 : BitVec 32 := 0#32
  let v831 : BitVec 1 := Scalar.cmpi .slt v827 c0_i32_357
  let v832 : BitVec 32 := Scalar.extui v831
  let v833 : BitVec 32 := Scalar.subi v830 v832
  let c4_i32_355 : BitVec 32 := 4#32
  let c0_i32_358 : BitVec 32 := 0#32
  let v834 : BitVec 1 := Scalar.cmpi .sgt c4_i32_355 c0_i32_358
  let v835 : BitVec 32 := Scalar.extui v834
  let c0_i32_359 : BitVec 32 := 0#32
  let v836 : BitVec 1 := Scalar.cmpi .slt c4_i32_355 c0_i32_359
  let v837 : BitVec 32 := Scalar.extui v836
  let v838 : BitVec 32 := Scalar.subi v835 v837
  let v839 : BitVec 1 := Scalar.cmpi .ne v833 v838
  let v840 : BitVec 32 := Scalar.remsi v827 c4_i32_355
  let c0_i32_360 : BitVec 32 := 0#32
  let v841 : BitVec 1 := Scalar.cmpi .ne v840 c0_i32_360
  let v842 : BitVec 1 := Scalar.andi v839 v841
  let v828 : BitVec 32 := Scalar.divsi v827 c4_i32_355
  let c1_i32_361 : BitVec 32 := 1#32
  let v843 : BitVec 32 := Scalar.subi v828 c1_i32_361
  let v844 : BitVec 32 := Scalar.select v842 v843 v828
  let v855 : Index := Scalar.indexCast v844
  let c0_368 : Index := 0#32
  ![v855.toNat, 0]
def k1_cond2 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : BitVec 1 :=
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let v784 : BitVec 1 := Scalar.cmpi .slt v783 v716
  let v785 : BitVec 32 := Scalar.extui v784
  let c0_i32_331 : BitVec 32 := 0#32
  let v786 : BitVec 1 := Scalar.cmpi .ne v785 c0_i32_331
  v786

def k1_cond3 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : BitVec 1 :=
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c1_i32_335 : BitVec 32 := 1#32
  let v794 : BitVec 32 := Scalar.addi v783 c1_i32_335
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let v795 : BitVec 1 := Scalar.cmpi .slt v794 v716
  let v796 : BitVec 32 := Scalar.extui v795
  let c0_i32_336 : BitVec 32 := 0#32
  let v797 : BitVec 1 := Scalar.cmpi .ne v796 c0_i32_336
  v797

@[reducible] def k1_t2_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_352 : BitVec 32 := 1#32
  ⟨c0_i32_350, v824, c1_i32_352⟩
def k1_off4 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v828 : Index := Scalar.indexCast v827
  let c0_355 : Index := 0#32
  ![v828.toNat, 0]
def k1_off5 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v843 : Index := Scalar.indexCast v827
  let c16_361 : Index := 16#32
  ![v843.toNat, 16]
def k1_off6 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v858 : Index := Scalar.indexCast v827
  let c32_367 : Index := 32#32
  ![v858.toNat, 32]
def k1_off7 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v873 : Index := Scalar.indexCast v827
  let c48_373 : Index := 48#32
  ![v873.toNat, 48]
def k1_off8 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v888 : Index := Scalar.indexCast v827
  let c64_379 : Index := 64#32
  ![v888.toNat, 64]
def k1_off9 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v903 : Index := Scalar.indexCast v827
  let c80_385 : Index := 80#32
  ![v903.toNat, 80]
def k1_off10 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v918 : Index := Scalar.indexCast v827
  let c96_391 : Index := 96#32
  ![v918.toNat, 96]
def k1_off11 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t2 : Fin (k1_t2_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t2
  let v827 : BitVec 32 := Scalar.addi c0_i32_354 arg37
  let v933 : Index := Scalar.indexCast v827
  let c112_397 : Index := 112#32
  ![v933.toNat, 112]
@[reducible] def k1_t3_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let v821 : BitVec 32 := Scalar.addi c0_i32_350 v820
  let c1_i32_353 : BitVec 32 := 1#32
  ⟨v824, v821, c1_i32_353⟩
def k1_off12 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v828 : Index := Scalar.indexCast v827
  let c0_355 : Index := 0#32
  ![v828.toNat, 0]
def k1_off13 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v843 : Index := Scalar.indexCast v827
  let c16_361 : Index := 16#32
  ![v843.toNat, 16]
def k1_off14 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v858 : Index := Scalar.indexCast v827
  let c32_367 : Index := 32#32
  ![v858.toNat, 32]
def k1_off15 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v873 : Index := Scalar.indexCast v827
  let c48_373 : Index := 48#32
  ![v873.toNat, 48]
def k1_off16 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v888 : Index := Scalar.indexCast v827
  let c64_379 : Index := 64#32
  ![v888.toNat, 64]
def k1_off17 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v903 : Index := Scalar.indexCast v827
  let c80_385 : Index := 80#32
  ![v903.toNat, 80]
def k1_off18 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v918 : Index := Scalar.indexCast v827
  let c96_391 : Index := 96#32
  ![v918.toNat, 96]
def k1_off19 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t3 : Fin (k1_t3_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t3
  let v827 : BitVec 32 := Scalar.addi c0_i32_354 arg37
  let v933 : Index := Scalar.indexCast v827
  let c112_397 : Index := 112#32
  ![v933.toNat, 112]
def k1_off20 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : Fin 2 → Nat :=
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c1_i32_354 : BitVec 32 := 1#32
  let v827 : BitVec 32 := Scalar.addi v789 c1_i32_354
  let c0_i32_356 : BitVec 32 := 0#32
  let v829 : BitVec 1 := Scalar.cmpi .sgt v827 c0_i32_356
  let v830 : BitVec 32 := Scalar.extui v829
  let c0_i32_357 : BitVec 32 := 0#32
  let v831 : BitVec 1 := Scalar.cmpi .slt v827 c0_i32_357
  let v832 : BitVec 32 := Scalar.extui v831
  let v833 : BitVec 32 := Scalar.subi v830 v832
  let c4_i32_355 : BitVec 32 := 4#32
  let c0_i32_358 : BitVec 32 := 0#32
  let v834 : BitVec 1 := Scalar.cmpi .sgt c4_i32_355 c0_i32_358
  let v835 : BitVec 32 := Scalar.extui v834
  let c0_i32_359 : BitVec 32 := 0#32
  let v836 : BitVec 1 := Scalar.cmpi .slt c4_i32_355 c0_i32_359
  let v837 : BitVec 32 := Scalar.extui v836
  let v838 : BitVec 32 := Scalar.subi v835 v837
  let v839 : BitVec 1 := Scalar.cmpi .ne v833 v838
  let v840 : BitVec 32 := Scalar.remsi v827 c4_i32_355
  let c0_i32_360 : BitVec 32 := 0#32
  let v841 : BitVec 1 := Scalar.cmpi .ne v840 c0_i32_360
  let v842 : BitVec 1 := Scalar.andi v839 v841
  let v828 : BitVec 32 := Scalar.divsi v827 c4_i32_355
  let c1_i32_361 : BitVec 32 := 1#32
  let v843 : BitVec 32 := Scalar.subi v828 c1_i32_361
  let v844 : BitVec 32 := Scalar.select v842 v843 v828
  let v855 : Index := Scalar.indexCast v844
  let c0_368 : Index := 0#32
  ![v855.toNat, 0]
def k1_cond4 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : BitVec 1 :=
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let v790 : BitVec 1 := Scalar.cmpi .slt v789 v716
  let v791 : BitVec 32 := Scalar.extui v790
  let c0_i32_334 : BitVec 32 := 0#32
  let v792 : BitVec 1 := Scalar.cmpi .ne v791 c0_i32_334
  v792

def k1_cond5 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : BitVec 1 :=
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c1_i32_335 : BitVec 32 := 1#32
  let v794 : BitVec 32 := Scalar.addi v789 c1_i32_335
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let v795 : BitVec 1 := Scalar.cmpi .slt v794 v716
  let v796 : BitVec 32 := Scalar.extui v795
  let c0_i32_336 : BitVec 32 := 0#32
  let v797 : BitVec 1 := Scalar.cmpi .ne v796 c0_i32_336
  v797

@[reducible] def k1_t4_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_352 : BitVec 32 := 1#32
  ⟨c0_i32_350, v824, c1_i32_352⟩
def k1_off21 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v828 : Index := Scalar.indexCast v827
  let c0_355 : Index := 0#32
  ![v828.toNat, 0]
def k1_off22 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v843 : Index := Scalar.indexCast v827
  let c16_361 : Index := 16#32
  ![v843.toNat, 16]
def k1_off23 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v858 : Index := Scalar.indexCast v827
  let c32_367 : Index := 32#32
  ![v858.toNat, 32]
def k1_off24 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v873 : Index := Scalar.indexCast v827
  let c48_373 : Index := 48#32
  ![v873.toNat, 48]
def k1_off25 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v888 : Index := Scalar.indexCast v827
  let c64_379 : Index := 64#32
  ![v888.toNat, 64]
def k1_off26 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v903 : Index := Scalar.indexCast v827
  let c80_385 : Index := 80#32
  ![v903.toNat, 80]
def k1_off27 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v918 : Index := Scalar.indexCast v827
  let c96_391 : Index := 96#32
  ![v918.toNat, 96]
def k1_off28 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t4 : Fin (k1_t4_loop v102 v163 v224 v285 v346 v407 v468 v529 v590 v651 v712 k1_t1).trips) (c0_i32_354 : BitVec 32) : Fin 2 → Nat :=
  let c0_i32_350 : BitVec 32 := 0#32
  let c1_i32_352 : BitVec 32 := 1#32
  let arg37 : BitVec 32 := Scf.iv c0_i32_350 c1_i32_352 k1_t4
  let v827 : BitVec 32 := Scalar.addi c0_i32_354 arg37
  let v933 : Index := Scalar.indexCast v827
  let c112_397 : Index := 112#32
  ![v933.toNat, 112]
@[reducible] def k1_t5_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let v821 : BitVec 32 := Scalar.addi c0_i32_350 v820
  let c1_i32_353 : BitVec 32 := 1#32
  ⟨v824, v821, c1_i32_353⟩
def k1_off29 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v828 : Index := Scalar.indexCast v827
  let c0_355 : Index := 0#32
  ![v828.toNat, 0]
def k1_off30 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v843 : Index := Scalar.indexCast v827
  let c16_361 : Index := 16#32
  ![v843.toNat, 16]
def k1_off31 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v858 : Index := Scalar.indexCast v827
  let c32_367 : Index := 32#32
  ![v858.toNat, 32]
def k1_off32 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v873 : Index := Scalar.indexCast v827
  let c48_373 : Index := 48#32
  ![v873.toNat, 48]
def k1_off33 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v888 : Index := Scalar.indexCast v827
  let c64_379 : Index := 64#32
  ![v888.toNat, 64]
def k1_off34 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v903 : Index := Scalar.indexCast v827
  let c80_385 : Index := 80#32
  ![v903.toNat, 80]
def k1_off35 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v918 : Index := Scalar.indexCast v827
  let c96_391 : Index := 96#32
  ![v918.toNat, 96]
def k1_off36 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t1 : Fin (k1_t1_loop v102 v163 v224 v285 v346 v407 v468 v529 v590 v651 v712).trips) (k1_t5 : Fin (k1_t5_loop v102 v163 v224 v285 v346 v407 v468 v529 v590 v651 v712 k1_t1).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c1_i32_323 : BitVec 32 := 1#32
  let arg20 : BitVec 32 := Scf.iv c0_i32_321 c1_i32_323 k1_t1
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t5
  let v827 : BitVec 32 := Scalar.addi c0_i32_354 arg37
  let v933 : Index := Scalar.indexCast v827
  let c112_397 : Index := 112#32
  ![v933.toNat, 112]
@[reducible] def k1_t6_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) : Scf.Loop 32 :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let v755 : BitVec 32 := Scalar.addi c0_i32_321 v754
  let c1_i32_324 : BitVec 32 := 1#32
  ⟨v758, v755, c1_i32_324⟩
def k1_off37 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : Fin 2 → Nat :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c1_i32_354 : BitVec 32 := 1#32
  let v827 : BitVec 32 := Scalar.addi v783 c1_i32_354
  let c0_i32_356 : BitVec 32 := 0#32
  let v829 : BitVec 1 := Scalar.cmpi .sgt v827 c0_i32_356
  let v830 : BitVec 32 := Scalar.extui v829
  let c0_i32_357 : BitVec 32 := 0#32
  let v831 : BitVec 1 := Scalar.cmpi .slt v827 c0_i32_357
  let v832 : BitVec 32 := Scalar.extui v831
  let v833 : BitVec 32 := Scalar.subi v830 v832
  let c4_i32_355 : BitVec 32 := 4#32
  let c0_i32_358 : BitVec 32 := 0#32
  let v834 : BitVec 1 := Scalar.cmpi .sgt c4_i32_355 c0_i32_358
  let v835 : BitVec 32 := Scalar.extui v834
  let c0_i32_359 : BitVec 32 := 0#32
  let v836 : BitVec 1 := Scalar.cmpi .slt c4_i32_355 c0_i32_359
  let v837 : BitVec 32 := Scalar.extui v836
  let v838 : BitVec 32 := Scalar.subi v835 v837
  let v839 : BitVec 1 := Scalar.cmpi .ne v833 v838
  let v840 : BitVec 32 := Scalar.remsi v827 c4_i32_355
  let c0_i32_360 : BitVec 32 := 0#32
  let v841 : BitVec 1 := Scalar.cmpi .ne v840 c0_i32_360
  let v842 : BitVec 1 := Scalar.andi v839 v841
  let v828 : BitVec 32 := Scalar.divsi v827 c4_i32_355
  let c1_i32_361 : BitVec 32 := 1#32
  let v843 : BitVec 32 := Scalar.subi v828 c1_i32_361
  let v844 : BitVec 32 := Scalar.select v842 v843 v828
  let v855 : Index := Scalar.indexCast v844
  let c0_368 : Index := 0#32
  ![v855.toNat, 0]
def k1_cond6 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : BitVec 1 :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let v784 : BitVec 1 := Scalar.cmpi .slt v783 v716
  let v785 : BitVec 32 := Scalar.extui v784
  let c0_i32_331 : BitVec 32 := 0#32
  let v786 : BitVec 1 := Scalar.cmpi .ne v785 c0_i32_331
  v786

def k1_cond7 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : BitVec 1 :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c1_i32_335 : BitVec 32 := 1#32
  let v794 : BitVec 32 := Scalar.addi v783 c1_i32_335
  let v795 : BitVec 1 := Scalar.cmpi .slt v794 v716
  let v796 : BitVec 32 := Scalar.extui v795
  let c0_i32_336 : BitVec 32 := 0#32
  let v797 : BitVec 1 := Scalar.cmpi .ne v796 c0_i32_336
  v797

@[reducible] def k1_t7_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_352 : BitVec 32 := 1#32
  ⟨c0_i32_350, v824, c1_i32_352⟩
def k1_off38 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v828 : Index := Scalar.indexCast v827
  let c0_355 : Index := 0#32
  ![v828.toNat, 0]
def k1_off39 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v843 : Index := Scalar.indexCast v827
  let c16_361 : Index := 16#32
  ![v843.toNat, 16]
def k1_off40 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v858 : Index := Scalar.indexCast v827
  let c32_367 : Index := 32#32
  ![v858.toNat, 32]
def k1_off41 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v873 : Index := Scalar.indexCast v827
  let c48_373 : Index := 48#32
  ![v873.toNat, 48]
def k1_off42 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v888 : Index := Scalar.indexCast v827
  let c64_379 : Index := 64#32
  ![v888.toNat, 64]
def k1_off43 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v903 : Index := Scalar.indexCast v827
  let c80_385 : Index := 80#32
  ![v903.toNat, 80]
def k1_off44 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v918 : Index := Scalar.indexCast v827
  let c96_391 : Index := 96#32
  ![v918.toNat, 96]
def k1_off45 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t7 : Fin (k1_t7_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t7
  let v827 : BitVec 32 := Scalar.addi c0_i32_354 arg37
  let v933 : Index := Scalar.indexCast v827
  let c112_397 : Index := 112#32
  ![v933.toNat, 112]
@[reducible] def k1_t8_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let v821 : BitVec 32 := Scalar.addi c0_i32_350 v820
  let c1_i32_353 : BitVec 32 := 1#32
  ⟨v824, v821, c1_i32_353⟩
def k1_off46 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v828 : Index := Scalar.indexCast v827
  let c0_355 : Index := 0#32
  ![v828.toNat, 0]
def k1_off47 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v843 : Index := Scalar.indexCast v827
  let c16_361 : Index := 16#32
  ![v843.toNat, 16]
def k1_off48 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v858 : Index := Scalar.indexCast v827
  let c32_367 : Index := 32#32
  ![v858.toNat, 32]
def k1_off49 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v873 : Index := Scalar.indexCast v827
  let c48_373 : Index := 48#32
  ![v873.toNat, 48]
def k1_off50 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v888 : Index := Scalar.indexCast v827
  let c64_379 : Index := 64#32
  ![v888.toNat, 64]
def k1_off51 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v903 : Index := Scalar.indexCast v827
  let c80_385 : Index := 80#32
  ![v903.toNat, 80]
def k1_off52 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v918 : Index := Scalar.indexCast v827
  let c96_391 : Index := 96#32
  ![v918.toNat, 96]
def k1_off53 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t8 : Fin (k1_t8_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_329 : BitVec 32 := 2#32
  let v782 : BitVec 32 := Scalar.muli arg20 c2_i32_329
  let c0_i32_330 : BitVec 32 := 0#32
  let v783 : BitVec 32 := Scalar.addi v782 c0_i32_330
  let c0_i32_342 : BitVec 32 := 0#32
  let v801 : BitVec 1 := Scalar.cmpi .sgt v783 c0_i32_342
  let v802 : BitVec 32 := Scalar.extui v801
  let c0_i32_343 : BitVec 32 := 0#32
  let v803 : BitVec 1 := Scalar.cmpi .slt v783 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v783 c4_i32_341
  let c0_i32_346 : BitVec 32 := 0#32
  let v813 : BitVec 1 := Scalar.cmpi .ne v812 c0_i32_346
  let v814 : BitVec 1 := Scalar.andi v811 v813
  let v800 : BitVec 32 := Scalar.divsi v783 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t8
  let v827 : BitVec 32 := Scalar.addi c0_i32_354 arg37
  let v933 : Index := Scalar.indexCast v827
  let c112_397 : Index := 112#32
  ![v933.toNat, 112]
def k1_off54 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : Fin 2 → Nat :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c1_i32_354 : BitVec 32 := 1#32
  let v827 : BitVec 32 := Scalar.addi v789 c1_i32_354
  let c0_i32_356 : BitVec 32 := 0#32
  let v829 : BitVec 1 := Scalar.cmpi .sgt v827 c0_i32_356
  let v830 : BitVec 32 := Scalar.extui v829
  let c0_i32_357 : BitVec 32 := 0#32
  let v831 : BitVec 1 := Scalar.cmpi .slt v827 c0_i32_357
  let v832 : BitVec 32 := Scalar.extui v831
  let v833 : BitVec 32 := Scalar.subi v830 v832
  let c4_i32_355 : BitVec 32 := 4#32
  let c0_i32_358 : BitVec 32 := 0#32
  let v834 : BitVec 1 := Scalar.cmpi .sgt c4_i32_355 c0_i32_358
  let v835 : BitVec 32 := Scalar.extui v834
  let c0_i32_359 : BitVec 32 := 0#32
  let v836 : BitVec 1 := Scalar.cmpi .slt c4_i32_355 c0_i32_359
  let v837 : BitVec 32 := Scalar.extui v836
  let v838 : BitVec 32 := Scalar.subi v835 v837
  let v839 : BitVec 1 := Scalar.cmpi .ne v833 v838
  let v840 : BitVec 32 := Scalar.remsi v827 c4_i32_355
  let c0_i32_360 : BitVec 32 := 0#32
  let v841 : BitVec 1 := Scalar.cmpi .ne v840 c0_i32_360
  let v842 : BitVec 1 := Scalar.andi v839 v841
  let v828 : BitVec 32 := Scalar.divsi v827 c4_i32_355
  let c1_i32_361 : BitVec 32 := 1#32
  let v843 : BitVec 32 := Scalar.subi v828 c1_i32_361
  let v844 : BitVec 32 := Scalar.select v842 v843 v828
  let v855 : Index := Scalar.indexCast v844
  let c0_368 : Index := 0#32
  ![v855.toNat, 0]
def k1_cond8 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : BitVec 1 :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let v790 : BitVec 1 := Scalar.cmpi .slt v789 v716
  let v791 : BitVec 32 := Scalar.extui v790
  let c0_i32_334 : BitVec 32 := 0#32
  let v792 : BitVec 1 := Scalar.cmpi .ne v791 c0_i32_334
  v792

def k1_cond9 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : BitVec 1 :=
  let c0_i32_321 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c1_i32_335 : BitVec 32 := 1#32
  let v794 : BitVec 32 := Scalar.addi v789 c1_i32_335
  let v795 : BitVec 1 := Scalar.cmpi .slt v794 v716
  let v796 : BitVec 32 := Scalar.extui v795
  let c0_i32_336 : BitVec 32 := 0#32
  let v797 : BitVec 1 := Scalar.cmpi .ne v796 c0_i32_336
  v797

@[reducible] def k1_t9_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_352 : BitVec 32 := 1#32
  ⟨c0_i32_350, v824, c1_i32_352⟩
def k1_off55 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v828 : Index := Scalar.indexCast v827
  let c0_355 : Index := 0#32
  ![v828.toNat, 0]
def k1_off56 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v843 : Index := Scalar.indexCast v827
  let c16_361 : Index := 16#32
  ![v843.toNat, 16]
def k1_off57 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v858 : Index := Scalar.indexCast v827
  let c32_367 : Index := 32#32
  ![v858.toNat, 32]
def k1_off58 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v873 : Index := Scalar.indexCast v827
  let c48_373 : Index := 48#32
  ![v873.toNat, 48]
def k1_off59 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v888 : Index := Scalar.indexCast v827
  let c64_379 : Index := 64#32
  ![v888.toNat, 64]
def k1_off60 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v903 : Index := Scalar.indexCast v827
  let c80_385 : Index := 80#32
  ![v903.toNat, 80]
def k1_off61 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v918 : Index := Scalar.indexCast v827
  let c96_391 : Index := 96#32
  ![v918.toNat, 96]
def k1_off62 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t9 : Fin (k1_t9_loop v102 v163 v224 v285 v346 v407 v468 v529 v590 v651 v712 k1_t6).trips) (c0_i32_354 : BitVec 32) : Fin 2 → Nat :=
  let c0_i32_350 : BitVec 32 := 0#32
  let c1_i32_352 : BitVec 32 := 1#32
  let arg37 : BitVec 32 := Scf.iv c0_i32_350 c1_i32_352 k1_t9
  let v827 : BitVec 32 := Scalar.addi c0_i32_354 arg37
  let v933 : Index := Scalar.indexCast v827
  let c112_397 : Index := 112#32
  ![v933.toNat, 112]
@[reducible] def k1_t10_loop (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) : Scf.Loop 32 :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let v821 : BitVec 32 := Scalar.addi c0_i32_350 v820
  let c1_i32_353 : BitVec 32 := 1#32
  ⟨v824, v821, c1_i32_353⟩
def k1_off63 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v828 : Index := Scalar.indexCast v827
  let c0_355 : Index := 0#32
  ![v828.toNat, 0]
def k1_off64 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v843 : Index := Scalar.indexCast v827
  let c16_361 : Index := 16#32
  ![v843.toNat, 16]
def k1_off65 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v858 : Index := Scalar.indexCast v827
  let c32_367 : Index := 32#32
  ![v858.toNat, 32]
def k1_off66 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v873 : Index := Scalar.indexCast v827
  let c48_373 : Index := 48#32
  ![v873.toNat, 48]
def k1_off67 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v888 : Index := Scalar.indexCast v827
  let c64_379 : Index := 64#32
  ![v888.toNat, 64]
def k1_off68 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v903 : Index := Scalar.indexCast v827
  let c80_385 : Index := 80#32
  ![v903.toNat, 80]
def k1_off69 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v918 : Index := Scalar.indexCast v827
  let c96_391 : Index := 96#32
  ![v918.toNat, 96]
def k1_off70 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_t6 : Fin (k1_t6_loop v102 v163 v224 v285 v346 v407 v468 v529 v590 v651 v712).trips) (k1_t10 : Fin (k1_t10_loop v102 v163 v224 v285 v346 v407 v468 v529 v590 v651 v712 k1_t6).trips) (c0_i32_354 : BitVec 32) : Fin 2 → Nat :=
  let c0_i32_350 : BitVec 32 := 0#32
  let c0_i32_46 : BitVec 32 := 0#32
  let v103 : BitVec 32 := Scalar.addi c0_i32_46 v102
  let v164 : BitVec 32 := Scalar.addi v103 v163
  let v225 : BitVec 32 := Scalar.addi v164 v224
  let v286 : BitVec 32 := Scalar.addi v225 v285
  let v347 : BitVec 32 := Scalar.addi v286 v346
  let v408 : BitVec 32 := Scalar.addi v347 v407
  let v469 : BitVec 32 := Scalar.addi v408 v468
  let v530 : BitVec 32 := Scalar.addi v469 v529
  let v591 : BitVec 32 := Scalar.addi v530 v590
  let v652 : BitVec 32 := Scalar.addi v591 v651
  let v713 : BitVec 32 := Scalar.addi v652 v712
  let c0_i32_321 : BitVec 32 := 0#32
  let c15_i32_294 : BitVec 32 := 15#32
  let v714 : BitVec 32 := Scalar.addi v713 c15_i32_294
  let c4_i32_295 : BitVec 32 := 4#32
  let v715 : BitVec 32 := Scalar.shrsi v714 c4_i32_295
  let c4_i32_296 : BitVec 32 := 4#32
  let v716 : BitVec 32 := Scalar.muli v715 c4_i32_296
  let c1_i32_299 : BitVec 32 := 1#32
  let v720 : BitVec 32 := Scalar.addi v716 c1_i32_299
  let c0_i32_301 : BitVec 32 := 0#32
  let v722 : BitVec 1 := Scalar.cmpi .sgt v720 c0_i32_301
  let v723 : BitVec 32 := Scalar.extui v722
  let c0_i32_302 : BitVec 32 := 0#32
  let v724 : BitVec 1 := Scalar.cmpi .slt v720 c0_i32_302
  let v725 : BitVec 32 := Scalar.extui v724
  let v726 : BitVec 32 := Scalar.subi v723 v725
  let c2_i32_300 : BitVec 32 := 2#32
  let c0_i32_303 : BitVec 32 := 0#32
  let v727 : BitVec 1 := Scalar.cmpi .sgt c2_i32_300 c0_i32_303
  let v728 : BitVec 32 := Scalar.extui v727
  let c0_i32_304 : BitVec 32 := 0#32
  let v729 : BitVec 1 := Scalar.cmpi .slt c2_i32_300 c0_i32_304
  let v730 : BitVec 32 := Scalar.extui v729
  let v731 : BitVec 32 := Scalar.subi v728 v730
  let v732 : BitVec 1 := Scalar.cmpi .ne v726 v731
  let v733 : BitVec 32 := Scalar.remsi v720 c2_i32_300
  let c0_i32_305 : BitVec 32 := 0#32
  let v734 : BitVec 1 := Scalar.cmpi .ne v733 c0_i32_305
  let v735 : BitVec 1 := Scalar.andi v732 v734
  let v721 : BitVec 32 := Scalar.divsi v720 c2_i32_300
  let c1_i32_306 : BitVec 32 := 1#32
  let v736 : BitVec 32 := Scalar.subi v721 c1_i32_306
  let v737 : BitVec 32 := Scalar.select v735 v736 v721
  let v754 : BitVec 32 := Scalar.subi v737 c0_i32_321
  let c1_i32_322 : BitVec 32 := 1#32
  let v756 : BitVec 32 := Scalar.divsi v754 c1_i32_322
  let v757 : BitVec 32 := Scalar.muli v756 c1_i32_322
  let v758 : BitVec 32 := Scalar.addi c0_i32_321 v757
  let c1_i32_324 : BitVec 32 := 1#32
  let arg20 : BitVec 32 := Scf.iv v758 c1_i32_324 k1_t6
  let c2_i32_332 : BitVec 32 := 2#32
  let v788 : BitVec 32 := Scalar.muli arg20 c2_i32_332
  let c1_i32_333 : BitVec 32 := 1#32
  let v789 : BitVec 32 := Scalar.addi v788 c1_i32_333
  let c0_i32_342 : BitVec 32 := 0#32
  let v801 : BitVec 1 := Scalar.cmpi .sgt v789 c0_i32_342
  let v802 : BitVec 32 := Scalar.extui v801
  let c0_i32_343 : BitVec 32 := 0#32
  let v803 : BitVec 1 := Scalar.cmpi .slt v789 c0_i32_343
  let v804 : BitVec 32 := Scalar.extui v803
  let v805 : BitVec 32 := Scalar.subi v802 v804
  let c4_i32_341 : BitVec 32 := 4#32
  let c0_i32_344 : BitVec 32 := 0#32
  let v806 : BitVec 1 := Scalar.cmpi .sgt c4_i32_341 c0_i32_344
  let v807 : BitVec 32 := Scalar.extui v806
  let c0_i32_345 : BitVec 32 := 0#32
  let v808 : BitVec 1 := Scalar.cmpi .slt c4_i32_341 c0_i32_345
  let v809 : BitVec 32 := Scalar.extui v808
  let v810 : BitVec 32 := Scalar.subi v807 v809
  let v811 : BitVec 1 := Scalar.cmpi .ne v805 v810
  let v812 : BitVec 32 := Scalar.remsi v789 c4_i32_341
  let c0_i32_346 : BitVec 32 := 0#32
  let v813 : BitVec 1 := Scalar.cmpi .ne v812 c0_i32_346
  let v814 : BitVec 1 := Scalar.andi v811 v813
  let v800 : BitVec 32 := Scalar.divsi v789 c4_i32_341
  let c1_i32_347 : BitVec 32 := 1#32
  let v815 : BitVec 32 := Scalar.subi v800 c1_i32_347
  let v816 : BitVec 32 := Scalar.select v814 v815 v800
  let c16_i32_348 : BitVec 32 := 16#32
  let v817 : BitVec 32 := Scalar.muli v816 c16_i32_348
  let v818 : BitVec 32 := Scalar.subi v713 v817
  let c16_i32_349 : BitVec 32 := 16#32
  let v819 : BitVec 32 := Scalar.minsi v818 c16_i32_349
  let v820 : BitVec 32 := Scalar.subi v819 c0_i32_350
  let c1_i32_351 : BitVec 32 := 1#32
  let v822 : BitVec 32 := Scalar.divsi v820 c1_i32_351
  let v823 : BitVec 32 := Scalar.muli v822 c1_i32_351
  let v824 : BitVec 32 := Scalar.addi c0_i32_350 v823
  let c1_i32_353 : BitVec 32 := 1#32
  let arg37 : BitVec 32 := Scf.iv v824 c1_i32_353 k1_t10
  let v827 : BitVec 32 := Scalar.addi c0_i32_354 arg37
  let v933 : Index := Scalar.indexCast v827
  let c112_397 : Index := 112#32
  ![v933.toNat, 112]

def k1_chk56_0 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) : Prop :=
  ((k1_t1_loop v102 v163 v224 v285 v346 v407 v468 v529 v590 v651 v712).OK) ∧
  (∀ k1_t1 : Fin (k1_t1_loop v102 v163 v224 v285 v346 v407 v468 v529 v590 v651 v712).trips, ∀ (k1_h2 : k1_cond2 v102 v163 v224 v285 v346 v407 v468 v529 v590 v651 v712 k1_t1 = 1#1), ∀ (k1_h3 : k1_cond3 v102 v163 v224 v285 v346 v407 v468 v529 v590 v651 v712 k1_t1 = 1#1), ∀ a, (k1_off3 v102 v163 v224 v285 v346 v407 v468 v529 v590 v651 v712 k1_t1) a + S1x16.size a ≤ S11x16.size a) ∧
  (∀ k1_t1 : Fin (k1_t1_loop v102 v163 v224 v285 v346 v407 v468 v529 v590 v651 v712).trips, ∀ (k1_h2 : k1_cond2 v102 v163 v224 v285 v346 v407 v468 v529 v590 v651 v712 k1_t1 = 1#1), (k1_t2_loop v102 v163 v224 v285 v346 v407 v468 v529 v590 v651 v712 k1_t1).OK) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off4 v102 v163 v224 v285 v346 v407 v468 v529 v590 v651 v712 k1_t1 k1_t2 (BitVec.ofNat 32 (16 * r.val))) a + S1x16.size a ≤ S128x128.size a) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off5 v102 v163 v224 v285 v346 v407 v468 v529 v590 v651 v712 k1_t1 k1_t2 (BitVec.ofNat 32 (16 * r.val))) a + S1x16.size a ≤ S128x128.size a) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off6 v102 v163 v224 v285 v346 v407 v468 v529 v590 v651 v712 k1_t1 k1_t2 (BitVec.ofNat 32 (16 * r.val))) a + S1x16.size a ≤ S128x128.size a) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off7 v102 v163 v224 v285 v346 v407 v468 v529 v590 v651 v712 k1_t1 k1_t2 (BitVec.ofNat 32 (16 * r.val))) a + S1x16.size a ≤ S128x128.size a) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off8 v102 v163 v224 v285 v346 v407 v468 v529 v590 v651 v712 k1_t1 k1_t2 (BitVec.ofNat 32 (16 * r.val))) a + S1x16.size a ≤ S128x128.size a) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off9 v102 v163 v224 v285 v346 v407 v468 v529 v590 v651 v712 k1_t1 k1_t2 (BitVec.ofNat 32 (16 * r.val))) a + S1x16.size a ≤ S128x128.size a) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off10 v102 v163 v224 v285 v346 v407 v468 v529 v590 v651 v712 k1_t1 k1_t2 (BitVec.ofNat 32 (16 * r.val))) a + S1x16.size a ≤ S128x128.size a) ∧
  (∀ (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off11 v102 v163 v224 v285 v346 v407 v468 v529 v590 v651 v712 k1_t1 k1_t2 (BitVec.ofNat 32 (16 * r.val))) a + S1x16.size a ≤ S128x128.size a) ∧
  (∀ k1_t1 : Fin (k1_t1_loop v102 v163 v224 v285 v346 v407 v468 v529 v590 v651 v712).trips, ∀ (k1_h2 : k1_cond2 v102 v163 v224 v285 v346 v407 v468 v529 v590 v651 v712 k1_t1 = 1#1), (k1_t3_loop v102 v163 v224 v285 v346 v407 v468 v529 v590 v651 v712 k1_t1).OK) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off12 v102 v163 v224 v285 v346 v407 v468 v529 v590 v651 v712 k1_t1 k1_t3 (BitVec.ofNat 32 (16 * r.val))) a + S1x16.size a ≤ S128x128.size a) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off13 v102 v163 v224 v285 v346 v407 v468 v529 v590 v651 v712 k1_t1 k1_t3 (BitVec.ofNat 32 (16 * r.val))) a + S1x16.size a ≤ S128x128.size a) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off14 v102 v163 v224 v285 v346 v407 v468 v529 v590 v651 v712 k1_t1 k1_t3 (BitVec.ofNat 32 (16 * r.val))) a + S1x16.size a ≤ S128x128.size a) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off15 v102 v163 v224 v285 v346 v407 v468 v529 v590 v651 v712 k1_t1 k1_t3 (BitVec.ofNat 32 (16 * r.val))) a + S1x16.size a ≤ S128x128.size a) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off16 v102 v163 v224 v285 v346 v407 v468 v529 v590 v651 v712 k1_t1 k1_t3 (BitVec.ofNat 32 (16 * r.val))) a + S1x16.size a ≤ S128x128.size a) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off17 v102 v163 v224 v285 v346 v407 v468 v529 v590 v651 v712 k1_t1 k1_t3 (BitVec.ofNat 32 (16 * r.val))) a + S1x16.size a ≤ S128x128.size a) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off18 v102 v163 v224 v285 v346 v407 v468 v529 v590 v651 v712 k1_t1 k1_t3 (BitVec.ofNat 32 (16 * r.val))) a + S1x16.size a ≤ S128x128.size a) ∧
  (∀ (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off19 v102 v163 v224 v285 v346 v407 v468 v529 v590 v651 v712 k1_t1 k1_t3 (BitVec.ofNat 32 (16 * r.val))) a + S1x16.size a ≤ S128x128.size a) ∧
  (∀ k1_t1 : Fin (k1_t1_loop v102 v163 v224 v285 v346 v407 v468 v529 v590 v651 v712).trips, ∀ (k1_h4 : k1_cond4 v102 v163 v224 v285 v346 v407 v468 v529 v590 v651 v712 k1_t1 = 1#1), ∀ (k1_h5 : k1_cond5 v102 v163 v224 v285 v346 v407 v468 v529 v590 v651 v712 k1_t1 = 1#1), ∀ a, (k1_off20 v102 v163 v224 v285 v346 v407 v468 v529 v590 v651 v712 k1_t1) a + S1x16.size a ≤ S11x16.size a) ∧
  (∀ k1_t1 : Fin (k1_t1_loop v102 v163 v224 v285 v346 v407 v468 v529 v590 v651 v712).trips, ∀ (k1_h4 : k1_cond4 v102 v163 v224 v285 v346 v407 v468 v529 v590 v651 v712 k1_t1 = 1#1), (k1_t4_loop v102 v163 v224 v285 v346 v407 v468 v529 v590 v651 v712 k1_t1).OK) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off21 v102 v163 v224 v285 v346 v407 v468 v529 v590 v651 v712 k1_t1 k1_t4 (BitVec.ofNat 32 (16 * r.val))) a + S1x16.size a ≤ S128x128.size a) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off22 v102 v163 v224 v285 v346 v407 v468 v529 v590 v651 v712 k1_t1 k1_t4 (BitVec.ofNat 32 (16 * r.val))) a + S1x16.size a ≤ S128x128.size a) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off23 v102 v163 v224 v285 v346 v407 v468 v529 v590 v651 v712 k1_t1 k1_t4 (BitVec.ofNat 32 (16 * r.val))) a + S1x16.size a ≤ S128x128.size a) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off24 v102 v163 v224 v285 v346 v407 v468 v529 v590 v651 v712 k1_t1 k1_t4 (BitVec.ofNat 32 (16 * r.val))) a + S1x16.size a ≤ S128x128.size a) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off25 v102 v163 v224 v285 v346 v407 v468 v529 v590 v651 v712 k1_t1 k1_t4 (BitVec.ofNat 32 (16 * r.val))) a + S1x16.size a ≤ S128x128.size a) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off26 v102 v163 v224 v285 v346 v407 v468 v529 v590 v651 v712 k1_t1 k1_t4 (BitVec.ofNat 32 (16 * r.val))) a + S1x16.size a ≤ S128x128.size a) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off27 v102 v163 v224 v285 v346 v407 v468 v529 v590 v651 v712 k1_t1 k1_t4 (BitVec.ofNat 32 (16 * r.val))) a + S1x16.size a ≤ S128x128.size a) ∧
  (∀ (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off28 v102 v163 v224 v285 v346 v407 v468 v529 v590 v651 v712 k1_t1 k1_t4 (BitVec.ofNat 32 (16 * r.val))) a + S1x16.size a ≤ S128x128.size a) ∧
  (∀ k1_t1 : Fin (k1_t1_loop v102 v163 v224 v285 v346 v407 v468 v529 v590 v651 v712).trips, ∀ (k1_h4 : k1_cond4 v102 v163 v224 v285 v346 v407 v468 v529 v590 v651 v712 k1_t1 = 1#1), (k1_t5_loop v102 v163 v224 v285 v346 v407 v468 v529 v590 v651 v712 k1_t1).OK) ∧
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off29 v102 v163 v224 v285 v346 v407 v468 v529 v590 v651 v712 k1_t1 k1_t5 (BitVec.ofNat 32 (16 * r.val))) a + S1x16.size a ≤ S128x128.size a)
def k1_chk56_1 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) : Prop :=
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off30 v102 v163 v224 v285 v346 v407 v468 v529 v590 v651 v712 k1_t1 k1_t5 (BitVec.ofNat 32 (16 * r.val))) a + S1x16.size a ≤ S128x128.size a) ∧
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off31 v102 v163 v224 v285 v346 v407 v468 v529 v590 v651 v712 k1_t1 k1_t5 (BitVec.ofNat 32 (16 * r.val))) a + S1x16.size a ≤ S128x128.size a) ∧
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off32 v102 v163 v224 v285 v346 v407 v468 v529 v590 v651 v712 k1_t1 k1_t5 (BitVec.ofNat 32 (16 * r.val))) a + S1x16.size a ≤ S128x128.size a) ∧
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off33 v102 v163 v224 v285 v346 v407 v468 v529 v590 v651 v712 k1_t1 k1_t5 (BitVec.ofNat 32 (16 * r.val))) a + S1x16.size a ≤ S128x128.size a) ∧
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off34 v102 v163 v224 v285 v346 v407 v468 v529 v590 v651 v712 k1_t1 k1_t5 (BitVec.ofNat 32 (16 * r.val))) a + S1x16.size a ≤ S128x128.size a) ∧
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off35 v102 v163 v224 v285 v346 v407 v468 v529 v590 v651 v712 k1_t1 k1_t5 (BitVec.ofNat 32 (16 * r.val))) a + S1x16.size a ≤ S128x128.size a) ∧
  (∀ (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off36 v102 v163 v224 v285 v346 v407 v468 v529 v590 v651 v712 k1_t1 k1_t5 (BitVec.ofNat 32 (16 * r.val))) a + S1x16.size a ≤ S128x128.size a) ∧
  ((k1_t6_loop v102 v163 v224 v285 v346 v407 v468 v529 v590 v651 v712).OK) ∧
  (∀ k1_t6 : Fin (k1_t6_loop v102 v163 v224 v285 v346 v407 v468 v529 v590 v651 v712).trips, ∀ (k1_h6 : k1_cond6 v102 v163 v224 v285 v346 v407 v468 v529 v590 v651 v712 k1_t6 = 1#1), ∀ (k1_h7 : k1_cond7 v102 v163 v224 v285 v346 v407 v468 v529 v590 v651 v712 k1_t6 = 1#1), ∀ a, (k1_off37 v102 v163 v224 v285 v346 v407 v468 v529 v590 v651 v712 k1_t6) a + S1x16.size a ≤ S11x16.size a) ∧
  (∀ k1_t6 : Fin (k1_t6_loop v102 v163 v224 v285 v346 v407 v468 v529 v590 v651 v712).trips, ∀ (k1_h6 : k1_cond6 v102 v163 v224 v285 v346 v407 v468 v529 v590 v651 v712 k1_t6 = 1#1), (k1_t7_loop v102 v163 v224 v285 v346 v407 v468 v529 v590 v651 v712 k1_t6).OK) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off38 v102 v163 v224 v285 v346 v407 v468 v529 v590 v651 v712 k1_t6 k1_t7 (BitVec.ofNat 32 (16 * r.val))) a + S1x16.size a ≤ S128x128.size a) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off39 v102 v163 v224 v285 v346 v407 v468 v529 v590 v651 v712 k1_t6 k1_t7 (BitVec.ofNat 32 (16 * r.val))) a + S1x16.size a ≤ S128x128.size a) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off40 v102 v163 v224 v285 v346 v407 v468 v529 v590 v651 v712 k1_t6 k1_t7 (BitVec.ofNat 32 (16 * r.val))) a + S1x16.size a ≤ S128x128.size a) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off41 v102 v163 v224 v285 v346 v407 v468 v529 v590 v651 v712 k1_t6 k1_t7 (BitVec.ofNat 32 (16 * r.val))) a + S1x16.size a ≤ S128x128.size a) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off42 v102 v163 v224 v285 v346 v407 v468 v529 v590 v651 v712 k1_t6 k1_t7 (BitVec.ofNat 32 (16 * r.val))) a + S1x16.size a ≤ S128x128.size a) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off43 v102 v163 v224 v285 v346 v407 v468 v529 v590 v651 v712 k1_t6 k1_t7 (BitVec.ofNat 32 (16 * r.val))) a + S1x16.size a ≤ S128x128.size a) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off44 v102 v163 v224 v285 v346 v407 v468 v529 v590 v651 v712 k1_t6 k1_t7 (BitVec.ofNat 32 (16 * r.val))) a + S1x16.size a ≤ S128x128.size a) ∧
  (∀ (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off45 v102 v163 v224 v285 v346 v407 v468 v529 v590 v651 v712 k1_t6 k1_t7 (BitVec.ofNat 32 (16 * r.val))) a + S1x16.size a ≤ S128x128.size a) ∧
  (∀ k1_t6 : Fin (k1_t6_loop v102 v163 v224 v285 v346 v407 v468 v529 v590 v651 v712).trips, ∀ (k1_h6 : k1_cond6 v102 v163 v224 v285 v346 v407 v468 v529 v590 v651 v712 k1_t6 = 1#1), (k1_t8_loop v102 v163 v224 v285 v346 v407 v468 v529 v590 v651 v712 k1_t6).OK) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off46 v102 v163 v224 v285 v346 v407 v468 v529 v590 v651 v712 k1_t6 k1_t8 (BitVec.ofNat 32 (16 * r.val))) a + S1x16.size a ≤ S128x128.size a) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off47 v102 v163 v224 v285 v346 v407 v468 v529 v590 v651 v712 k1_t6 k1_t8 (BitVec.ofNat 32 (16 * r.val))) a + S1x16.size a ≤ S128x128.size a) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off48 v102 v163 v224 v285 v346 v407 v468 v529 v590 v651 v712 k1_t6 k1_t8 (BitVec.ofNat 32 (16 * r.val))) a + S1x16.size a ≤ S128x128.size a) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off49 v102 v163 v224 v285 v346 v407 v468 v529 v590 v651 v712 k1_t6 k1_t8 (BitVec.ofNat 32 (16 * r.val))) a + S1x16.size a ≤ S128x128.size a) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off50 v102 v163 v224 v285 v346 v407 v468 v529 v590 v651 v712 k1_t6 k1_t8 (BitVec.ofNat 32 (16 * r.val))) a + S1x16.size a ≤ S128x128.size a) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off51 v102 v163 v224 v285 v346 v407 v468 v529 v590 v651 v712 k1_t6 k1_t8 (BitVec.ofNat 32 (16 * r.val))) a + S1x16.size a ≤ S128x128.size a) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off52 v102 v163 v224 v285 v346 v407 v468 v529 v590 v651 v712 k1_t6 k1_t8 (BitVec.ofNat 32 (16 * r.val))) a + S1x16.size a ≤ S128x128.size a) ∧
  (∀ (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off53 v102 v163 v224 v285 v346 v407 v468 v529 v590 v651 v712 k1_t6 k1_t8 (BitVec.ofNat 32 (16 * r.val))) a + S1x16.size a ≤ S128x128.size a) ∧
  (∀ k1_t6 : Fin (k1_t6_loop v102 v163 v224 v285 v346 v407 v468 v529 v590 v651 v712).trips, ∀ (k1_h8 : k1_cond8 v102 v163 v224 v285 v346 v407 v468 v529 v590 v651 v712 k1_t6 = 1#1), ∀ (k1_h9 : k1_cond9 v102 v163 v224 v285 v346 v407 v468 v529 v590 v651 v712 k1_t6 = 1#1), ∀ a, (k1_off54 v102 v163 v224 v285 v346 v407 v468 v529 v590 v651 v712 k1_t6) a + S1x16.size a ≤ S11x16.size a) ∧
  (∀ k1_t6 : Fin (k1_t6_loop v102 v163 v224 v285 v346 v407 v468 v529 v590 v651 v712).trips, ∀ (k1_h8 : k1_cond8 v102 v163 v224 v285 v346 v407 v468 v529 v590 v651 v712 k1_t6 = 1#1), (k1_t9_loop v102 v163 v224 v285 v346 v407 v468 v529 v590 v651 v712 k1_t6).OK) ∧
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off55 v102 v163 v224 v285 v346 v407 v468 v529 v590 v651 v712 k1_t6 k1_t9 (BitVec.ofNat 32 (16 * r.val))) a + S1x16.size a ≤ S128x128.size a) ∧
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off56 v102 v163 v224 v285 v346 v407 v468 v529 v590 v651 v712 k1_t6 k1_t9 (BitVec.ofNat 32 (16 * r.val))) a + S1x16.size a ≤ S128x128.size a) ∧
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off57 v102 v163 v224 v285 v346 v407 v468 v529 v590 v651 v712 k1_t6 k1_t9 (BitVec.ofNat 32 (16 * r.val))) a + S1x16.size a ≤ S128x128.size a)
def k1_chk56_2 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) : Prop :=
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off58 v102 v163 v224 v285 v346 v407 v468 v529 v590 v651 v712 k1_t6 k1_t9 (BitVec.ofNat 32 (16 * r.val))) a + S1x16.size a ≤ S128x128.size a) ∧
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off59 v102 v163 v224 v285 v346 v407 v468 v529 v590 v651 v712 k1_t6 k1_t9 (BitVec.ofNat 32 (16 * r.val))) a + S1x16.size a ≤ S128x128.size a) ∧
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off60 v102 v163 v224 v285 v346 v407 v468 v529 v590 v651 v712 k1_t6 k1_t9 (BitVec.ofNat 32 (16 * r.val))) a + S1x16.size a ≤ S128x128.size a) ∧
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off61 v102 v163 v224 v285 v346 v407 v468 v529 v590 v651 v712 k1_t6 k1_t9 (BitVec.ofNat 32 (16 * r.val))) a + S1x16.size a ≤ S128x128.size a) ∧
  (∀ (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off62 v102 v163 v224 v285 v346 v407 v468 v529 v590 v651 v712 k1_t6 k1_t9 (BitVec.ofNat 32 (16 * r.val))) a + S1x16.size a ≤ S128x128.size a) ∧
  (∀ k1_t6 : Fin (k1_t6_loop v102 v163 v224 v285 v346 v407 v468 v529 v590 v651 v712).trips, ∀ (k1_h8 : k1_cond8 v102 v163 v224 v285 v346 v407 v468 v529 v590 v651 v712 k1_t6 = 1#1), (k1_t10_loop v102 v163 v224 v285 v346 v407 v468 v529 v590 v651 v712 k1_t6).OK) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off63 v102 v163 v224 v285 v346 v407 v468 v529 v590 v651 v712 k1_t6 k1_t10 (BitVec.ofNat 32 (16 * r.val))) a + S1x16.size a ≤ S128x128.size a) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off64 v102 v163 v224 v285 v346 v407 v468 v529 v590 v651 v712 k1_t6 k1_t10 (BitVec.ofNat 32 (16 * r.val))) a + S1x16.size a ≤ S128x128.size a) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off65 v102 v163 v224 v285 v346 v407 v468 v529 v590 v651 v712 k1_t6 k1_t10 (BitVec.ofNat 32 (16 * r.val))) a + S1x16.size a ≤ S128x128.size a) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off66 v102 v163 v224 v285 v346 v407 v468 v529 v590 v651 v712 k1_t6 k1_t10 (BitVec.ofNat 32 (16 * r.val))) a + S1x16.size a ≤ S128x128.size a) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off67 v102 v163 v224 v285 v346 v407 v468 v529 v590 v651 v712 k1_t6 k1_t10 (BitVec.ofNat 32 (16 * r.val))) a + S1x16.size a ≤ S128x128.size a) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off68 v102 v163 v224 v285 v346 v407 v468 v529 v590 v651 v712 k1_t6 k1_t10 (BitVec.ofNat 32 (16 * r.val))) a + S1x16.size a ≤ S128x128.size a) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off69 v102 v163 v224 v285 v346 v407 v468 v529 v590 v651 v712 k1_t6 k1_t10 (BitVec.ofNat 32 (16 * r.val))) a + S1x16.size a ≤ S128x128.size a) ∧
  (∀ (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off70 v102 v163 v224 v285 v346 v407 v468 v529 v590 v651 v712 k1_t6 k1_t10 (BitVec.ofNat 32 (16 * r.val))) a + S1x16.size a ≤ S128x128.size a)
def k1_chk56 (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) : Prop :=
  k1_chk56_0 v102 v163 v224 v285 v346 v407 v468 v529 v590 v651 v712 ∧
  k1_chk56_1 v102 v163 v224 v285 v346 v407 v468 v529 v590 v651 v712 ∧
  k1_chk56_2 v102 v163 v224 v285 v346 v407 v468 v529 v590 v651 v712
theorem k1_t1_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712), (k1_t1_loop v102 v163 v224 v285 v346 v407 v468 v529 v590 v651 v712).OK := fun v102 v163 v224 v285 v346 v407 v468 v529 v590 v651 v712 k1_hw56 => k1_hw56.1.1
theorem k1_off3_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips), ∀ (k1_h2 : k1_cond2 v102 v163 v224 v285 v346 v407 v468 v529 v590 v651 v712 k1_t1 = 1#1), ∀ (k1_h3 : k1_cond3 v102 v163 v224 v285 v346 v407 v468 v529 v590 v651 v712 k1_t1 = 1#1), ∀ a, (k1_off3 v102 v163 v224 v285 v346 v407 v468 v529 v590 v651 v712 k1_t1) a + S1x16.size a ≤ S11x16.size a := fun v102 v163 v224 v285 v346 v407 v468 v529 v590 v651 v712 k1_hw56 k1_t1 k1_h2 k1_h3 => k1_hw56.1.2.1 k1_t1 k1_h2 k1_h3
theorem k1_t2_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips), ∀ (k1_h2 : k1_cond2 v102 v163 v224 v285 v346 v407 v468 v529 v590 v651 v712 k1_t1 = 1#1), (k1_t2_loop v102 v163 v224 v285 v346 v407 v468 v529 v590 v651 v712 k1_t1).OK := fun v102 v163 v224 v285 v346 v407 v468 v529 v590 v651 v712 k1_hw56 k1_t1 k1_h2 => k1_hw56.1.2.2.1 k1_t1 k1_h2
theorem k1_off4_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off4 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.1 k1_t1 k1_t2 k1_h2 r
theorem k1_off5_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off5 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.2.1 k1_t1 k1_t2 k1_h2 r
theorem k1_off6_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off6 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.2.2.1 k1_t1 k1_t2 k1_h2 r
theorem k1_off7_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off7 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.2.2.2.1 k1_t1 k1_t2 k1_h2 r
theorem k1_off8_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off8 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.2.2.2.2.1 k1_t1 k1_t2 k1_h2 r
theorem k1_off9_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off9 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.2.2.2.2.2.1 k1_t1 k1_t2 k1_h2 r
theorem k1_off10_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off10 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.2.2.2.2.2.2.1 k1_t1 k1_t2 k1_h2 r
theorem k1_off11_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t2 : Fin (k1_t2_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off11 v102 v163 v224 v285 v346 v407 v468 v529 v590 v651 v712 k1_t1 k1_t2 (BitVec.ofNat 32 (16 * r.val))) a + S1x16.size a ≤ S128x128.size a := fun v102 v163 v224 v285 v346 v407 v468 v529 v590 v651 v712 k1_hw56 k1_t1 k1_t2 k1_h2 r => k1_hw56.1.2.2.2.2.2.2.2.2.2.2.1 k1_t1 k1_t2 k1_h2 r
theorem k1_t3_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips), ∀ (k1_h2 : k1_cond2 v102 v163 v224 v285 v346 v407 v468 v529 v590 v651 v712 k1_t1 = 1#1), (k1_t3_loop v102 v163 v224 v285 v346 v407 v468 v529 v590 v651 v712 k1_t1).OK := fun v102 v163 v224 v285 v346 v407 v468 v529 v590 v651 v712 k1_hw56 k1_t1 k1_h2 => k1_hw56.1.2.2.2.2.2.2.2.2.2.2.2.1 k1_t1 k1_h2
theorem k1_off12_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off12 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.1 k1_t1 k1_t3 k1_h2 r
theorem k1_off13_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off13 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.2.1 k1_t1 k1_t3 k1_h2 r
theorem k1_off14_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off14 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.2.2.1 k1_t1 k1_t3 k1_h2 r
theorem k1_off15_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off15 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.2.2.2.1 k1_t1 k1_t3 k1_h2 r
theorem k1_off16_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off16 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.2.2.2.2.1 k1_t1 k1_t3 k1_h2 r
theorem k1_off17_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off17 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.2.2.2.2.2.1 k1_t1 k1_t3 k1_h2 r
theorem k1_off18_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off18 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.2.2.2.2.2.2.1 k1_t1 k1_t3 k1_h2 r
theorem k1_off19_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t3 : Fin (k1_t3_loop v102 v163 v224 v285 v346 v407 v468 v529 v590 v651 v712 k1_t1).trips), ∀ (k1_h2 : k1_cond2 v102 v163 v224 v285 v346 v407 v468 v529 v590 v651 v712 k1_t1 = 1#1), ∀ (r : Fin 8), ∀ a, (k1_off19 v102 v163 v224 v285 v346 v407 v468 v529 v590 v651 v712 k1_t1 k1_t3 (BitVec.ofNat 32 (16 * r.val))) a + S1x16.size a ≤ S128x128.size a := fun v102 v163 v224 v285 v346 v407 v468 v529 v590 v651 v712 k1_hw56 k1_t1 k1_t3 k1_h2 r => k1_hw56.1.2.2.2.2.2.2.2.2.2.2.2.2.2.2.2.2.2.2.2.1 k1_t1 k1_t3 k1_h2 r
theorem k1_off20_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips), ∀ (k1_h4 : k1_cond4 v102 v163 v224 v285 v346 v407 v468 v529 v590 v651 v712 k1_t1 = 1#1), ∀ (k1_h5 : k1_cond5 v102 v163 v224 v285 v346 v407 v468 v529 v590 v651 v712 k1_t1 = 1#1), ∀ a, (k1_off20 v102 v163 v224 v285 v346 v407 v468 v529 v590 v651 v712 k1_t1) a + S1x16.size a ≤ S11x16.size a := fun v102 v163 v224 v285 v346 v407 v468 v529 v590 v651 v712 k1_hw56 k1_t1 k1_h4 k1_h5 => k1_hw56.1.2.2.2.2.2.2.2.2.2.2.2.2.2.2.2.2.2.2.2.2.1 k1_t1 k1_h4 k1_h5
theorem k1_t4_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips), ∀ (k1_h4 : k1_cond4 v102 v163 v224 v285 v346 v407 v468 v529 v590 v651 v712 k1_t1 = 1#1), (k1_t4_loop v102 v163 v224 v285 v346 v407 v468 v529 v590 v651 v712 k1_t1).OK := fun v102 v163 v224 v285 v346 v407 v468 v529 v590 v651 v712 k1_hw56 k1_t1 k1_h4 => k1_hw56.1.2.2.2.2.2.2.2.2.2.2.2.2.2.2.2.2.2.2.2.2.2.1 k1_t1 k1_h4
theorem k1_off21_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off21 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.1 k1_t1 k1_t4 k1_h4 r
theorem k1_off22_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off22 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.2.1 k1_t1 k1_t4 k1_h4 r
theorem k1_off23_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off23 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.2.2.1 k1_t1 k1_t4 k1_h4 r
theorem k1_off24_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off24 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.2.2.2.1 k1_t1 k1_t4 k1_h4 r
theorem k1_off25_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off25 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.2.2.2.2.1 k1_t1 k1_t4 k1_h4 r
theorem k1_off26_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off26 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.2.2.2.2.2.1 k1_t1 k1_t4 k1_h4 r
theorem k1_off27_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off27 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.2.2.2.2.2.2.1 k1_t1 k1_t4 k1_h4 r
theorem k1_off28_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t4 : Fin (k1_t4_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off28 v102 v163 v224 v285 v346 v407 v468 v529 v590 v651 v712 k1_t1 k1_t4 (BitVec.ofNat 32 (16 * r.val))) a + S1x16.size a ≤ S128x128.size a := fun v102 v163 v224 v285 v346 v407 v468 v529 v590 v651 v712 k1_hw56 k1_t1 k1_t4 k1_h4 r => k1_hw56.1.2.2.2.2.2.2.2.2.2.2.2.2.2.2.2.2.2.2.2.2.2.2.2.2.2.2.2.2.2.1 k1_t1 k1_t4 k1_h4 r
theorem k1_t5_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips), ∀ (k1_h4 : k1_cond4 v102 v163 v224 v285 v346 v407 v468 v529 v590 v651 v712 k1_t1 = 1#1), (k1_t5_loop v102 v163 v224 v285 v346 v407 v468 v529 v590 v651 v712 k1_t1).OK := fun v102 v163 v224 v285 v346 v407 v468 v529 v590 v651 v712 k1_hw56 k1_t1 k1_h4 => k1_hw56.1.2.2.2.2.2.2.2.2.2.2.2.2.2.2.2.2.2.2.2.2.2.2.2.2.2.2.2.2.2.2.1 k1_t1 k1_h4
theorem k1_off29_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off29 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.1.2.2.2.2.2.2.2.2.2.2.2.2.2.2.2.2.2.2.2.2.2.2.2.2.2.2.2.2.2.2.2 k1_t1 k1_t5 k1_h4 r
theorem k1_off30_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off30 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.2.1.1 k1_t1 k1_t5 k1_h4 r
theorem k1_off31_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off31 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.2.1.2.1 k1_t1 k1_t5 k1_h4 r
theorem k1_off32_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off32 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.2.1.2.2.1 k1_t1 k1_t5 k1_h4 r
theorem k1_off33_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off33 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.2.1.2.2.2.1 k1_t1 k1_t5 k1_h4 r
theorem k1_off34_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off34 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.2.1.2.2.2.2.1 k1_t1 k1_t5 k1_h4 r
theorem k1_off35_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off35 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.2.1.2.2.2.2.2.1 k1_t1 k1_t5 k1_h4 r
theorem k1_off36_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t1 : Fin (k1_t1_loop v102 v163 v224 v285 v346 v407 v468 v529 v590 v651 v712).trips) (k1_t5 : Fin (k1_t5_loop v102 v163 v224 v285 v346 v407 v468 v529 v590 v651 v712 k1_t1).trips), ∀ (k1_h4 : k1_cond4 v102 v163 v224 v285 v346 v407 v468 v529 v590 v651 v712 k1_t1 = 1#1), ∀ (r : Fin 8), ∀ a, (k1_off36 v102 v163 v224 v285 v346 v407 v468 v529 v590 v651 v712 k1_t1 k1_t5 (BitVec.ofNat 32 (16 * r.val))) a + S1x16.size a ≤ S128x128.size a := fun v102 v163 v224 v285 v346 v407 v468 v529 v590 v651 v712 k1_hw56 k1_t1 k1_t5 k1_h4 r => k1_hw56.2.1.2.2.2.2.2.2.1 k1_t1 k1_t5 k1_h4 r
theorem k1_t6_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712), (k1_t6_loop v102 v163 v224 v285 v346 v407 v468 v529 v590 v651 v712).OK := fun v102 v163 v224 v285 v346 v407 v468 v529 v590 v651 v712 k1_hw56 => k1_hw56.2.1.2.2.2.2.2.2.2.1
theorem k1_off37_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips), ∀ (k1_h6 : k1_cond6 v102 v163 v224 v285 v346 v407 v468 v529 v590 v651 v712 k1_t6 = 1#1), ∀ (k1_h7 : k1_cond7 v102 v163 v224 v285 v346 v407 v468 v529 v590 v651 v712 k1_t6 = 1#1), ∀ a, (k1_off37 v102 v163 v224 v285 v346 v407 v468 v529 v590 v651 v712 k1_t6) a + S1x16.size a ≤ S11x16.size a := fun v102 v163 v224 v285 v346 v407 v468 v529 v590 v651 v712 k1_hw56 k1_t6 k1_h6 k1_h7 => k1_hw56.2.1.2.2.2.2.2.2.2.2.1 k1_t6 k1_h6 k1_h7
theorem k1_t7_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips), ∀ (k1_h6 : k1_cond6 v102 v163 v224 v285 v346 v407 v468 v529 v590 v651 v712 k1_t6 = 1#1), (k1_t7_loop v102 v163 v224 v285 v346 v407 v468 v529 v590 v651 v712 k1_t6).OK := fun v102 v163 v224 v285 v346 v407 v468 v529 v590 v651 v712 k1_hw56 k1_t6 k1_h6 => k1_hw56.2.1.2.2.2.2.2.2.2.2.2.1 k1_t6 k1_h6
theorem k1_off38_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off38 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.1 k1_t6 k1_t7 k1_h6 r
theorem k1_off39_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off39 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.2.1 k1_t6 k1_t7 k1_h6 r
theorem k1_off40_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off40 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.2.2.1 k1_t6 k1_t7 k1_h6 r
theorem k1_off41_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off41 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.2.2.2.1 k1_t6 k1_t7 k1_h6 r
theorem k1_off42_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off42 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.2.2.2.2.1 k1_t6 k1_t7 k1_h6 r
theorem k1_off43_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off43 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.2.2.2.2.2.1 k1_t6 k1_t7 k1_h6 r
theorem k1_off44_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off44 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.2.2.2.2.2.2.1 k1_t6 k1_t7 k1_h6 r
theorem k1_off45_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t7 : Fin (k1_t7_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off45 v102 v163 v224 v285 v346 v407 v468 v529 v590 v651 v712 k1_t6 k1_t7 (BitVec.ofNat 32 (16 * r.val))) a + S1x16.size a ≤ S128x128.size a := fun v102 v163 v224 v285 v346 v407 v468 v529 v590 v651 v712 k1_hw56 k1_t6 k1_t7 k1_h6 r => k1_hw56.2.1.2.2.2.2.2.2.2.2.2.2.2.2.2.2.2.2.2.1 k1_t6 k1_t7 k1_h6 r
theorem k1_t8_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips), ∀ (k1_h6 : k1_cond6 v102 v163 v224 v285 v346 v407 v468 v529 v590 v651 v712 k1_t6 = 1#1), (k1_t8_loop v102 v163 v224 v285 v346 v407 v468 v529 v590 v651 v712 k1_t6).OK := fun v102 v163 v224 v285 v346 v407 v468 v529 v590 v651 v712 k1_hw56 k1_t6 k1_h6 => k1_hw56.2.1.2.2.2.2.2.2.2.2.2.2.2.2.2.2.2.2.2.2.1 k1_t6 k1_h6
theorem k1_off46_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off46 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.1 k1_t6 k1_t8 k1_h6 r
theorem k1_off47_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off47 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.2.1 k1_t6 k1_t8 k1_h6 r
theorem k1_off48_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off48 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.2.2.1 k1_t6 k1_t8 k1_h6 r
theorem k1_off49_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off49 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.2.2.2.1 k1_t6 k1_t8 k1_h6 r
theorem k1_off50_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off50 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.2.2.2.2.1 k1_t6 k1_t8 k1_h6 r
theorem k1_off51_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off51 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.2.2.2.2.2.1 k1_t6 k1_t8 k1_h6 r
theorem k1_off52_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off52 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.2.2.2.2.2.2.1 k1_t6 k1_t8 k1_h6 r
theorem k1_off53_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t8 : Fin (k1_t8_loop v102 v163 v224 v285 v346 v407 v468 v529 v590 v651 v712 k1_t6).trips), ∀ (k1_h6 : k1_cond6 v102 v163 v224 v285 v346 v407 v468 v529 v590 v651 v712 k1_t6 = 1#1), ∀ (r : Fin 8), ∀ a, (k1_off53 v102 v163 v224 v285 v346 v407 v468 v529 v590 v651 v712 k1_t6 k1_t8 (BitVec.ofNat 32 (16 * r.val))) a + S1x16.size a ≤ S128x128.size a := fun v102 v163 v224 v285 v346 v407 v468 v529 v590 v651 v712 k1_hw56 k1_t6 k1_t8 k1_h6 r => k1_hw56.2.1.2.2.2.2.2.2.2.2.2.2.2.2.2.2.2.2.2.2.2.2.2.2.2.2.2.2.1 k1_t6 k1_t8 k1_h6 r
theorem k1_off54_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips), ∀ (k1_h8 : k1_cond8 v102 v163 v224 v285 v346 v407 v468 v529 v590 v651 v712 k1_t6 = 1#1), ∀ (k1_h9 : k1_cond9 v102 v163 v224 v285 v346 v407 v468 v529 v590 v651 v712 k1_t6 = 1#1), ∀ a, (k1_off54 v102 v163 v224 v285 v346 v407 v468 v529 v590 v651 v712 k1_t6) a + S1x16.size a ≤ S11x16.size a := fun v102 v163 v224 v285 v346 v407 v468 v529 v590 v651 v712 k1_hw56 k1_t6 k1_h8 k1_h9 => k1_hw56.2.1.2.2.2.2.2.2.2.2.2.2.2.2.2.2.2.2.2.2.2.2.2.2.2.2.2.2.2.1 k1_t6 k1_h8 k1_h9
theorem k1_t9_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips), ∀ (k1_h8 : k1_cond8 v102 v163 v224 v285 v346 v407 v468 v529 v590 v651 v712 k1_t6 = 1#1), (k1_t9_loop v102 v163 v224 v285 v346 v407 v468 v529 v590 v651 v712 k1_t6).OK := fun v102 v163 v224 v285 v346 v407 v468 v529 v590 v651 v712 k1_hw56 k1_t6 k1_h8 => k1_hw56.2.1.2.2.2.2.2.2.2.2.2.2.2.2.2.2.2.2.2.2.2.2.2.2.2.2.2.2.2.2.1 k1_t6 k1_h8
theorem k1_off55_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off55 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.1.2.2.2.2.2.2.2.2.2.2.2.2.2.2.2.2.2.2.2.2.2.2.2.2.2.2.2.2.2.1 k1_t6 k1_t9 k1_h8 r
theorem k1_off56_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off56 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.1.2.2.2.2.2.2.2.2.2.2.2.2.2.2.2.2.2.2.2.2.2.2.2.2.2.2.2.2.2.2.1 k1_t6 k1_t9 k1_h8 r
theorem k1_off57_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off57 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.1.2.2.2.2.2.2.2.2.2.2.2.2.2.2.2.2.2.2.2.2.2.2.2.2.2.2.2.2.2.2.2 k1_t6 k1_t9 k1_h8 r
theorem k1_off58_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off58 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.2.1 k1_t6 k1_t9 k1_h8 r
theorem k1_off59_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off59 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.2.2.1 k1_t6 k1_t9 k1_h8 r
theorem k1_off60_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off60 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.2.2.2.1 k1_t6 k1_t9 k1_h8 r
theorem k1_off61_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off61 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.2.2.2.2.1 k1_t6 k1_t9 k1_h8 r
theorem k1_off62_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t9 : Fin (k1_t9_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off62 v102 v163 v224 v285 v346 v407 v468 v529 v590 v651 v712 k1_t6 k1_t9 (BitVec.ofNat 32 (16 * r.val))) a + S1x16.size a ≤ S128x128.size a := fun v102 v163 v224 v285 v346 v407 v468 v529 v590 v651 v712 k1_hw56 k1_t6 k1_t9 k1_h8 r => k1_hw56.2.2.2.2.2.2.1 k1_t6 k1_t9 k1_h8 r
theorem k1_t10_ok : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips), ∀ (k1_h8 : k1_cond8 v102 v163 v224 v285 v346 v407 v468 v529 v590 v651 v712 k1_t6 = 1#1), (k1_t10_loop v102 v163 v224 v285 v346 v407 v468 v529 v590 v651 v712 k1_t6).OK := fun v102 v163 v224 v285 v346 v407 v468 v529 v590 v651 v712 k1_hw56 k1_t6 k1_h8 => k1_hw56.2.2.2.2.2.2.2.1 k1_t6 k1_h8
theorem k1_off63_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off63 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.1 k1_t6 k1_t10 k1_h8 r
theorem k1_off64_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off64 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.2.1 k1_t6 k1_t10 k1_h8 r
theorem k1_off65_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off65 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.2.2.1 k1_t6 k1_t10 k1_h8 r
theorem k1_off66_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off66 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.2.2.2.1 k1_t6 k1_t10 k1_h8 r
theorem k1_off67_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off67 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.2.2.2.2.1 k1_t6 k1_t10 k1_h8 r
theorem k1_off68_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off68 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.2.2.2.2.2.1 k1_t6 k1_t10 k1_h8 r
theorem k1_off69_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off69 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.2.2.2.2.2.2.1 k1_t6 k1_t10 k1_h8 r
theorem k1_off70_inb : ∀ (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (k1_t6 : Fin (k1_t6_loop v102 v163 v224 v285 v346 v407 v468 v529 v590 v651 v712).trips) (k1_t10 : Fin (k1_t10_loop v102 v163 v224 v285 v346 v407 v468 v529 v590 v651 v712 k1_t6).trips), ∀ (k1_h8 : k1_cond8 v102 v163 v224 v285 v346 v407 v468 v529 v590 v651 v712 k1_t6 = 1#1), ∀ (r : Fin 8), ∀ a, (k1_off70 v102 v163 v224 v285 v346 v407 v468 v529 v590 v651 v712 k1_t6 k1_t10 (BitVec.ofNat 32 (16 * r.val))) a + S1x16.size a ≤ S128x128.size a := fun v102 v163 v224 v285 v346 v407 v468 v529 v590 v651 v712 k1_hw56 k1_t6 k1_t10 k1_h8 r => k1_hw56.2.2.2.2.2.2.2.2.2.2.2.2.2.2.2 k1_t6 k1_t10 k1_h8 r

def k1_off71 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_329_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x196x4096 : Shape := ⟨3, ![64, 196, 4096]⟩
abbrev S64x196 : Shape := ⟨2, ![64, 196]⟩
abbrev S64x196x1 : Shape := ⟨3, ![64, 196, 1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S64x196x4096, .f32⟩
  | .hbm, ⟨1, _⟩ => ⟨S64x196x4096, .f32⟩
  | .hbm, ⟨2, _⟩ => ⟨S64x196, .i1⟩
  | .hbm, ⟨3, _⟩ => ⟨S64x196, .f32⟩
  | .hbm, ⟨4, _⟩ => ⟨S64x196x1, .i1⟩
  | .hbm, ⟨5, _⟩ => ⟨S_, .f32⟩
  | .hbm, ⟨6, _⟩ => ⟨S64x196x4096, .f32⟩
  | .hbm, ⟨7, _⟩ => ⟨S64x196x4096, .i1⟩
  | .hbm, ⟨8, _⟩ => ⟨S64x196x4096, .f32⟩
  | .hbm, ⟨9, _⟩ => ⟨S64x196x4096, .f32⟩
  | .hbm, ⟨10, _⟩ => ⟨S64x196x4096, .f32⟩
  | .hbm, ⟨11, _⟩ => ⟨S_, .f32⟩
  | .hbm, ⟨12, _⟩ => ⟨S64x196, .f32⟩
  | .hbm, ⟨13, _⟩ => ⟨S64x196, .f32⟩
  | .hbm, ⟨14, _⟩ => ⟨S64x196, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S64x196x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proof.Common.lean ====
/-
  The set-up shared by the modules of this proof: the program as the launch theorem for SparseCore programs sees it, the
  resource algebra, and the buffers of a vector subcore by name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof
end
-- ==== Proof.Tc.lean ====
/-
  The TensorCore call: its body, and the region it is.
-/
module

public import proofs.«01_k».proof.Proof.Common
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig (HIx 1) (Elt F) ℕ UU ℕ

section Body
variable (d : Dev nD)

local notation "W" => wp frame (wpE (defs₀ (F := F)) 𝒱₀ (d : Thread nD τ) none) Set.univ

/-- A memref's elements on the TensorCore, reading `g`. -/
abbrev O {sp : Space} {sh : Shape} {e : EltTy} (m : Memref sig .tc sp sh e) (g : Vec F sh e) : sProp 𝕄 :=
  owns (d : Thread nD τ) m fullShare g

theorem wp_ldT {cs : CoreSpace} {sh : Shape} {e : EltTy} {m : Memref sig .tc cs sh e} {g : Vec F sh e} (r : Rect sh) {hl : m.view.LoadsAt r}
    {α : Type} {k : (r.shape.Idx → Elt F e) → Prog (TpuEff nD τ sig (Elt F) Λ₀ .tc) α} {Φ : α → sProp 𝕄} :
    O d m g ⊢ iprop((O d m g -∗ W (k (fun x => g (r.emb x))) Φ) -∗ W (.op (.load m r.toLoadRect hl) k) Φ) := by
  unfold O owns
  iintro ⟨%f, %hf, Hp⟩ HΦ
  iapply (wp_load_rect (defs := defs₀ (F := F)) 𝒱₀ (d : Thread nD τ) none Set.univ (m := m)
    (r := r) (f := f) (q := fullShare) (k := k) (S := m.view.set) (View.set_slice_subset _ _)) $$ Hp
  iintro Hp
  rw [show (m.access r).read (Elt F) f = fun x => g (r.emb x) from by subst hf; rfl]
  iapply HΦ
  iexists f
  isplitr
  · ipureintro; exact hf
  · iexact Hp

theorem wp_stT {cs : CoreSpace} {sh : Shape} {e : EltTy} {m : Memref sig .tc cs sh e} {g : Vec F sh e} (r : Rect sh) {w : r.shape.Idx → Elt F e}
    {hx : (m.access r).Stores Finset.univ} {hm : Finset.univ = Finset.univ ∨ ∀ a, r.stride a = 1} (g' : Vec F sh e)
    (h1 : ∀ x, g' (r.emb x) = w x) (h2 : ∀ y, y ∉ r.set → g' y = g y) {Φ : PUnit → sProp 𝕄} :
    O d m g ⊢ iprop((O d m g' -∗ Φ ⟨⟩) -∗ W (Prog.lift (.store m r w Finset.univ hx hm)) Φ) := by
  unfold O owns
  iintro ⟨%f, %hf, Hp⟩ HΦ
  iapply (wp_store (defs := defs₀ (F := F)) 𝒱₀ (d : Thread nD τ) none Set.univ (m := m) (w := w) (Mk := Finset.univ)
    (r := r) (f := f) (k := fun x => Prog.ret x) (S := m.view.set) (Memref.setOn_access_subset _ _ _)) $$ Hp
  iintro Hp
  rw [wp_ret]
  imodintro
  iapply HΦ
  iexists _
  isplitr
  · ipureintro
    show m.view.read (Elt F) ((m.access r).write (Elt F) f w Finset.univ) = g'
    funext y
    by_cases hy : y ∈ r.set
    · obtain ⟨x, rfl⟩ := r.exists_idx_of_mem hy
      exact (View.read_slice_write_emb r f w (Finset.mem_univ x)).trans (h1 x).symm
    · rw [show m.view.read (Elt F) ((m.access r).write (Elt F) f w Finset.univ) y = m.view.read (Elt F) f y from
        View.read_slice_write_of_not_mem r f w _ (by rwa [Rect.map_emb_univ]), hf, h2 y hy]
  · iexact Hp

abbrev r11 : Rect S1x1 := Rect.unit (s := S1x1) ![0, 0] S1x1.size inb_S1x1_S1x1_0_0

instance : Subsingleton S1x1.Idx := ⟨fun a b => funext fun k => by
  match k with
  | 0 => exact Fin.ext (by have h1 : (a 0).val < 1 := (a 0).isLt; have h2 : (b 0).val < 1 := (b 0).isLt; omega)
  | 1 => exact Fin.ext (by have h1 : (a 1).val < 1 := (a 1).isLt; have h2 : (b 1).val < 1 := (b 1).isLt; omega)⟩

def i11 : S1x1.Idx := fun | 0 => ⟨0, by decide⟩ | 1 => ⟨0, by decide⟩

theorem mem_r11 (y : S1x1.Idx) : y ∈ r11.set := by
  rw [Subsingleton.elim y (r11.emb i11), ← Rect.map_emb_univ]
  exact Finset.mem_map_of_mem _ (Finset.mem_univ _)

theorem wp_ld1 {m : Memref sig .tc .smem S1x1 .f32} {g : Vec F S1x1 .f32} {h1 : r11.shape.numel = 1} {hp : EltTy.f32.packing = 1} {Φ : Elt F .f32 → sProp 𝕄} :
    O d m g ⊢ iprop((O d m g -∗ Φ (g i11)) -∗ W (smemLoad m r11 h1 hp) Φ) := by
  iintro Hm HΦ
  unfold smemLoad smemLoadElt
  iapply (wp_ldT d r11) $$ Hm
  iintro Hm
  rw [wp_ret]
  dsimp only
  rw [Subsingleton.elim (r11.emb _) i11]
  imodintro
  iapply HΦ $$ Hm

theorem wp_st1 {m : Memref sig .tc .smem S1x1 .f32} {g : Vec F S1x1 .f32} {a : Elt F .f32} {hx : (m.access r11).Stores Finset.univ} {hm : Finset.univ = Finset.univ ∨ ∀ a, r11.stride a = 1} {Φ : PUnit → sProp 𝕄} :
    O d m g ⊢ iprop((O d m (fun _ => a) -∗ Φ ⟨⟩) -∗ W (Prog.lift (.store m r11 (fun _ => a) Finset.univ hx hm)) Φ) :=
  wp_stT d r11 (fun _ => a) (fun _ => rfl) (fun y hy => absurd (mem_r11 y) hy)

theorem wp_ldV {sh : Shape} {e : EltTy} {m : Memref sig .tc .vmem sh e} {g : Vec F sh e} (r : Rect sh) {hl : m.view.LoadsAt r} {Φ : (r.shape.Idx → Elt F e) → sProp 𝕄} :
    O d m g ⊢ iprop((O d m g -∗ Φ (fun x => g (r.emb x))) -∗ W (Prog.lift (.load m r.toLoadRect hl)) Φ) := by
  iintro Hm HΦ
  iapply (wp_ldT d r) $$ Hm
  iintro Hm
  rw [wp_ret]
  imodintro
  iapply HΦ $$ Hm

/-- The first lane of a block of the mask. -/
def head3 (g : Vec F S4x64x128 .f32) : Vec F S4x64x1 .f32 := fun x => g ((Rect.unit (s := S4x64x128) ![0, 0, 0] S4x64x1.size inb_S4x64x128_S4x64x1_0_0_0).emb x)
/-- A block, as it is loaded. -/
def full3 (g : Vec F S4x64x4096 .f32) : Vec F S4x64x4096 .f32 := fun x => g ((Rect.unit (s := S4x64x4096) ![0, 0, 0] S4x64x4096.size inb_S4x64x4096_S4x64x4096_0_0_0).emb x)

theorem first_iff : ∀ i : grid0.Coords, (Scalar.cmpi .ne (Scalar.extui (Scalar.cmpi .eq (BitVec.ofNat 32 (i 0).val) 0#32) : BitVec 32) 0#32 = 1#1) = ((i 0).val = 0) := by
  decide +kernel

abbrev f0 : Elt F .f32 := Scalar.ofBits .f32 0x00000000#32

set_option maxHeartbeats 1000000 in
theorem wp_tcbody (i : grid0.Coords) (arg1 : Memref sig .tc .vmem S4x64x128 .f32) (harg1 : arg1.IsWhole) (arg2 : Memref sig .tc .vmem S4x64x4096 .f32) (harg2 : arg2.IsWhole)
    (arg3 : Memref sig .tc .vmem S4x64x4096 .f32) (harg3 : arg3.IsWhole) (arg4 : Memref sig .tc .smem S1x1 .f32) (harg4 : arg4.IsWhole) (arg5 : Memref sig .tc .smem S1x1 .f32) (harg5 : arg5.IsWhole)
    (g1 : Vec F S4x64x128 .f32) (g2 g3 : Vec F S4x64x4096 .f32) (g4 g5 : Vec F S1x1 .f32) (a b : Elt F .f32)
    (ha : (if (i 0).val = 0 then f0 else g4 i11) = a) (hb : (if (i 0).val = 0 then f0 else g5 i11) = b) :
    iprop(O d arg1 g1 ∗ O d arg2 g2 ∗ O d arg3 g3 ∗ O d arg4 g4 ∗ O d arg5 g5)
      ⊢ W (cc0__tc_body i arg1 harg1 arg2 harg2 arg3 harg3 arg4 harg4 arg5 harg5)
          fun _ => iprop(O d arg1 g1 ∗ O d arg2 g2 ∗ O d arg3 g3 ∗ O d arg4 (fun _ => k0_pay1 (head3 g1) (full3 g2) a (full3 g3)) ∗ O d arg5 (fun _ => k0_pay2 b (head3 g1))) := by
  rw [cc0__tc_body_eq_skeleton]
  unfold cc0__tc_body_skel
  rw [k0_part1_eq_skeleton]
  unfold k0_part1_skel
  iintro ⟨H1, H2, H3, H4, H5⟩
  rw [wp_bind]
  by_cases hi : (i 0).val = 0
  · rw [if_pos hi] at ha hb
    subst ha hb
    dsimp only
    rw [dif_pos ((first_iff i).mpr hi), wp_bind]
    iapply (wp_ld1 d) $$ H4
    iintro H4
    rw [wp_bind]
    iapply (wp_st1 d) $$ H4
    iintro H4
    rw [wp_bind]
    iapply (wp_ld1 d) $$ H5
    iintro H5
    rw [wp_bind]
    iapply (wp_st1 d) $$ H5
    iintro H5
    rw [wp_bind]
    iapply (wp_ldV d) $$ H1
    iintro H1
    rw [wp_bind]
    iapply (wp_ldV d) $$ H2
    iintro H2
    rw [wp_bind]
    iapply (wp_ld1 d) $$ H4
    iintro H4
    rw [wp_bind]
    iapply (wp_ldV d) $$ H3
    iintro H3
    rw [wp_bind]
    iapply (wp_ld1 d) $$ H4
    iintro H4
    rw [wp_bind]
    iapply (wp_st1 d) $$ H4
    iintro H4
    rw [wp_bind]
    iapply (wp_ld1 d) $$ H5
    iintro H5
    rw [wp_bind]
    iapply (wp_ldV d) $$ H1
    iintro H1
    rw [wp_pure]
    imodintro
    rw [wp_bind]
    iapply (wp_ld1 d) $$ H5
    iintro H5
    rw [wp_bind]
    iapply (wp_st1 d) $$ H5
    iintro H5
    rw [wp_pure]
    imodintro
    isplitl [H1]; · iexact H1
    isplitl [H2]; · iexact H2
    isplitl [H3]; · iexact H3
    isplitl [H4]; · iexact H4
    iexact H5
  · rw [if_neg hi] at ha hb
    subst ha hb
    dsimp only
    rw [dif_neg (fun h => hi ((first_iff i).mp h))]
    rw [wp_bind]
    iapply (wp_ldV d) $$ H1
    iintro H1
    rw [wp_bind]
    iapply (wp_ldV d) $$ H2
    iintro H2
    rw [wp_bind]
    iapply (wp_ld1 d) $$ H4
    iintro H4
    rw [wp_bind]
    iapply (wp_ldV d) $$ H3
    iintro H3
    rw [wp_bind]
    iapply (wp_ld1 d) $$ H4
    iintro H4
    rw [wp_bind]
    iapply (wp_st1 d) $$ H4
    iintro H4
    rw [wp_bind]
    iapply (wp_ld1 d) $$ H5
    iintro H5
    rw [wp_bind]
    iapply (wp_ldV d) $$ H1
    iintro H1
    rw [wp_pure]
    imodintro
    rw [wp_bind]
    iapply (wp_ld1 d) $$ H5
    iintro H5
    rw [wp_bind]
    iapply (wp_st1 d) $$ H5
    iintro H5
    rw [wp_pure]
    imodintro
    isplitl [H1]; · iexact H1
    isplitl [H2]; · iexact H2
    isplitl [H3]; · iexact H3
    isplitl [H4]; · iexact H4
    iexact H5

end Body
/-! ## The region -/

section Region
variable (V : (c : Dev nD) → (b : Ref sig .tc) → Buf (Elt F) ((c : Thread nD τ).loc b))

/-- The blocks of the mask and of the two tables at a point. -/
def b0 (c : Dev nD) (t : Fin grid0.N) : Vec F S4x64x128 .f32 := ((cfg0.win 0).blk t).view.read (Elt F) (V c main_v11)
def b1 (c : Dev nD) (t : Fin grid0.N) : Vec F S4x64x4096 .f32 := ((cfg0.win 1).blk t).view.read (Elt F) (V c main_v0)
def b2 (c : Dev nD) (t : Fin grid0.N) : Vec F S4x64x4096 .f32 := ((cfg0.win 2).blk t).view.read (Elt F) (V c main_v1)

/-- The first accumulator after `n` points. -/
def acc1 (c : Dev nD) : ℕ → F .f32
  | 0 => f0
  | n + 1 => if h : n < grid0.N then k0_pay1 (head3 (b0 V c ⟨n, h⟩)) (full3 (b1 V c ⟨n, h⟩)) (acc1 c n) (full3 (b2 V c ⟨n, h⟩)) else acc1 c n
/-- The second accumulator after `n` points. -/
def acc2 (c : Dev nD) : ℕ → F .f32
  | 0 => f0
  | n + 1 => if h : n < grid0.N then k0_pay2 (acc2 c n) (head3 (b0 V c ⟨n, h⟩)) else acc2 c n

theorem acc1_succ (c : Dev nD) (t : Fin grid0.N) : acc1 V c (t.val + 1) = k0_pay1 (head3 (b0 V c t)) (full3 (b1 V c t)) (acc1 V c t.val) (full3 (b2 V c t)) := by
  rw [acc1, dif_pos t.isLt]
theorem acc2_succ (c : Dev nD) (t : Fin grid0.N) : acc2 V c (t.val + 1) = k0_pay2 (acc2 V c t.val) (head3 (b0 V c t)) := by
  rw [acc2, dif_pos t.isLt]

/-- The waits of the region's own semaphores sit below every handshake. -/
def low (c : Dev nD) : Set (SemLoc sig × HIx 1) := {p | (K (F := F)).lev ((c : Thread nD τ), p.1) p.2 ≤ 0}

def dat (c : Dev nD) : Dat τ (Elt F) (HIx 1) ℕ UU ℕ cfg0 c where
  A w := V c (Pipeline.arrRef spec0 w)
  after w t := match w with
    | ⟨0, _⟩ => b0 V c t
    | ⟨1, _⟩ => b1 V c t
    | ⟨2, _⟩ => b2 V c t
    | ⟨3, _⟩ => fun _ => acc1 V c (t.val + 1)
    | ⟨4, _⟩ => fun _ => acc2 V c (t.val + 1)
  Φ _ := Pipeline.scopedRest (Ix := HIx 1) (Name := ℕ) (U := UU) (Lvl := ℕ) (Val := Elt F) spec0 c
  q _ := fullShare
  owed _ := (K (F := F)).Otc c 0
  recorded _ := low (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg0.N) (x) : (dat V c).before 0 t x = b0 V c t := ((dat V c).before_fetched 0 t (fetch0_0 t) x).trans rfl
theorem before1 (c : Dev nD) (t : Fin cfg0.N) (x) : (dat V c).before 1 t x = b1 V c t := ((dat V c).before_fetched 1 t (fetch0_1 t) x).trans rfl
theorem before2 (c : Dev nD) (t : Fin cfg0.N) (x) : (dat V c).before 2 t x = b2 V c t := ((dat V c).before_fetched 2 t (fetch0_2 t) x).trans rfl

theorem flush3 (t : Fin cfg0.N) (h : t.val < 26) : (cfg0.win 3).flush t = false := by
  rw [Bool.eq_false_iff]; intro hf; have := (flush0_3 t).mp hf; omega
theorem flush4 (t : Fin cfg0.N) (h : t.val < 26) : (cfg0.win 4).flush t = false := by
  rw [Bool.eq_false_iff]; intro hf; have := (flush0_4 t).mp hf; omega

theorem lt27 (t : Fin cfg0.N) : t.val < 27 := N_0 ▸ t.isLt

theorem before3 (c : Dev nD) (t : Fin cfg0.N) (ht : t.val ≠ 0) (x) : (dat V c).before 3 t x = fun _ => acc1 V c t.val := by
  have h := lt27 t
  refine ((dat V c).before_out_kept 3 rfl t ht (flush3 _ (by show t.val - 1 < 26; omega)) (fun _ => rfl) (fun _ _ => rfl) x).trans ?_
  show (fun _ => acc1 V c (t.val - 1 + 1)) = _
  rw [Nat.sub_add_cancel (by omega)]
theorem before4 (c : Dev nD) (t : Fin cfg0.N) (ht : t.val ≠ 0) (x) : (dat V c).before 4 t x = fun _ => acc2 V c t.val := by
  have h := lt27 t
  refine ((dat V c).before_out_kept 4 rfl t ht (flush4 _ (by show t.val - 1 < 26; omega)) (fun _ => rfl) (fun _ _ => rfl) x).trans ?_
  show (fun _ => acc2 V c (t.val - 1 + 1)) = _
  rw [Nat.sub_add_cancel (by omega)]

theorem coord_val : ∀ t : Fin grid0.N, ((grid0.coords t) 0).val = t.val := by decide +kernel

theorem body_obligation (c : Dev nD) : BodyObligation (dat V c) (defs₀ (F := F)) 𝒱₀ none Set.univ := fun t => by
  rw [bigSep_W0, bigSep_W0]
  rw [show (dat V c).Φ t.succ = (dat V c).Φ t.castSucc from rfl, show (dat V c).owesAt none t.succ = (dat V c).owesAt none t.castSucc from rfl]
  dsimp only
  iintro ⟨HΦ, HO, ⟨%x0, H0⟩, ⟨%x1, H1⟩, ⟨%x2, H2⟩, ⟨%x3, H3⟩, ⟨%x4, H4⟩⟩
  rw [before0, before1, before2]
  iapply (wp_wand _ _) $$ [H0 H1 H2 H3 H4]
  · iapply (wp_tcbody c (grid0.coords t) _ _ _ _ _ _ _ _ _ _ (b0 V c t) (b1 V c t) (b2 V c t) ((dat V c).before 3 t x3) ((dat V c).before 4 t x4) (acc1 V c t.val) (acc2 V c t.val) ?_ ?_) $$ [H0 H1 H2 H3 H4]
    · rw [coord_val]
      by_cases ht : t.val = 0
      · rw [if_pos ht, ht]; rfl
      · rw [if_neg ht, before3 V c t ht]
    · rw [coord_val]
      by_cases ht : t.val = 0
      · rw [if_pos ht, ht]; rfl
      · rw [if_neg ht, before4 V c t ht]
    isplitl [H0]; · iexact H0
    isplitl [H1]; · iexact H1
    isplitl [H2]; · iexact H2
    isplitl [H3]; · iexact H3
    iexact H4
  rw [← acc1_succ, ← acc2_succ]
  iintro %_ ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-- The first result after the region. -/
theorem arr3 (c : Dev nD) : (dat V c).arrAt 3 cfg0.N = (fun _ => acc1 V c 27 : Vec F S1x1 .f32) := by
  have hN : cfg0.N = 26 + 1 := N_0
  have h : 26 < cfg0.N := by rw [hN]; omega
  rw [hN]
  rw [Pipeline.Dat.arrAt]
  dsimp only
  rw [dif_pos h, (flush0_3 ⟨26, h⟩).mpr rfl, if_pos rfl]
  funext y
  rw [show y = ((cfg0.win 3).blk ⟨26, h⟩).view.emb i11 from Subsingleton.elim (α := S1x1.Idx) _ _]
  refine (View.write_emb _ _ _ _).trans ?_
  rw [if_pos (Finset.mem_univ _)]
  rfl
theorem arr4 (c : Dev nD) : (dat V c).arrAt 4 cfg0.N = (fun _ => acc2 V c 27 : Vec F S1x1 .f32) := by
  have hN : cfg0.N = 26 + 1 := N_0
  have h : 26 < cfg0.N := by rw [hN]; omega
  rw [hN]
  rw [Pipeline.Dat.arrAt]
  dsimp only
  rw [dif_pos h, (flush0_4 ⟨26, h⟩).mpr rfl, if_pos rfl]
  funext y
  rw [show y = ((cfg0.win 4).blk ⟨26, h⟩).view.emb i11 from Subsingleton.elim (α := S1x1.Idx) _ _]
  refine (View.write_emb _ _ _ _).trans ?_
  rw [if_pos (Finset.mem_univ _)]
  rfl

variable (Vp : (c : Dev nD) → (b : Ref sig .tc) → Buf (Elt F) ((c : Thread nD τ).loc b))

/-- What the core owes and has waited on, beside the region. -/
def tcOwes (F : FTy → Type) [FloatOps F] (c : Dev nD) : sProp 𝕄 :=
  iprop(∃ W, ⌜(K (F := F)).WBelow (c : Thread nD τ) W 0⌝ ∗ owes (c : Thread nD τ) ((K (F := F)).Otc c 0) W)

theorem owesAt_eq (c : Dev nD) (t : Fin (cfg0.N + 1)) : ((dat V c).owesAt none t : sProp 𝕄) = tcOwes F c := by
  have e : ∀ W : Waits sig (HIx 1), ((↑W : Set (SemLoc sig × HIx 1)) ⊆ (dat V c).bound none t) = (K (F := F)).WBelow (c : Thread nD τ) W 0 := by
    intro W
    apply propext
    constructor
    · intro h p hp
      rcases h hp with h | ⟨w, s, h⟩
      · exact h
      · rw [h]; exact le_refl 0
    · intro h p hp
      exact .inl (h p hp)
  unfold Pipeline.Dat.owesAt Pipeline.owesWithin tcOwes
  refine congrArg _ (funext fun W => ?_)
  rw [← e]
  rfl

theorem Otc_none (c : Dev nD) (g) : (K (F := F)).Otc c 0 g none = 0 := by
  by_contra h
  have := SparseCore.Cfg.lev_of_Otc_pos (K := K (F := F)) (Nat.pos_of_ne_zero h)
  rw [SparseCore.Cfg.lev_none] at this
  omega

set_option backward.isDefEq.respectTransparency.types false in
/-- The TensorCore call, over the device's buffers. -/
def reg (hV3 : ∀ c, Vp c main_v12_0 = (fun _ => acc1 V c 27 : Vec F S1x1 .f32)) (hV4 : ∀ c, Vp c main_v12_1 = (fun _ => acc2 V c 27 : Vec F S1x1 .f32))
    (hVp : ∀ c (b : Ref sig .tc), b ≠ main_v12_0 → b ≠ main_v12_1 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (V c) ∗ tcOwes F c)
  post c := iprop(unscopedBufs c (Vp c) ∗ tcOwes F c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Entails.of_eq (owesAt_eq V c 0).symm) $$ HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp c main_v11 (by decide) (by decide)).symm
        · exact ((pdats V 0 c).arrAt_in 1 rfl _).trans (hVp c main_v0 (by decide) (by decide)).symm
        · exact ((pdats V 0 c).arrAt_in 2 rfl _).trans (hVp c main_v1 (by decide) (by decide)).symm
        · exact (arr3 V c).trans (hV3 c).symm
        · exact (arr4 V c).trans (hV4 c).symm)
      (fun b hb => hVp c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    iapply (show ((pdats V 0 c).owesAt none (Fin.last (Pipeline.pin (pcfgs (F := F)) adm 0).N) : sProp 𝕄) ⊢ tcOwes F c from Entails.of_eq (owesAt_eq V c (Fin.last _))) $$ HO

end Region

end Cert.Proof

end
-- ==== Proof.Tok.lean ====
module

public import proofs.«01_k».proof.Proof.Common
public import Idealize.ShloMosaic.Lib.ValueIdx

@[expose] public section

noncomputable section

namespace Cert.Proof

open Cert.KernelIdeal Cert.KernelIdeal.Gen
open Idealize.ShloMosaic Idealize.SL.Sem

variable {F : FTy → Type} [FloatOps F]

/-- What a vector subcore carries through its loops: eight partial sums and eight zero marks, sixteen lanes each. -/
abbrev Acc (F : FTy → Type) : Type :=
  FVec F S16 .f32 × FVec F S16 .f32 × FVec F S16 .f32 × FVec F S16 .f32 × FVec F S16 .f32 × FVec F S16 .f32 × FVec F S16 .f32 × FVec F S16 .f32 × IVec S16 32 × IVec S16 32 × IVec S16 32 × IVec S16 32 × IVec S16 32 × IVec S16 32 × IVec S16 32 × IVec S16 32

/-- The sixteen lanes of a loaded `1 × 16` block. -/
abbrev lanes (x : Vec F S1x16 .f32) : FVec F S16 .f32 := shapeCast S16 x shapeCasts_S1x16_S16

/-- A partial sum after one more group of lanes: `a + y · (log x / ln 2)`. -/
def accUp (a x y : FVec F S16 .f32) : FVec F S16 .f32 :=
  addf a (mulf y (divf (log x) (broadcast S16 (Scalar.ofBits .f32 0x3F317218#32))))

/-- A zero mark after one more group of lanes: zero once some `x` has been zero. -/
def zUp (z : IVec S16 32) (x : FVec F S16 .f32) : IVec S16 32 :=
  minsi z (select (cmpf .oeq x (broadcast S16 (Scalar.ofBits .f32 0x00000000#32))) (broadcast S16 0#32) (broadcast S16 2147483647#32))

/-- Where row `j + t`, columns `c …`, begins. -/
abbrev rowOff (j t : BitVec 32) (c : Nat) : Fin 2 → Nat := ![(Scalar.indexCast (Scalar.addi j t)).toNat, c]

theorem rowOff_inb {j t : BitVec 32} (h : (Scalar.addi j t).toNat < 128) {c : Nat} (hc : c + 16 ≤ 128) :
    ∀ a, rowOff j t c a + S1x16.size a ≤ S128x128.size a := fun a => match a with
  | 0 => Nat.succ_le_of_lt h
  | 1 => hc

section Row
variable (P Q : Memref sig .scVector .vmem S128x128 .f32)

/-- Sixteen lanes of a gathered block. -/
abbrev ld {c : Fin τ.nSC} {s : Fin τ.nSub} (P : Memref sig .scVector .vmem S128x128 .f32) {j t : BitVec 32} (h : (Scalar.addi j t).toNat < 128) (n : Nat) (hn : n + 16 ≤ 128) :
    Prog (TpuEff nD τ sig (Elt F) Λ₀ (.scVector c s)) (Vec F S1x16 .f32) :=
  Prog.lift (.load P (Rect.unit (s := S128x128) (rowOff j t n) S1x16.size (rowOff_inb h hn)).toLoadRect (View.loadsAt_vmem h_S1x16))

/-- One row of the two gathered blocks, added into the sums and marks. -/
def rowProg {c : Fin τ.nSC} {s : Fin τ.nSub} (j t : BitVec 32) (h : (Scalar.addi j t).toNat < 128) : Acc F → Prog (TpuEff nD τ sig (Elt F) Λ₀ (.scVector c s)) (Acc F) :=
  fun (a0, a1, a2, a3, a4, a5, a6, a7, z0, z1, z2, z3, z4, z5, z6, z7) => do
    let x0 ← ld P h 0 (by decide); let y0 ← ld Q h 0 (by decide)
    let x1 ← ld P h 16 (by decide); let y1 ← ld Q h 16 (by decide)
    let x2 ← ld P h 32 (by decide); let y2 ← ld Q h 32 (by decide)
    let x3 ← ld P h 48 (by decide); let y3 ← ld Q h 48 (by decide)
    let x4 ← ld P h 64 (by decide); let y4 ← ld Q h 64 (by decide)
    let x5 ← ld P h 80 (by decide); let y5 ← ld Q h 80 (by decide)
    let x6 ← ld P h 96 (by decide); let y6 ← ld Q h 96 (by decide)
    let x7 ← ld P h 112 (by decide); let y7 ← ld Q h 112 (by decide)
    pure (accUp a0 (lanes x0) (lanes y0), accUp a1 (lanes x1) (lanes y1), accUp a2 (lanes x2) (lanes y2), accUp a3 (lanes x3) (lanes y3),
      accUp a4 (lanes x4) (lanes y4), accUp a5 (lanes x5) (lanes y5), accUp a6 (lanes x6) (lanes y6), accUp a7 (lanes x7) (lanes y7),
      zUp z0 (lanes x0), zUp z1 (lanes x1), zUp z2 (lanes x2), zUp z3 (lanes x3), zUp z4 (lanes x4), zUp z5 (lanes x5), zUp z6 (lanes x6), zUp z7 (lanes x7))

/-- One token of a gathered unit: rows `t`, `16 + t`, … `112 + t`. -/
def tokProg {c : Fin τ.nSC} {s : Fin τ.nSub} (t : BitVec 32) (h : ∀ r : Fin 8, (Scalar.addi (BitVec.ofNat 32 (16 * r.val)) t).toNat < 128) (a : Acc F) :
    Prog (TpuEff nD τ sig (Elt F) Λ₀ (.scVector c s)) (Acc F) := do
  let a ← rowProg P Q 0#32 t (h 0) a
  let a ← rowProg P Q 16#32 t (h 1) a
  let a ← rowProg P Q 32#32 t (h 2) a
  let a ← rowProg P Q 48#32 t (h 3) a
  let a ← rowProg P Q 64#32 t (h 4) a
  let a ← rowProg P Q 80#32 t (h 5) a
  let a ← rowProg P Q 96#32 t (h 6) a
  rowProg P Q 112#32 t (h 7) a

end Row

theorem t2_eq (i : grid1.Coords) (arg2 : Memref sig .scVector .hbm S5632 .i32) (harg2 : arg2.IsWhole) (arg3 : Memref sig .scVector .hbm S401408x128 .f32) (harg3 : arg3.IsWhole) (arg4 : Memref sig .scVector .hbm S401408x128 .f32) (harg4 : arg4.IsWhole) (arg5 : Memref sig .scVector .hbm S32x16 .f32) (harg5 : arg5.IsWhole) (arg6 : Memref sig .scVector .vmem S176 .i32) (harg6 : arg6.IsWhole) (arg7 : Memref sig .scVector .vmem S11x16 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S16 .f32) (harg14 : arg14.IsWhole) (arg15 : Memref sig .scVector .vmem S16 .i32) (harg15 : arg15.IsWhole) (arg16 : DmaSems sig S_) (arg17 : DmaSems sig S_) (arg18 : DmaSems sig S_) (arg19 : DmaSems sig S_) (v782_r0 : DmaSems sig S_) (v782_r1 : DmaSems sig S_) (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (v713 : BitVec 32) (v716 : BitVec 32) (v737 : BitVec 32) (v738 : FVec F S16 .f32) (v739 : FVec F S16 .f32) (v740 : FVec F S16 .f32) (v741 : FVec F S16 .f32) (v742 : FVec F S16 .f32) (v743 : FVec F S16 .f32) (v744 : FVec F S16 .f32) (v745 : FVec F S16 .f32) (v746 : IVec S16 32) (v747 : IVec S16 32) (v748 : IVec S16 32) (k1_t1 : Fin (k1_t1_loop v102 v163 v224 v285 v346 v407 v468 v529 v590 v651 v712).trips) (k1_h2 : k1_cond2 v102 v163 v224 v285 v346 v407 v468 v529 v590 v651 v712 k1_t1 = 1#1) (t2 : Fin (k1_t2_loop v102 v163 v224 v285 v346 v407 v468 v529 v590 v651 v712 k1_t1).trips) (h : ∀ r : Fin 8, (Scalar.addi (BitVec.ofNat 32 (16 * r.val)) (Scf.iv 0#32 1#32 t2)).toNat < 128) (a : Acc F) :
    k1_t2_body i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 v102 v163 v224 v285 v346 v407 v468 v529 v590 v651 v712 k1_hw56 v713 v716 v737 v738 v739 v740 v741 v742 v743 v744 v745 v746 v747 v748 k1_t1 k1_h2 t2 a = tokProg arg10 arg12 (Scf.iv 0#32 1#32 t2) h a := by
  obtain ⟨a0, a1, a2, a3, a4, a5, a6, a7, z0, z1, z2, z3, z4, z5, z6, z7⟩ := a
  rfl

end Cert.Proof
end
-- ==== Proof.TokWp.lean ====
/-
  What one token of a gathered unit does: the pure functions it computes and the triples of its loads.
-/
module

public import proofs.«01_k».proof.Proof.Tok
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

/-- Lanes `16 n … 16 n + 15` of row `r`. -/
def blk (g : Vec F S128x128 .f32) (r : Fin 128) (n : Nat) (hn : n + 16 ≤ 128) : FVec F S16 .f32 :=
  fun l => g (ix2 r ⟨n + (l 0).val, by have := (l 0).isLt; simp at this; omega⟩)

/-- Row `r` of the blocks `g` and `h` added into the sums and marks. -/
def rowUp (g h : Vec F S128x128 .f32) (r : Fin 128) : Acc F → Acc F :=
  fun (a0, a1, a2, a3, a4, a5, a6, a7, z0, z1, z2, z3, z4, z5, z6, z7) =>
    (accUp a0 (blk g r 0 (by decide)) (blk h r 0 (by decide)), accUp a1 (blk g r 16 (by decide)) (blk h r 16 (by decide)),
      accUp a2 (blk g r 32 (by decide)) (blk h r 32 (by decide)), accUp a3 (blk g r 48 (by decide)) (blk h r 48 (by decide)),
      accUp a4 (blk g r 64 (by decide)) (blk h r 64 (by decide)), accUp a5 (blk g r 80 (by decide)) (blk h r 80 (by decide)),
      accUp a6 (blk g r 96 (by decide)) (blk h r 96 (by decide)), accUp a7 (blk g r 112 (by decide)) (blk h r 112 (by decide)),
      zUp z0 (blk g r 0 (by decide)), zUp z1 (blk g r 16 (by decide)), zUp z2 (blk g r 32 (by decide)), zUp z3 (blk g r 48 (by decide)),
      zUp z4 (blk g r 64 (by decide)), zUp z5 (blk g r 80 (by decide)), zUp z6 (blk g r 96 (by decide)), zUp z7 (blk g r 112 (by decide)))

/-- Token `t < 16` of the blocks: rows `t`, `16 + t`, …, `112 + t`. -/
def tokUp (g h : Vec F S128x128 .f32) (t : Nat) (ht : t < 16) (a : Acc F) : Acc F :=
  (rowUp g h ⟨16 * ((7 : Fin 8)).val + t, by simp; omega⟩
    (rowUp g h ⟨16 * ((6 : Fin 8)).val + t, by simp; omega⟩
    (rowUp g h ⟨16 * ((5 : Fin 8)).val + t, by simp; omega⟩
    (rowUp g h ⟨16 * ((4 : Fin 8)).val + t, by simp; omega⟩
    (rowUp g h ⟨16 * ((3 : Fin 8)).val + t, by simp; omega⟩
    (rowUp g h ⟨16 * ((2 : Fin 8)).val + t, by simp; omega⟩
    (rowUp g h ⟨16 * ((1 : Fin 8)).val + t, by simp; omega⟩
    (rowUp g h ⟨16 * ((0 : Fin 8)).val + t, by simp; omega⟩
    a))))))))

section Wp
variable (d : Dev nD) (c : Fin τ.nSC) (s : Fin τ.nSub)
variable {P Q : Memref sig .scVector .vmem S128x128 .f32}

theorem lanes_read (P : Memref sig .scVector .vmem S128x128 .f32) (f : Buf (Elt F) (P.view.loc (V d c s))) {j t : BitVec 32} (h : (Scalar.addi j t).toNat < 128) {n : Nat} (hn : n + 16 ≤ 128) :
    lanes ((P.access (Rect.unit (s := S128x128) (rowOff j t n) S1x16.size (rowOff_inb h hn))).read (Elt F) f)
      = blk (P.view.read (Elt F) f) ⟨_, h⟩ n hn := by
  funext l
  refine (shapeCast_dropUnit_apply (n := 1) ![16] _ _ l).trans ?_
  show (P.view.read (Elt F) f) ((Rect.unit (s := S128x128) (rowOff j t n) S1x16.size (rowOff_inb h hn)).emb (Fin.cons ⟨0, Nat.one_pos⟩ l)) = _
  unfold blk
  congr 1
  funext a
  apply Fin.ext
  match a with
  | 0 => simp [Rect.emb, Rect.unit, rowOff, Scalar.indexCast]; rfl
  | 1 => simp [Rect.emb, Rect.unit, rowOff]; rfl

theorem wp_ld {q : PosShare TreeShare} {f : Buf (Elt F) (P.view.loc (V d c s))} {j t : BitVec 32} (h : (Scalar.addi j t).toNat < 128) {n : Nat} (hn : n + 16 ≤ 128)
    {Φ : Vec F S1x16 .f32 → sProp 𝕄} :
    (P.view.loc (V d c s) ↦[P.view.set]{q} f)
      ⊢ iprop((∀ x, ⌜lanes x = blk (P.view.read (Elt F) f) ⟨_, h⟩ n hn⌝ -∗ (P.view.loc (V d c s) ↦[P.view.set]{q} f) -∗ Φ x)
        -∗ wp frame (wpE (defs₀ (F := F)) 𝒱₀ (V d c s) none) Set.univ (ld (F := F) (c := c) (s := s) P h n hn) Φ) := by
  iintro Hp HΦ
  iapply (wp_load_rect (defs := defs₀ (F := F)) 𝒱₀ (V d c s) none Set.univ (m := P)
    (r := Rect.unit (s := S128x128) (rowOff j t n) S1x16.size (rowOff_inb h hn)) (f := f) (q := q) (k := fun x => Prog.ret x)
    (S := P.view.set) (View.set_slice_subset _ _)) $$ Hp
  iintro Hp
  rw [wp_ret]
  imodintro
  iapply HΦ $$ %_ %(lanes_read d c s P f h hn) Hp

theorem wp_row {q q' : PosShare TreeShare} {f : Buf (Elt F) (P.view.loc (V d c s))} {f' : Buf (Elt F) (Q.view.loc (V d c s))} {j t : BitVec 32}
    (h : (Scalar.addi j t).toNat < 128) (a : Acc F) {Φ : Acc F → sProp 𝕄} :
    iprop((P.view.loc (V d c s) ↦[P.view.set]{q} f) ∗ (Q.view.loc (V d c s) ↦[Q.view.set]{q'} f'))
      ⊢ iprop(((P.view.loc (V d c s) ↦[P.view.set]{q} f) ∗ (Q.view.loc (V d c s) ↦[Q.view.set]{q'} f')
            -∗ Φ (rowUp (P.view.read (Elt F) f) (Q.view.read (Elt F) f') ⟨_, h⟩ a))
        -∗ wp frame (wpE (defs₀ (F := F)) 𝒱₀ (V d c s) none) Set.univ (rowProg (F := F) (c := c) (s := s) P Q j t h a) Φ) := by
  obtain ⟨a0, a1, a2, a3, a4, a5, a6, a7, z0, z1, z2, z3, z4, z5, z6, z7⟩ := a
  simp only [rowUp]
  iintro ⟨Hp, Hq⟩ HΦ
  unfold rowProg
  rw [wp_bind]
  iapply (wp_ld d c s h _) $$ Hp
  iintro %x0 %hx0 Hp
  rw [wp_bind]
  iapply (wp_ld d c s h _) $$ Hq
  iintro %y0 %hy0 Hq
  rw [wp_bind]
  iapply (wp_ld d c s h _) $$ Hp
  iintro %x1 %hx1 Hp
  rw [wp_bind]
  iapply (wp_ld d c s h _) $$ Hq
  iintro %y1 %hy1 Hq
  rw [wp_bind]
  iapply (wp_ld d c s h _) $$ Hp
  iintro %x2 %hx2 Hp
  rw [wp_bind]
  iapply (wp_ld d c s h _) $$ Hq
  iintro %y2 %hy2 Hq
  rw [wp_bind]
  iapply (wp_ld d c s h _) $$ Hp
  iintro %x3 %hx3 Hp
  rw [wp_bind]
  iapply (wp_ld d c s h _) $$ Hq
  iintro %y3 %hy3 Hq
  rw [wp_bind]
  iapply (wp_ld d c s h _) $$ Hp
  iintro %x4 %hx4 Hp
  rw [wp_bind]
  iapply (wp_ld d c s h _) $$ Hq
  iintro %y4 %hy4 Hq
  rw [wp_bind]
  iapply (wp_ld d c s h _) $$ Hp
  iintro %x5 %hx5 Hp
  rw [wp_bind]
  iapply (wp_ld d c s h _) $$ Hq
  iintro %y5 %hy5 Hq
  rw [wp_bind]
  iapply (wp_ld d c s h _) $$ Hp
  iintro %x6 %hx6 Hp
  rw [wp_bind]
  iapply (wp_ld d c s h _) $$ Hq
  iintro %y6 %hy6 Hq
  rw [wp_bind]
  iapply (wp_ld d c s h _) $$ Hp
  iintro %x7 %hx7 Hp
  rw [wp_bind]
  iapply (wp_ld d c s h _) $$ Hq
  iintro %y7 %hy7 Hq
  rw [wp_pure]
  imodintro
  rw [hx0, hx1, hx2, hx3, hx4, hx5, hx6, hx7, hy0, hy1, hy2, hy3, hy4, hy5, hy6, hy7]
  iapply HΦ
  isplitl [Hp]
  · iexact Hp
  · iexact Hq

theorem wp_tok {q q' : PosShare TreeShare} {f : Buf (Elt F) (P.view.loc (V d c s))} {f' : Buf (Elt F) (Q.view.loc (V d c s))} {t : BitVec 32}
    (h : ∀ r : Fin 8, (Scalar.addi (BitVec.ofNat 32 (16 * r.val)) t).toNat < 128) (ht : t.toNat < 16) (a : Acc F) {Φ : Acc F → sProp 𝕄} :
    iprop((P.view.loc (V d c s) ↦[P.view.set]{q} f) ∗ (Q.view.loc (V d c s) ↦[Q.view.set]{q'} f'))
      ⊢ iprop(((P.view.loc (V d c s) ↦[P.view.set]{q} f) ∗ (Q.view.loc (V d c s) ↦[Q.view.set]{q'} f')
            -∗ Φ (tokUp (P.view.read (Elt F) f) (Q.view.read (Elt F) f') t.toNat ht a))
        -∗ wp frame (wpE (defs₀ (F := F)) 𝒱₀ (V d c s) none) Set.univ (tokProg (F := F) (c := c) (s := s) P Q t h a) Φ) := by
  have e : ∀ r : Fin 8, (⟨_, h r⟩ : Fin 128) = ⟨16 * r.val + t.toNat, by omega⟩ := fun r => Fin.ext (by
    show (BitVec.ofNat 32 (16 * r.val) + t).toNat = _
    rw [BitVec.toNat_add, BitVec.toNat_ofNat]; have := r.isLt; simp only []; omega)
  unfold tokUp
  rw [← e 0, ← e 1, ← e 2, ← e 3, ← e 4, ← e 5, ← e 6, ← e 7]
  iintro Hpq HΦ
  unfold tokProg
  rw [wp_bind]
  iapply (wp_row d c s (h 0)) $$ Hpq
  iintro Hpq
  rw [wp_bind]
  iapply (wp_row d c s (h 1)) $$ Hpq
  iintro Hpq
  rw [wp_bind]
  iapply (wp_row d c s (h 2)) $$ Hpq
  iintro Hpq
  rw [wp_bind]
  iapply (wp_row d c s (h 3)) $$ Hpq
  iintro Hpq
  rw [wp_bind]
  iapply (wp_row d c s (h 4)) $$ Hpq
  iintro Hpq
  rw [wp_bind]
  iapply (wp_row d c s (h 5)) $$ Hpq
  iintro Hpq
  rw [wp_bind]
  iapply (wp_row d c s (h 6)) $$ Hpq
  iintro Hpq
  iapply (wp_row d c s (h 7)) $$ Hpq
  iintro Hpq
  iapply HΦ $$ Hpq

end Wp
end Cert.Proof
end
-- ==== Proof.Body.lean ====
/-
  The vector subcore's body once more, in the shape it was written: the printed windows rolled back into one program for
  a chunk of the compaction, one for starting a unit's gathers, one for a unit of work, one for a pair of units.
-/
module

public import proofs.«01_k».proof.Proof.Tok

@[expose] public section

noncomputable section

namespace Cert.Proof

open Cert.KernelIdeal Cert.KernelIdeal.Gen
open Idealize.ShloMosaic Idealize.SL.Sem

variable {F : FTy → Type} [FloatOps F]

/-! ## The words -/

/-- The sign of a word: one, zero or minus one. -/
abbrev sgnW (x : BitVec 32) : BitVec 32 := Scalar.subi (Scalar.extui (Scalar.cmpi .sgt x 0#32)) (Scalar.extui (Scalar.cmpi .slt x 0#32))

/-- Division rounding down, as the host's integer division is spelled. -/
def fdivW (x n : BitVec 32) : BitVec 32 :=
  Scalar.select (Scalar.andi (Scalar.cmpi .ne (sgnW x) (sgnW n)) (Scalar.cmpi .ne (Scalar.remsi x n) 0#32)) (Scalar.subi (Scalar.divsi x n) 1#32) (Scalar.divsi x n)

/-- The divisor of a remainder, one where it would be zero. -/
abbrev modN (n : BitVec 32) : BitVec 32 := Scalar.select (Scalar.cmpi .eq n 0#32) 1#32 n

/-- Remainder of division rounding down. -/
def fmodW (x n : BitVec 32) : BitVec 32 :=
  Scalar.select (Scalar.andi (Scalar.xori (Scalar.cmpi .slt (Scalar.remsi x (modN n)) 0#32) (Scalar.cmpi .slt (modN n) 0#32)) (Scalar.cmpi .ne (Scalar.remsi x (modN n)) 0#32))
    (Scalar.addi (Scalar.remsi x (modN n)) (modN n)) (Scalar.remsi x (modN n))

/-- Units of work for `cum` tokens: four for each sixteen tokens begun. -/
def totalW (cum : BitVec 32) : BitVec 32 := Scalar.muli (Scalar.shrsi (Scalar.addi cum 15#32) 4#32) 4#32

/-- Whether unit `u` is one of them. -/
def inW (cum u : BitVec 32) : BitVec 1 := Scalar.cmpi .ne ((Scalar.extui (Scalar.cmpi .slt u (totalW cum)) : BitVec 32)) 0#32

/-- Pairs of units. -/
def pairsW (cum : BitVec 32) : BitVec 32 := fdivW (Scalar.addi (totalW cum) 1#32) 2#32

/-- The tokens of unit `u`. -/
def validW (cum u : BitVec 32) : BitVec 32 := Scalar.minsi (Scalar.subi cum (Scalar.muli (fdivW u 4#32) 16#32)) 16#32

/-- A count from zero to `n`: the part the printed loop runs in whole steps, and what remains. -/
@[reducible] def loopA (n : BitVec 32) : Scf.Loop 32 := ⟨0#32, Scalar.addi 0#32 (Scalar.muli (Scalar.divsi (Scalar.subi n 0#32) 1#32) 1#32), 1#32⟩
@[reducible] def loopB (n : BitVec 32) : Scf.Loop 32 :=
  ⟨Scalar.addi 0#32 (Scalar.muli (Scalar.divsi (Scalar.subi n 0#32) 1#32) 1#32), Scalar.addi 0#32 (Scalar.subi n 0#32), 1#32⟩

/-! ## Programs -/

variable {c : Fin τ.nSC} {s : Fin τ.nSub}

abbrev iotaV : IVec S16 32 := iota .scVector S16 32 [0] iota_S16_d0_w32_scVector

local notation "PV" => Prog (TpuEff nD τ sig (Elt F) Λ₀ (Proc.scVector c s))

/-- A load whose value the program drops, then a store of sixteen words, at word `o` of a list. -/
def put (idx : Memref sig .scVector .vmem S128 .i32) (o : Nat) (ho : ∀ a, (![o] : Fin 1 → Nat) a + S16.size a ≤ S128.size a) (w : IVec S16 32) : PV PUnit := do
  let _v : Vec F S16 .i32 ← Prog.lift (.load idx (Rect.unit (s := S128) ![o] S16.size ho).toLoadRect (View.loadsAt_vmem h_S16))
  Prog.lift (.store idx (Rect.unit (s := S128) ![o] S16.size ho) w Finset.univ (View.stores_vmem_bits_univ h_S16 rfl) (.inl rfl))

/-- The rows of the tables a token's words lead to, the first of the unit's eight per token. -/
def baseIx (u : BitVec 32) (t : IVec S16 32) : IVec S16 32 :=
  addi (addi (addi (muli (shrui t (broadcast S16 6#32)) (broadcast S16 2048#32)) (muli (shrsi (andi t (broadcast S16 63#32)) (broadcast S16 3#32)) (broadcast S16 256#32)))
    (andi (andi t (broadcast S16 63#32)) (broadcast S16 7#32))) (broadcast S16 (Scalar.muli (fmodW u 4#32) 64#32))

/-- Row `r` of the tokens begins here. -/
abbrev rowOff11 (g : BitVec 32) : Fin 2 → Nat := ![(Scalar.indexCast g).toNat, 0]
theorem rowOff11_inb {g : BitVec 32} (h : g.toNat < 11) : ∀ a, rowOff11 g a + S1x16.size a ≤ S11x16.size a := fun a => match a with
  | 0 => Nat.succ_le_of_lt h
  | 1 => (by decide : 0 + 16 ≤ 16)

abbrev tableAll (P : Memref sig .scVector .hbm S401408x128 .f32) : Memref sig .scVector .hbm S401408x128 .f32 :=
  P.slice (Rect.unit (s := S401408x128) ![0, 0] S401408x128.size inb_S401408x128_S401408x128_0_0) (fun _ => rfl)

/-- The list of a unit's rows. -/
def buildProg (tok : Memref sig .scVector .vmem S11x16 .i32) (idx : Memref sig .scVector .vmem S128 .i32) (u : BitVec 32) (h : (fdivW u 4#32).toNat < 11) : PV PUnit := do
  let t : Vec F S1x16 .i32 ← Prog.lift (.load tok (Rect.unit (s := S11x16) (rowOff11 (fdivW u 4#32)) S1x16.size (rowOff11_inb h)).toLoadRect (View.loadsAt_vmem h_S1x16))
  let b : IVec S16 32 := baseIx u (shapeCast S16 t shapeCasts_S1x16_S16)
  put (F := F) idx 0 inb_S128_S16_0 (addi b (broadcast S16 0#32))
  put (F := F) idx 16 inb_S128_S16_16 (addi b (broadcast S16 8#32))
  put (F := F) idx 32 inb_S128_S16_32 (addi b (broadcast S16 16#32))
  put (F := F) idx 48 inb_S128_S16_48 (addi b (broadcast S16 24#32))
  put (F := F) idx 64 inb_S128_S16_64 (addi b (broadcast S16 32#32))
  put (F := F) idx 80 inb_S128_S16_80 (addi b (broadcast S16 40#32))
  put (F := F) idx 96 inb_S128_S16_96 (addi b (broadcast S16 48#32))
  put (F := F) idx 112 inb_S128_S16_112 (addi b (broadcast S16 56#32))

/-- Start unit `u`: build its list and start the two gathers over it. -/
def fireProg (P T : Memref sig .scVector .hbm S401408x128 .f32) (tok : Memref sig .scVector .vmem S11x16 .i32) (idx : Memref sig .scVector .vmem S128 .i32)
    (dP dT : Memref sig .scVector .vmem S128x128 .f32) (sP sT : DmaSems sig S_) (u : BitVec 32) (h : (fdivW u 4#32).toNat < 11) : PV PUnit := do
  buildProg (F := F) tok idx u h
  SparseCore.enqueueIndirectGather rfl (tableAll P) dP gathers_S401408x128_S128x128 idx rfl sP.sem (View.wordExact_bits rfl) rfl (Or.inl rfl)
  SparseCore.enqueueIndirectGather rfl (tableAll T) dT gathers_S401408x128_S128x128 idx rfl sT.sem (View.wordExact_bits rfl) rfl (Or.inl rfl)
  pure ⟨⟩

/-- The tokens of a unit whose gathers have landed. -/
def unitProg (dP dT : Memref sig .scVector .vmem S128x128 .f32) (n : BitVec 32) (hA : (loopA n).OK) (hB : (loopB n).OK)
    (hrA : ∀ (t : Fin (loopA n).trips) (r : Fin 8), (Scalar.addi (BitVec.ofNat 32 (16 * r.val)) (Scf.iv 0#32 1#32 t)).toNat < 128)
    (hrB : ∀ (t : Fin (loopB n).trips) (r : Fin 8), (Scalar.addi (BitVec.ofNat 32 (16 * r.val)) (Scf.iv (loopB n).lb 1#32 t)).toNat < 128) (a : Acc F) : PV (Acc F) := do
  let a ← Scf.Loop.for (loopA n) hA a fun t a => tokProg dP dT (Scf.iv 0#32 1#32 t) (hrA t) a
  let a ← Scf.Loop.for (loopB n) hB a fun t a => tokProg dP dT (Scf.iv (loopB n).lb 1#32 t) (hrB t) a
  pure a

/-- What the loops over a unit's tokens ask of its count. -/
structure UnitOK (n : BitVec 32) : Prop where
  A : (loopA n).OK
  B : (loopB n).OK
  rA : ∀ (t : Fin (loopA n).trips) (r : Fin 8), (Scalar.addi (BitVec.ofNat 32 (16 * r.val)) (Scf.iv 0#32 1#32 t)).toNat < 128
  rB : ∀ (t : Fin (loopB n).trips) (r : Fin 8), (Scalar.addi (BitVec.ofNat 32 (16 * r.val)) (Scf.iv (loopB n).lb 1#32 t)).toNat < 128

/-- One unit `u`: start the next into the other slot, wait for this one's gathers, add its tokens in. -/
def halfProg (P T : Memref sig .scVector .hbm S401408x128 .f32) (tok : Memref sig .scVector .vmem S11x16 .i32)
    (dP dT : Memref sig .scVector .vmem S128x128 .f32) (hdP : dP.IsWhole) (hdT : dT.IsWhole) (sP sT : DmaSems sig S_)
    (idx' : Memref sig .scVector .vmem S128 .i32) (dP' dT' : Memref sig .scVector .vmem S128x128 .f32) (sP' sT' : DmaSems sig S_) (cum u : BitVec 32)
    (hf : inW cum (Scalar.addi u 1#32) = 1#1 → (fdivW (Scalar.addi u 1#32) 4#32).toNat < 11) (hu : UnitOK (validW cum u)) (a : Acc F) : PV (Acc F) :=
  if _h : inW cum u = 1#1 then do
    if h' : inW cum (Scalar.addi u 1#32) = 1#1 then fireProg (F := F) P T tok idx' dP' dT' sP' sT' (Scalar.addi u 1#32) (hf h') else pure ⟨⟩
    SparseCore.waitIndirectGather sP.sem (tableAll P) dP (View.wordExact_bits rfl) hdP.wordExact
    SparseCore.waitIndirectGather sT.sem (tableAll T) dT (View.wordExact_bits rfl) hdT.wordExact
    unitProg dP dT (validW cum u) hu.A hu.B hu.rA hu.rB a
  else pure a

/-- One pair of units: the even one out of the first slot, the odd one out of the second; the two units in line. -/
def pairRaw (P T : Memref sig .scVector .hbm S401408x128 .f32) (tok : Memref sig .scVector .vmem S11x16 .i32)
    (i0 i1 : Memref sig .scVector .vmem S128 .i32) (p0 p1 t0 t1 : Memref sig .scVector .vmem S128x128 .f32)
    (hp0 : p0.IsWhole) (hp1 : p1.IsWhole) (ht0 : t0.IsWhole) (ht1 : t1.IsWhole) (sP0 sP1 sT0 sT1 : DmaSems sig S_) (cum k : BitVec 32)
    (hf0 : inW cum (Scalar.addi (Scalar.addi (Scalar.muli k 2#32) 0#32) 1#32) = 1#1 → (fdivW (Scalar.addi (Scalar.addi (Scalar.muli k 2#32) 0#32) 1#32) 4#32).toNat < 11)
    (hf1 : inW cum (Scalar.addi (Scalar.addi (Scalar.muli k 2#32) 1#32) 1#32) = 1#1 → (fdivW (Scalar.addi (Scalar.addi (Scalar.muli k 2#32) 1#32) 1#32) 4#32).toNat < 11)
    (hu0 : UnitOK (validW cum (Scalar.addi (Scalar.muli k 2#32) 0#32))) (hu1 : UnitOK (validW cum (Scalar.addi (Scalar.muli k 2#32) 1#32))) (a : Acc F) : PV (Acc F) := do
  let a : Acc F ← if _h : inW cum (Scalar.addi (Scalar.muli k 2#32) 0#32) = 1#1 then do
    if h' : inW cum (Scalar.addi (Scalar.addi (Scalar.muli k 2#32) 0#32) 1#32) = 1#1 then do
      fireProg (F := F) P T tok i1 p1 t1 sP1 sT1 (Scalar.addi (Scalar.addi (Scalar.muli k 2#32) 0#32) 1#32) (hf0 h')
      pure ⟨⟩
    else do
      pure ⟨⟩
    SparseCore.waitIndirectGather sP0.sem (tableAll P) p0 (View.wordExact_bits rfl) hp0.wordExact
    SparseCore.waitIndirectGather sT0.sem (tableAll T) t0 (View.wordExact_bits rfl) ht0.wordExact
    let a ← Scf.Loop.for (loopA (validW cum (Scalar.addi (Scalar.muli k 2#32) 0#32))) hu0.A a fun t a => tokProg p0 t0 (Scf.iv 0#32 1#32 t) (hu0.rA t) a
    let a ← Scf.Loop.for (loopB (validW cum (Scalar.addi (Scalar.muli k 2#32) 0#32))) hu0.B a fun t a => tokProg p0 t0 (Scf.iv (loopB (validW cum (Scalar.addi (Scalar.muli k 2#32) 0#32))).lb 1#32 t) (hu0.rB t) a
    pure a
  else do
    pure a
  let a : Acc F ← if _h : inW cum (Scalar.addi (Scalar.muli k 2#32) 1#32) = 1#1 then do
    if h' : inW cum (Scalar.addi (Scalar.addi (Scalar.muli k 2#32) 1#32) 1#32) = 1#1 then do
      fireProg (F := F) P T tok i0 p0 t0 sP0 sT0 (Scalar.addi (Scalar.addi (Scalar.muli k 2#32) 1#32) 1#32) (hf1 h')
      pure ⟨⟩
    else do
      pure ⟨⟩
    SparseCore.waitIndirectGather sP1.sem (tableAll P) p1 (View.wordExact_bits rfl) hp1.wordExact
    SparseCore.waitIndirectGather sT1.sem (tableAll T) t1 (View.wordExact_bits rfl) ht1.wordExact
    let a ← Scf.Loop.for (loopA (validW cum (Scalar.addi (Scalar.muli k 2#32) 1#32))) hu1.A a fun t a => tokProg p1 t1 (Scf.iv 0#32 1#32 t) (hu1.rA t) a
    let a ← Scf.Loop.for (loopB (validW cum (Scalar.addi (Scalar.muli k 2#32) 1#32))) hu1.B a fun t a => tokProg p1 t1 (Scf.iv (loopB (validW cum (Scalar.addi (Scalar.muli k 2#32) 1#32))).lb 1#32 t) (hu1.rB t) a
    pure a
  else do
    pure a
  pure a

/-- One pair of units: the even one out of the first slot, the odd one out of the second. -/
def pairProg (P T : Memref sig .scVector .hbm S401408x128 .f32) (tok : Memref sig .scVector .vmem S11x16 .i32)
    (i0 i1 : Memref sig .scVector .vmem S128 .i32) (p0 p1 t0 t1 : Memref sig .scVector .vmem S128x128 .f32)
    (hp0 : p0.IsWhole) (hp1 : p1.IsWhole) (ht0 : t0.IsWhole) (ht1 : t1.IsWhole) (sP0 sP1 sT0 sT1 : DmaSems sig S_) (cum k : BitVec 32)
    (hf0 : inW cum (Scalar.addi (Scalar.addi (Scalar.muli k 2#32) 0#32) 1#32) = 1#1 → (fdivW (Scalar.addi (Scalar.addi (Scalar.muli k 2#32) 0#32) 1#32) 4#32).toNat < 11)
    (hf1 : inW cum (Scalar.addi (Scalar.addi (Scalar.muli k 2#32) 1#32) 1#32) = 1#1 → (fdivW (Scalar.addi (Scalar.addi (Scalar.muli k 2#32) 1#32) 1#32) 4#32).toNat < 11)
    (hu0 : UnitOK (validW cum (Scalar.addi (Scalar.muli k 2#32) 0#32))) (hu1 : UnitOK (validW cum (Scalar.addi (Scalar.muli k 2#32) 1#32))) (a : Acc F) : PV (Acc F) := do
  let a ← halfProg P T tok p0 t0 hp0 ht0 sP0 sT0 i1 p1 t1 sP1 sT1 cum (Scalar.addi (Scalar.muli k 2#32) 0#32) hf0 hu0 a
  halfProg P T tok p1 t1 hp1 ht1 sP1 sT1 i0 p0 t0 sP0 sT0 cum (Scalar.addi (Scalar.muli k 2#32) 1#32) hf1 hu1 a

theorem pairRaw_eq (P T : Memref sig .scVector .hbm S401408x128 .f32) (tok : Memref sig .scVector .vmem S11x16 .i32)
    (i0 i1 : Memref sig .scVector .vmem S128 .i32) (p0 p1 t0 t1 : Memref sig .scVector .vmem S128x128 .f32)
    (hp0 : p0.IsWhole) (hp1 : p1.IsWhole) (ht0 : t0.IsWhole) (ht1 : t1.IsWhole) (sP0 sP1 sT0 sT1 : DmaSems sig S_) (cum k : BitVec 32)
    (hf0 : inW cum (Scalar.addi (Scalar.addi (Scalar.muli k 2#32) 0#32) 1#32) = 1#1 → (fdivW (Scalar.addi (Scalar.addi (Scalar.muli k 2#32) 0#32) 1#32) 4#32).toNat < 11)
    (hf1 : inW cum (Scalar.addi (Scalar.addi (Scalar.muli k 2#32) 1#32) 1#32) = 1#1 → (fdivW (Scalar.addi (Scalar.addi (Scalar.muli k 2#32) 1#32) 1#32) 4#32).toNat < 11)
    (hu0 : UnitOK (validW cum (Scalar.addi (Scalar.muli k 2#32) 0#32))) (hu1 : UnitOK (validW cum (Scalar.addi (Scalar.muli k 2#32) 1#32))) (a : Acc F) :
    pairRaw (c := c) (s := s) P T tok i0 i1 p0 p1 t0 t1 hp0 hp1 ht0 ht1 sP0 sP1 sT0 sT1 cum k hf0 hf1 hu0 hu1 a = pairProg (c := c) (s := s) P T tok i0 i1 p0 p1 t0 t1 hp0 hp1 ht0 ht1 sP0 sP1 sT0 sT1 cum k hf0 hf1 hu0 hu1 a := by
  unfold pairRaw pairProg halfProg unitProg
  by_cases h0 : inW cum (Scalar.addi (Scalar.muli k 2#32) 0#32) = 1#1 <;>
  by_cases h1 : inW cum (Scalar.addi (Scalar.addi (Scalar.muli k 2#32) 0#32) 1#32) = 1#1 <;>
  by_cases h2 : inW cum (Scalar.addi (Scalar.muli k 2#32) 1#32) = 1#1 <;>
  by_cases h3 : inW cum (Scalar.addi (Scalar.addi (Scalar.muli k 2#32) 1#32) 1#32) = 1#1 <;>
  simp only [h0, h1, h2, h3, ↓reduceDIte, bind_assoc, pure_bind, bind_pure]

/-- The count of all eleven chunks. -/
def cumOf (v102 v163 v224 v285 v346 v407 v468 v529 v590 v651 v712 : BitVec 32) : BitVec 32 := (Scalar.addi (Scalar.addi (Scalar.addi (Scalar.addi (Scalar.addi (Scalar.addi (Scalar.addi (Scalar.addi (Scalar.addi (Scalar.addi (Scalar.addi 0#32 v102) v163) v224) v285) v346) v407) v468) v529) v590) v651) v712)

set_option maxHeartbeats 4000000 in
theorem t1_eq (i : grid1.Coords) (arg2 : Memref sig .scVector .hbm S5632 .i32) (harg2 : arg2.IsWhole) (arg3 : Memref sig .scVector .hbm S401408x128 .f32) (harg3 : arg3.IsWhole) (arg4 : Memref sig .scVector .hbm S401408x128 .f32) (harg4 : arg4.IsWhole) (arg5 : Memref sig .scVector .hbm S32x16 .f32) (harg5 : arg5.IsWhole) (arg6 : Memref sig .scVector .vmem S176 .i32) (harg6 : arg6.IsWhole) (arg7 : Memref sig .scVector .vmem S11x16 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S16 .f32) (harg14 : arg14.IsWhole) (arg15 : Memref sig .scVector .vmem S16 .i32) (harg15 : arg15.IsWhole) (arg16 : DmaSems sig S_) (arg17 : DmaSems sig S_) (arg18 : DmaSems sig S_) (arg19 : DmaSems sig S_) (v782_r0 : DmaSems sig S_) (v782_r1 : DmaSems sig S_) (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32) (k1_hw56 : k1_chk56 v102 v163 v224 v285 v346 v407 v468 v529 v590 v651 v712) (v716 : BitVec 32) (v737 : BitVec 32) (v738 : FVec F S16 .f32) (v739 : FVec F S16 .f32) (v740 : FVec F S16 .f32) (v741 : FVec F S16 .f32) (v742 : FVec F S16 .f32) (v743 : FVec F S16 .f32) (v744 : FVec F S16 .f32) (v745 : FVec F S16 .f32) (v746 : IVec S16 32) (v747 : IVec S16 32) (v748 : IVec S16 32) (k1_t1 : Fin (k1_t1_loop v102 v163 v224 v285 v346 v407 v468 v529 v590 v651 v712).trips)
    (hf0 : inW (cumOf v102 v163 v224 v285 v346 v407 v468 v529 v590 v651 v712) (Scalar.addi (Scalar.addi (Scalar.muli (Scf.iv 0#32 1#32 k1_t1) 2#32) 0#32) 1#32) = 1#1 → (fdivW (Scalar.addi (Scalar.addi (Scalar.muli (Scf.iv 0#32 1#32 k1_t1) 2#32) 0#32) 1#32) 4#32).toNat < 11)
    (hf1 : inW (cumOf v102 v163 v224 v285 v346 v407 v468 v529 v590 v651 v712) (Scalar.addi (Scalar.addi (Scalar.muli (Scf.iv 0#32 1#32 k1_t1) 2#32) 1#32) 1#32) = 1#1 → (fdivW (Scalar.addi (Scalar.addi (Scalar.muli (Scf.iv 0#32 1#32 k1_t1) 2#32) 1#32) 1#32) 4#32).toNat < 11)
    (hu0 : UnitOK (validW (cumOf v102 v163 v224 v285 v346 v407 v468 v529 v590 v651 v712) (Scalar.addi (Scalar.muli (Scf.iv 0#32 1#32 k1_t1) 2#32) 0#32)))
    (hu1 : UnitOK (validW (cumOf v102 v163 v224 v285 v346 v407 v468 v529 v590 v651 v712) (Scalar.addi (Scalar.muli (Scf.iv 0#32 1#32 k1_t1) 2#32) 1#32))) (a : Acc F) :
    k1_t1_body i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 v102 v163 v224 v285 v346 v407 v468 v529 v590 v651 v712 k1_hw56 (cumOf v102 v163 v224 v285 v346 v407 v468 v529 v590 v651 v712) v716 v737 v738 v739 v740 v741 v742 v743 v744 v745 v746 v747 v748 k1_t1 a
      = pairRaw arg3 arg4 arg7 arg8 arg9 arg10 arg11 arg12 arg13 harg10 harg11 harg12 harg13 arg16 arg17 arg18 arg19 (cumOf v102 v163 v224 v285 v346 v407 v468 v529 v590 v651 v712) (Scf.iv 0#32 1#32 k1_t1) hf0 hf1 hu0 hu1 a := by
  obtain ⟨a0, a1, a2, a3, a4, a5, a6, a7, z0, z1, z2, z3, z4, z5, z6, z7⟩ := a
  rfl

end Cert.Proof
end
-- ==== Proof.Head.lean ====
/-
  The part of the vector subcore's body before its main loop: the mask fetched, the lists and the tokens cleared, the
  eleven chunks of the compaction.
-/
module

public import proofs.«01_k».proof.Proof.Body

@[expose] public section

noncomputable section

namespace Cert.Proof

open Cert.KernelIdeal Cert.KernelIdeal.Gen
open Idealize.ShloMosaic Idealize.SL.Sem

variable {F : FTy → Type} [FloatOps F]

variable {c : Fin τ.nSC} {s : Fin τ.nSub}

local notation "PV" => Prog (TpuEff nD τ sig (Elt F) Λ₀ (Proc.scVector c s))

/-- The words an entry and the entries `k` before it are added from. -/
abbrev shIx (k : BitVec 32) : IVec S16 32 := maxsi (subi iotaV (broadcast S16 k)) (broadcast S16 0#32)
abbrev shAdd (k : BitVec 32) (v g : IVec S16 32) : IVec S16 32 := addi v (select (cmpi .sge iotaV (broadcast S16 k)) g (broadcast S16 0#32))

/-- One doubling step of the running sums: the entries `k` before, added on. -/
def scanProg (buf : Memref sig .scVector .vmem S16 .i32) (k : BitVec 32) (v : IVec S16 32) : PV (IVec S16 32) := do
  have hw : k1_chk1 (shIx k) := (← Prog.lift (TpuEff.assume (k1_chk1 (shIx k)) (k1_chk1.dec (shIx k)))).down
  let g : Vec F S16 .i32 ← SparseCore.vectorLoadIdx buf ![shIx k] (k1_idx1_inb _ hw) (View.loads_vmem h_S16)
  pure (shAdd k v g)

/-- A load whose value the program drops, then a store of the whole sixteen words. -/
def put16 (buf : Memref sig .scVector .vmem S16 .i32) (w : IVec S16 32) : PV PUnit := do
  let _v : Vec F S16 .i32 ← Prog.lift (.load buf (Rect.unit (s := S16) ![0] S16.size inb_S16_S16_0).toLoadRect (View.loadsAt_vmem h_S16))
  Prog.lift (.store buf (Rect.unit (s := S16) ![0] S16.size inb_S16_S16_0) w Finset.univ (View.stores_vmem_bits_univ h_S16 rfl) (.inl rfl))

/-- A row of the tokens cleared. -/
def zrow (tok : Memref sig .scVector .vmem S11x16 .i32) (r : Nat) (hr : ∀ a, (![r, 0] : Fin 2 → Nat) a + S1x16.size a ≤ S11x16.size a) : PV PUnit := do
  let _v : Vec F S1x16 .i32 ← Prog.lift (.load tok (Rect.unit (s := S11x16) ![r, 0] S1x16.size hr).toLoadRect (View.loadsAt_vmem h_S1x16))
  Prog.lift (.store tok (Rect.unit (s := S11x16) ![r, 0] S1x16.size hr) (shapeCast S1x16 (broadcast S16 0#32) shapeCasts_S16_S1x16) Finset.univ (View.stores_vmem_bits_univ h_S1x16 rfl) (.inl rfl))

/-- The tokens' numbers of sixteen entries of the mask, the first `o` entries into the subcore's own. -/
def idsW (i : grid1.Coords) (o : BitVec 32) : IVec S16 32 :=
  addi (broadcast S16 (Scalar.addi (Scalar.addi 6912#32 (Scalar.muli (Scalar.addi (Scalar.muli (BitVec.ofNat 32 (i 1).val) 2#32) (BitVec.ofNat 32 (i 0).val)) 176#32)) o)) iotaV

/-- The places of sixteen entries among the tokens: how many came before. -/
abbrev posW (cum : BitVec 32) (cs mv : IVec S16 32) : IVec S16 32 := subi (addi (broadcast S16 cum) cs) mv

/-- One chunk of the compaction: sixteen entries of the mask, their running sums, the tokens masked stored at their
    places; back comes how many they were. -/
def chunkProg (msk : Memref sig .scVector .vmem S176 .i32) (tok : Memref sig .scVector .vmem S11x16 .i32) (buf : Memref sig .scVector .vmem S16 .i32)
    (o : Nat) (ho : ∀ a, (![o] : Fin 1 → Nat) a + S16.size a ≤ S176.size a) (ids : IVec S16 32) (cum : BitVec 32) : PV (BitVec 32) := do
  let mv : Vec F S16 .i32 ← Prog.lift (.load msk (Rect.unit (s := S176) ![o] S16.size ho).toLoadRect (View.loadsAt_vmem h_S16))
  put16 (F := F) buf mv
  let c1 ← scanProg (F := F) buf 1#32 mv
  put16 (F := F) buf c1
  let c2 ← scanProg (F := F) buf 2#32 c1
  put16 (F := F) buf c2
  let c4 ← scanProg (F := F) buf 4#32 c2
  put16 (F := F) buf c4
  let c8 ← scanProg (F := F) buf 8#32 c4
  have hw : k1_chk5 (shrsi (posW cum c8 mv) (broadcast S16 4#32)) (andi (posW cum c8 mv) (broadcast S16 15#32)) :=
    (← Prog.lift (TpuEff.assume (k1_chk5 _ _) (k1_chk5.dec (shrsi (posW cum c8 mv) (broadcast S16 4#32)) (andi (posW cum c8 mv) (broadcast S16 15#32))))).down
  SparseCore.vectorStoreIdx tok ![shrsi (posW cum c8 mv) (broadcast S16 4#32), andi (posW cum c8 mv) (broadcast S16 15#32)] ids (cmpi .sgt mv (broadcast S16 0#32)) false
    (k1_idx5_inb _ _ hw) (View.stores_vmem_bits_univ h_S11x16 rfl)
  pure (extractAt ![0] (extractStridedSlice S1 ![15] c8 slices_S16_o15_S1) inpos_S1_p0)

/-- The lists cleared. -/
def clearProg (arg8 arg9 : Memref sig .scVector .vmem S128 .i32) : PV PUnit := do
  put (F := F) arg8 0 inb_S128_S16_0 (broadcast S16 0#32)
  put (F := F) arg9 0 inb_S128_S16_0 (broadcast S16 0#32)
  put (F := F) arg8 16 inb_S128_S16_16 (broadcast S16 0#32)
  put (F := F) arg9 16 inb_S128_S16_16 (broadcast S16 0#32)
  put (F := F) arg8 32 inb_S128_S16_32 (broadcast S16 0#32)
  put (F := F) arg9 32 inb_S128_S16_32 (broadcast S16 0#32)
  put (F := F) arg8 48 inb_S128_S16_48 (broadcast S16 0#32)
  put (F := F) arg9 48 inb_S128_S16_48 (broadcast S16 0#32)
  put (F := F) arg8 64 inb_S128_S16_64 (broadcast S16 0#32)
  put (F := F) arg9 64 inb_S128_S16_64 (broadcast S16 0#32)
  put (F := F) arg8 80 inb_S128_S16_80 (broadcast S16 0#32)
  put (F := F) arg9 80 inb_S128_S16_80 (broadcast S16 0#32)
  put (F := F) arg8 96 inb_S128_S16_96 (broadcast S16 0#32)
  put (F := F) arg9 96 inb_S128_S16_96 (broadcast S16 0#32)
  put (F := F) arg8 112 inb_S128_S16_112 (broadcast S16 0#32)
  put (F := F) arg9 112 inb_S128_S16_112 (broadcast S16 0#32)

/-- The tokens cleared. -/
def zeroProg (arg7 : Memref sig .scVector .vmem S11x16 .i32) : PV PUnit := do
  zrow (F := F) arg7 0 inb_S11x16_S1x16_0_0
  zrow (F := F) arg7 1 inb_S11x16_S1x16_1_0
  zrow (F := F) arg7 2 inb_S11x16_S1x16_2_0
  zrow (F := F) arg7 3 inb_S11x16_S1x16_3_0
  zrow (F := F) arg7 4 inb_S11x16_S1x16_4_0
  zrow (F := F) arg7 5 inb_S11x16_S1x16_5_0
  zrow (F := F) arg7 6 inb_S11x16_S1x16_6_0
  zrow (F := F) arg7 7 inb_S11x16_S1x16_7_0
  zrow (F := F) arg7 8 inb_S11x16_S1x16_8_0
  zrow (F := F) arg7 9 inb_S11x16_S1x16_9_0
  zrow (F := F) arg7 10 inb_S11x16_S1x16_10_0

/-- The eleven chunks. -/
def chunksProg (i : grid1.Coords) (arg6 : Memref sig .scVector .vmem S176 .i32) (arg7 : Memref sig .scVector .vmem S11x16 .i32) (arg15 : Memref sig .scVector .vmem S16 .i32) :
    PV (Σ' (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32), k1_chk56 v102 v163 v224 v285 v346 v407 v468 v529 v590 v651 v712) := do
  let v102 ← chunkProg (F := F) arg6 arg7 arg15 0 inb_S176_S16_0 (idsW i 0#32) (0#32)
  let v163 ← chunkProg (F := F) arg6 arg7 arg15 16 inb_S176_S16_16 (idsW i 16#32) (Scalar.addi 0#32 v102)
  let v224 ← chunkProg (F := F) arg6 arg7 arg15 32 inb_S176_S16_32 (idsW i 32#32) (Scalar.addi (Scalar.addi 0#32 v102) v163)
  let v285 ← chunkProg (F := F) arg6 arg7 arg15 48 inb_S176_S16_48 (idsW i 48#32) (Scalar.addi (Scalar.addi (Scalar.addi 0#32 v102) v163) v224)
  let v346 ← chunkProg (F := F) arg6 arg7 arg15 64 inb_S176_S16_64 (idsW i 64#32) (Scalar.addi (Scalar.addi (Scalar.addi (Scalar.addi 0#32 v102) v163) v224) v285)
  let v407 ← chunkProg (F := F) arg6 arg7 arg15 80 inb_S176_S16_80 (idsW i 80#32) (Scalar.addi (Scalar.addi (Scalar.addi (Scalar.addi (Scalar.addi 0#32 v102) v163) v224) v285) v346)
  let v468 ← chunkProg (F := F) arg6 arg7 arg15 96 inb_S176_S16_96 (idsW i 96#32) (Scalar.addi (Scalar.addi (Scalar.addi (Scalar.addi (Scalar.addi (Scalar.addi 0#32 v102) v163) v224) v285) v346) v407)
  let v529 ← chunkProg (F := F) arg6 arg7 arg15 112 inb_S176_S16_112 (idsW i 112#32) (Scalar.addi (Scalar.addi (Scalar.addi (Scalar.addi (Scalar.addi (Scalar.addi (Scalar.addi 0#32 v102) v163) v224) v285) v346) v407) v468)
  let v590 ← chunkProg (F := F) arg6 arg7 arg15 128 inb_S176_S16_128 (idsW i 128#32) (Scalar.addi (Scalar.addi (Scalar.addi (Scalar.addi (Scalar.addi (Scalar.addi (Scalar.addi (Scalar.addi 0#32 v102) v163) v224) v285) v346) v407) v468) v529)
  let v651 ← chunkProg (F := F) arg6 arg7 arg15 144 inb_S176_S16_144 (idsW i 144#32) (Scalar.addi (Scalar.addi (Scalar.addi (Scalar.addi (Scalar.addi (Scalar.addi (Scalar.addi (Scalar.addi (Scalar.addi 0#32 v102) v163) v224) v285) v346) v407) v468) v529) v590)
  let v712 ← chunkProg (F := F) arg6 arg7 arg15 160 inb_S176_S16_160 (idsW i 160#32) (Scalar.addi (Scalar.addi (Scalar.addi (Scalar.addi (Scalar.addi (Scalar.addi (Scalar.addi (Scalar.addi (Scalar.addi (Scalar.addi 0#32 v102) v163) v224) v285) v346) v407) v468) v529) v590) v651)
  have hw : k1_chk56 v102 v163 v224 v285 v346 v407 v468 v529 v590 v651 v712 := (← Prog.lift (TpuEff.assume (k1_chk56 v102 v163 v224 v285 v346 v407 v468 v529 v590 v651 v712) (k1_chk56.dec v102 v163 v224 v285 v346 v407 v468 v529 v590 v651 v712))).down
  pure ⟨v102, v163, v224, v285, v346, v407, v468, v529, v590, v651, v712, hw⟩

/-- The mask's own entries fetched. -/
def fetchProg (i : grid1.Coords) (arg2 : Memref sig .scVector .hbm S5632 .i32) (arg6 : Memref sig .scVector .vmem S176 .i32) (harg6 : arg6.IsWhole) (sem : DmaSems sig S_) : PV PUnit := do
  Prog.lift (.enqueueDma (arg2.slice (Rect.unit (s := S5632) (k1_off1 i) S176.size (k1_off1_inb i)) (fun _ => rfl)) (.here arg6) (.dma sem.sem) (View.wordExact_bits rfl) harg6.wordExact ⟨Or.inl rfl, trivial⟩)
  Prog.lift (.waitDma2 sem.sem (arg2.slice (Rect.unit (s := S5632) (k1_off1 i) S176.size (k1_off1_inb i)) (fun _ => rfl)) arg6 (View.wordExact_bits rfl) harg6.wordExact)

end Cert.Proof
end
-- ==== Proof.Holds.lean ====
/-
  A memref held with what it reads, and the loads and stores of a vector subcore over that.
-/
module

public import proofs.«01_k».proof.Proof.TokWp
public import proofs.«01_k».proof.Proof.Head
public import Idealize.ShloMosaic.Lib.Writes
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

section
variable (d : Dev nD) (c : Fin τ.nSC) (s : Fin τ.nSub)

/-- The elements of a memref at share `q`, reading `g`. -/
def H {sp : Space} {sh : Shape} {e : EltTy} (m : Memref sig .scVector sp sh e) (q : PosShare TreeShare) (g : Vec F sh e) : sProp 𝕄 :=
  iprop(∃ f, ⌜m.view.read (Elt F) f = g⌝ ∗ (m.view.loc (V d c s) ↦[m.view.set]{q} f))

local notation "W" => wp frame (wpE (defs₀ (F := F)) 𝒱₀ (V d c s) none) Set.univ

theorem H_congr {sp : Space} {sh : Shape} {e : EltTy} {m : Memref sig .scVector sp sh e} {q : PosShare TreeShare} {g g' : Vec F sh e} (h : g = g') :
    H d c s m q g ⊢ H d c s m q g' := by subst h; exact .rfl

theorem wp_ldH {cs : CoreSpace} {sh : Shape} {e : EltTy} {m : Memref sig .scVector cs sh e} {q : PosShare TreeShare} {g : Vec F sh e} (r : Rect sh) {hl : m.view.LoadsAt r}
    {Φ : Vec F r.shape e → sProp 𝕄} :
    H d c s m q g ⊢ iprop((H d c s m q g -∗ Φ (fun x => g (r.emb x))) -∗ W (Prog.lift (.load m r.toLoadRect hl)) Φ) := by
  unfold H
  iintro ⟨%f, %hf, Hp⟩ HΦ
  iapply (wp_load_rect (defs := defs₀ (F := F)) 𝒱₀ (V d c s) none Set.univ (m := m)
    (r := r) (f := f) (q := q) (k := fun x => Prog.ret x) (S := m.view.set) (View.set_slice_subset _ _)) $$ Hp
  iintro Hp
  rw [wp_ret]
  imodintro
  rw [show (m.access r).read (Elt F) f = fun x => g (r.emb x) from by subst hf; rfl]
  iapply HΦ
  iexists f
  isplitr
  · ipureintro; exact hf
  · iexact Hp

theorem wp_stH {cs : CoreSpace} {sh : Shape} {e : EltTy} {m : Memref sig .scVector cs sh e} {g : Vec F sh e} (r : Rect sh) {w : r.shape.Idx → Elt F e}
    {hx : (m.access r).Stores Finset.univ} {hm : Finset.univ = Finset.univ ∨ ∀ a, r.stride a = 1} (g' : Vec F sh e)
    (h1 : ∀ x, g' (r.emb x) = w x) (h2 : ∀ y, y ∉ r.set → g' y = g y) {Φ : PUnit → sProp 𝕄} :
    H d c s m fullShare g ⊢ iprop((H d c s m fullShare g' -∗ Φ ⟨⟩) -∗ W (Prog.lift (.store m r w Finset.univ hx hm)) Φ) := by
  unfold H
  iintro ⟨%f, %hf, Hp⟩ HΦ
  iapply (wp_store (defs := defs₀ (F := F)) 𝒱₀ (V d c s) none Set.univ (m := m) (w := w) (Mk := Finset.univ)
    (r := r) (f := f) (k := fun x => Prog.ret x) (S := m.view.set) (Memref.setOn_access_subset _ _ _)) $$ Hp
  iintro Hp
  rw [wp_ret]
  imodintro
  iapply HΦ
  iexists _
  isplitr
  · ipureintro
    show m.view.read (Elt F) ((m.access r).write (Elt F) f w Finset.univ) = g'
    funext y
    by_cases hy : y ∈ r.set
    · obtain ⟨x, rfl⟩ := r.exists_idx_of_mem hy
      exact (View.read_slice_write_emb r f w (Finset.mem_univ x)).trans (h1 x).symm
    · rw [show m.view.read (Elt F) ((m.access r).write (Elt F) f w Finset.univ) y = m.view.read (Elt F) f y from
        View.read_slice_write_of_not_mem r f w _ (by rwa [Rect.map_emb_univ]), hf, h2 y hy]
  · iexact Hp

theorem wp_ldIdxH {sh t : Shape} {e : EltTy} {m : Memref sig .scVector .vmem sh e} {q : PosShare TreeShare} {g : Vec F sh e} {idxs : Fin sh.rank → IVec t 32}
    {h : ∀ a x, (idxs a x).toNat < sh.size a} {hl : m.view.Loads} {Φ : Vec F t e → sProp 𝕄} :
    H d c s m q g ⊢ iprop((H d c s m q g -∗ Φ (loadIdx g idxs h)) -∗ W (SparseCore.vectorLoadIdx (F := F) (Λ := Λ₀) m idxs h hl) Φ) := by
  unfold H
  iintro ⟨%f, %hf, Hp⟩ HΦ
  iapply (SparseCore.wp_vectorLoadIdx (defs := defs₀ (F := F)) 𝒱₀ (V d c s) none Set.univ (base := m) (h := h) (hl := hl) (f := f) (q := q) (k := fun x => Prog.ret x) (S := m.view.set)
    (View.set_slice_subset _ _)) $$ Hp
  iintro Hp
  rw [wp_ret]
  imodintro
  have e : (m.access (.whole sh)).read (Elt F) f = m.view.read (Elt F) f := by
    funext x; exact congrArg (m.view.read (Elt F) f) (Rect.emb_eq_of_coords (Rect.whole sh) x x (fun a => by simp [Rect.whole]))
  rw [e, hf]
  iapply HΦ
  iexists f
  isplitr
  · ipureintro; exact hf
  · iexact Hp

theorem wp_stIdxH {n : Fin 1 → Nat} {sh : Shape} {e : EltTy} {m : Memref sig .scVector .vmem sh e} {g : Vec F sh e} {idxs : Fin sh.rank → IVec ⟨1, n⟩ 32}
    {v : Vec F ⟨1, n⟩ e} {mask : IVec ⟨1, n⟩ 1} {add : Bool}
    {h : ∀ a x, (idxs a x).toNat < sh.size a} {hs : (m.access (.whole sh)).Stores Finset.univ} {Φ : PUnit → sProp 𝕄} :
    H d c s m fullShare g ⊢ iprop((H d c s m fullShare (storeIdx g idxs v mask add h) -∗ Φ ⟨⟩) -∗ W (SparseCore.vectorStoreIdx (F := F) (Λ := Λ₀) m idxs v mask add h hs) Φ) := by
  unfold H
  iintro ⟨%f, %hf, Hp⟩ HΦ
  have hset : (m.access (.whole sh)).set = m.view.set := by
    unfold Memref.access; rw [View.set_slice, Rect.set_whole]; rfl
  have e : ∀ f, (m.access (.whole sh)).read (Elt F) f = m.view.read (Elt F) f := fun f => by
    funext x; exact congrArg (m.view.read (Elt F) f) (Rect.emb_eq_of_coords (Rect.whole sh) x x (fun a => by simp [Rect.whole]))
  iapply (SparseCore.wp_vectorStoreIdx (defs := defs₀ (F := F)) 𝒱₀ (V d c s) none Set.univ (base := m) (h := h) (hs := hs) (v := v) (mask := mask) (add := add) (f := f) (k := fun x => Prog.ret x)) $$ [Hp]
  · rw [hset]; iexact Hp
  iintro Hp
  rw [wp_ret]
  imodintro
  iapply HΦ
  iexists _
  isplitr
  · ipureintro
    refine (e ((m.access (.whole sh)).write (Elt F) f (storeIdx ((m.access (.whole sh)).read (Elt F) f) idxs v mask add h) Finset.univ)).symm.trans
      ((View.read_write_univ _ _).trans ?_)
    rw [e, hf]
  · rw [← hset]; iexact Hp

end
end Cert.Proof
end
-- ==== Proof.Words.lean ====
/-
  The words of the compaction as numbers: the running sums of sixteen entries of the mask, the places they give, and the
  tokens' buffer they fill.
-/
module

public import proofs.«01_k».proof.Proof.Head
public import Idealize.ShloMosaic.Lib.ValueIdx
public import Idealize.ShloMosaic.Lib.Pipeline.Value

@[expose] public section

noncomputable section

namespace Cert.Proof

open Cert.KernelIdeal Cert.KernelIdeal.Gen
open Idealize.ShloMosaic Idealize.SL.Sem Idealize.ShloMosaic.ValueIdx

variable {F : FTy → Type} [FloatOps F]

theorem iotaV_apply (x : S16.Idx) : iotaV x = BitVec.ofNat 32 (x 0).val := by
  rw [show iotaV = iota .scVector S16 32 [0] iota_S16_d0_w32_scVector from rfl]
  simp [iota]

theorem S16_lt (x : S16.Idx) : (x 0).val < 16 := (x 0).isLt

theorem shIx_val (k : Fin 4) (x : S16.Idx) : (shIx (BitVec.ofNat 32 (2 ^ k.val)) x).toNat = (x 0).val - 2 ^ k.val := by
  show ((Scalar.maxsi (Scalar.subi (iotaV x) (BitVec.ofNat 32 (2 ^ k.val))) 0#32 : BitVec 32)).toNat = _
  rw [iotaV_apply]
  have : ∀ n : Fin 16, ∀ k : Fin 4, ((Scalar.maxsi (Scalar.subi (BitVec.ofNat 32 n.val) (BitVec.ofNat 32 (2 ^ k.val))) 0#32 : BitVec 32)).toNat = n.val - 2 ^ k.val := by decide
  exact this ⟨_, S16_lt x⟩ k

theorem shIx_chk (k : Fin 4) : k1_chk1 (shIx (BitVec.ofNat 32 (2 ^ k.val))) := by
  intro a x
  match a with
  | 0 =>
    show (shIx (BitVec.ofNat 32 (2 ^ k.val)) x).toNat < 16
    rw [shIx_val]; exact lt_of_le_of_lt (Nat.sub_le _ _) (S16_lt x)

/-- One doubling step: the entries `k` before, added on. -/
theorem shAdd_val (k : Fin 4) (C : ℕ → ℕ) (hC : Monotone C) (v : IVec S16 32)
    (hv : ∀ x, v x = BitVec.ofNat 32 (C ((x 0).val + 1) - C ((x 0).val + 1 - 2 ^ k.val))) (x : S16.Idx) :
    shAdd (BitVec.ofNat 32 (2 ^ k.val)) v (loadIdx (F := F) (e := .i32) v ![shIx (BitVec.ofNat 32 (2 ^ k.val))] (shIx_chk k)) x
      = BitVec.ofNat 32 (C ((x 0).val + 1) - C ((x 0).val + 1 - 2 ^ (k.val + 1))) := by
  show v x + (if Scalar.cmpi .sge (iotaV x) (BitVec.ofNat 32 (2 ^ k.val)) = 1 then v _ else 0#32) = _
  rw [iotaV_apply]
  have hc : ∀ n : Fin 16, ∀ k : Fin 4, (Scalar.cmpi .sge (BitVec.ofNat 32 n.val) (BitVec.ofNat 32 (2 ^ k.val)) = 1) ↔ 2 ^ k.val ≤ n.val := by decide
  have hn := S16_lt x
  have h1 := hC (show (x 0).val + 1 - 2 ^ k.val ≤ (x 0).val + 1 from Nat.sub_le _ _)
  have h2 := hC (show (x 0).val + 1 - 2 ^ (k.val + 1) ≤ (x 0).val + 1 - 2 ^ k.val from Nat.sub_le_sub_left (Nat.pow_le_pow_right (by decide) (Nat.le_succ _)) _)
  rw [hv]
  by_cases h : 2 ^ k.val ≤ (x 0).val
  · rw [if_pos ((hc ⟨_, hn⟩ k).mpr h), hv, ← BitVec.ofNat_add]
    congr 1
    have e : ((idxAt (s := S16) (![shIx (BitVec.ofNat 32 (2 ^ k.val))] : Fin 1 → IVec S16 32) (shIx_chk k) x) 0).val = (x 0).val - 2 ^ k.val := shIx_val k x
    rw [e, show (x 0).val - 2 ^ k.val + 1 = (x 0).val + 1 - 2 ^ k.val by omega,
      show (x 0).val + 1 - 2 ^ k.val - 2 ^ k.val = (x 0).val + 1 - 2 ^ (k.val + 1) by rw [Nat.pow_succ]; omega]
    omega
  · rw [if_neg (fun h' => h ((hc ⟨_, hn⟩ k).mp h'))]
    have e : (x 0).val + 1 - 2 ^ (k.val + 1) = (x 0).val + 1 - 2 ^ k.val := by rw [Nat.pow_succ]; omega
    rw [e]; simp

section Mask
variable (mk : ℕ → Prop) [DecidablePred mk]

/-- A place below the count is a masked entry's. -/
theorem exists_of_lt_count (p : ℕ) : ∀ n, p < Nat.count mk n → ∃ i, i < n ∧ mk i ∧ Nat.count mk i = p
  | 0, h => absurd h (by simp)
  | n + 1, h => by
    rw [Nat.count_succ] at h
    by_cases hp : p < Nat.count mk n
    · obtain ⟨i, hi, h'⟩ := exists_of_lt_count p n hp
      exact ⟨i, by omega, h'⟩
    · by_cases hm : mk n
      · rw [if_pos hm] at h
        exact ⟨n, by omega, hm, by omega⟩
      · rw [if_neg hm] at h; omega

/-- Two masked entries with as many masked entries before them are one. -/
theorem count_inj {i i' : ℕ} (hi : mk i) (hi' : mk i') (h : Nat.count mk i = Nat.count mk i') : i = i' := by
  rcases Nat.lt_trichotomy i i' with hlt | he | hlt
  · have := Nat.count_monotone mk (show i + 1 ≤ i' from hlt); rw [Nat.count_succ, if_pos hi] at this; omega
  · exact he
  · have := Nat.count_monotone mk (show i' + 1 ≤ i from hlt); rw [Nat.count_succ, if_pos hi'] at this; omega

/-- The masked entry, among the first `n`, with `p` masked entries before it. -/
def findM : ℕ → ℕ → ℕ
  | 0, _ => 0
  | n + 1, p => if mk n ∧ Nat.count mk n = p then n else findM n p

theorem findM_count {i : ℕ} (hm : mk i) : ∀ n, i < n → findM mk n (Nat.count mk i) = i
  | 0, h => absurd h (by omega)
  | n + 1, h => by
    unfold findM
    split
    · next h' => exact count_inj mk h'.1 hm h'.2
    · next h' =>
      have : i ≠ n := fun e => h' ⟨e ▸ hm, by rw [e]⟩
      exact findM_count hm n (by omega)

/-- The masked entry, among the 176 a subcore has, with `p` masked entries before it. -/
def nthM (p : ℕ) : ℕ := findM mk 176 p

/-- The tokens' buffer after `n` entries of the mask. -/
def tokBuf (base n : ℕ) (j : S11x16.Idx) : BitVec 32 :=
  if 16 * (j 0).val + (j 1).val < Nat.count mk n then BitVec.ofNat 32 (base + nthM mk (16 * (j 0).val + (j 1).val)) else 0#32

theorem storeIdx_hit {n : Fin 1 → Nat} {sh : Shape} (f : Vec F sh .i32) (idxs : Fin sh.rank → IVec ⟨1, n⟩ 32) (v : Vec F ⟨1, n⟩ .i32) (mask : IVec ⟨1, n⟩ 1)
    (h : ∀ a x, (idxs a x).toNat < sh.size a) (j : sh.Idx) (b : BitVec 32)
    (hb : ∀ x, mask x = 1 → (∀ a, (j a).val = (idxs a x).toNat) → v x = b) (L : List (Fin (n 0))) (g : Vec F sh .i32)
    (hex : g j = b ∨ ∃ k ∈ L, mask (Shape.ofLane k) = 1 ∧ ∀ a, (j a).val = (idxs a (Shape.ofLane k)).toNat) :
    L.foldl (fun g k =>
      let x := Shape.ofLane k
      if mask x = 1 then
        let i := idxAt idxs h x
        let y := if false = true then Elt.idxAdd (F := F) .i32 (g i) (v x) else v x
        fun j => if (∀ a, (j a).val = (i a).val) then y else g j
      else g) g j = b := by
  induction L generalizing g with
  | nil => rcases hex with h | ⟨k, hk, _⟩; exact h; exact absurd hk List.not_mem_nil
  | cons k L ih =>
    rw [List.foldl_cons]
    apply ih
    by_cases hm : mask (Shape.ofLane k) = 1
    · by_cases hj : ∀ a, (j a).val = (idxs a (Shape.ofLane k)).toNat
      · left
        simp only [hm, if_true]
        exact (if_pos hj).trans (hb _ hm hj)
      · rcases hex with hg | ⟨k', hk', hm', hj'⟩
        · left
          simp only [hm, if_true]
          exact (if_neg hj).trans hg
        · rcases List.mem_cons.mp hk' with rfl | hk'
          · exact absurd hj' hj
          · exact .inr ⟨k', hk', hm', hj'⟩
    · rcases hex with hg | ⟨k', hk', hm', hj'⟩
      · left; simp only [hm, if_false]; exact hg
      · rcases List.mem_cons.mp hk' with rfl | hk'
        · exact absurd hm' hm
        · exact .inr ⟨k', hk', hm', hj'⟩

theorem storeIdx_miss {n : Fin 1 → Nat} {sh : Shape} (idxs : Fin sh.rank → IVec ⟨1, n⟩ 32) (v : Vec F ⟨1, n⟩ .i32) (mask : IVec ⟨1, n⟩ 1)
    (h : ∀ a x, (idxs a x).toNat < sh.size a) (j : sh.Idx)
    (hb : ∀ x, mask x = 1 → (∀ a, (j a).val = (idxs a x).toNat) → False) (L : List (Fin (n 0))) (g : Vec F sh .i32) :
    L.foldl (fun g k =>
      let x := Shape.ofLane k
      if mask x = 1 then
        let i := idxAt idxs h x
        let y := if false = true then Elt.idxAdd (F := F) .i32 (g i) (v x) else v x
        fun j => if (∀ a, (j a).val = (i a).val) then y else g j
      else g) g j = g j := by
  induction L generalizing g with
  | nil => rfl
  | cons k L ih =>
    rw [List.foldl_cons, ih]
    by_cases hm : mask (Shape.ofLane k) = 1
    · simp only [hm, if_true]
      exact if_neg fun hj => hb _ hm hj
    · simp only [hm, if_false]

theorem storeIdx_hit' {n : Fin 1 → Nat} {sh : Shape} (f : Vec F sh .i32) (idxs : Fin sh.rank → IVec ⟨1, n⟩ 32) (v : Vec F ⟨1, n⟩ .i32) (mask : IVec ⟨1, n⟩ 1)
    (h : ∀ a x, (idxs a x).toNat < sh.size a) (j : sh.Idx) (b : BitVec 32)
    (hb : ∀ x, mask x = 1 → (∀ a, (j a).val = (idxs a x).toNat) → v x = b)
    (hex : ∃ k, mask (Shape.ofLane k) = 1 ∧ ∀ a, (j a).val = (idxs a (Shape.ofLane k)).toNat) :
    storeIdx (F := F) (e := .i32) f idxs v mask false h j = b := by
  unfold storeIdx
  convert storeIdx_hit (F := F) f idxs v mask h j b hb (List.finRange (n 0)) f (.inr (let ⟨k, hk⟩ := hex; ⟨k, List.mem_finRange k, hk⟩))
  dsimp only
  split
  · funext j
    congr
  · rfl

theorem storeIdx_miss' {n : Fin 1 → Nat} {sh : Shape} (f : Vec F sh .i32) (idxs : Fin sh.rank → IVec ⟨1, n⟩ 32) (v : Vec F ⟨1, n⟩ .i32) (mask : IVec ⟨1, n⟩ 1)
    (h : ∀ a x, (idxs a x).toNat < sh.size a) (j : sh.Idx)
    (hb : ∀ x, mask x = 1 → (∀ a, (j a).val = (idxs a x).toNat) → False) :
    storeIdx (F := F) (e := .i32) f idxs v mask false h j = f j := by
  unfold storeIdx
  convert storeIdx_miss (F := F) idxs v mask h j hb (List.finRange (n 0)) f
  dsimp only
  split
  · funext j
    congr
  · rfl

theorem mem_finRange_ofLane (x : S16.Idx) : ∃ k ∈ List.finRange 16, (Shape.ofLane (d := ![16]) k : S16.Idx) = x :=
  ⟨x 0, List.mem_finRange _, by funext a; match a with | 0 => rfl⟩

/-- Sixteen more entries of the mask stored. -/
theorem store_tok (base o : ℕ) (ho : o + 16 ≤ 176) (f : Vec F S11x16 .i32) (hf : f = tokBuf mk base o) (row col ids : IVec S16 32) (mask : IVec S16 1)
    (hrow : ∀ x, (row x).toNat = Nat.count mk (o + (x 0).val) / 16) (hcol : ∀ x, (col x).toNat = Nat.count mk (o + (x 0).val) % 16)
    (hids : ∀ x, ids x = BitVec.ofNat 32 (base + (o + (x 0).val))) (hmask : ∀ x, mask x = 1 ↔ mk (o + (x 0).val))
    (h : ∀ a x, ((![row, col] : Fin 2 → IVec S16 32) a x).toNat < S11x16.size a) :
    storeIdx (F := F) (e := .i32) f ![row, col] ids mask false h = tokBuf mk base (o + 16) := by
  have key : ∀ (j : S11x16.Idx) (x : S16.Idx), (∀ a, (j a).val = ((![row, col] : Fin 2 → IVec S16 32) a x).toNat) ↔ 16 * (j 0).val + (j 1).val = Nat.count mk (o + (x 0).val) := by
    intro j x
    have hj1 : (j 1).val < 16 := (j 1).isLt
    constructor
    · intro e
      have e0 := e 0; have e1 := e 1
      simp only [Matrix.cons_val_zero, Matrix.cons_val_one] at e0 e1
      rw [hrow] at e0; rw [hcol] at e1
      omega
    · intro e a
      match a with
      | 0 => show (j 0).val = (row x).toNat; rw [hrow]; omega
      | 1 => show (j 1).val = (col x).toNat; rw [hcol]; omega
  funext j
  subst hf
  by_cases hp : 16 * (j 0).val + (j 1).val < Nat.count mk o ∨ Nat.count mk (o + 16) ≤ 16 * (j 0).val + (j 1).val
  · refine (storeIdx_miss' (F := F) (n := ![16]) (sh := S11x16) (tokBuf mk base o) ![row, col] ids mask h j ?_).trans ?_
    · intro x hm hj
      rw [key] at hj
      rw [hmask] at hm
      have h1 := Nat.count_monotone mk (show o ≤ o + (x 0).val by omega)
      have h2 := Nat.count_monotone mk (show o + (x 0).val + 1 ≤ o + 16 by have := S16_lt x; omega)
      rw [Nat.count_succ, if_pos hm] at h2
      omega
    · unfold tokBuf
      have h1 := Nat.count_monotone mk (show o ≤ o + 16 by omega)
      rcases hp with hp | hp
      · rw [if_pos hp, if_pos (by omega)]
      · rw [if_neg (by omega), if_neg (by omega)]
  · obtain ⟨i, hi, hm, hc⟩ := exists_of_lt_count mk (16 * (j 0).val + (j 1).val) (o + 16) (by omega)
    have hio : o ≤ i := by
      by_contra hlt
      have := Nat.count_monotone mk (show i + 1 ≤ o by omega)
      rw [Nat.count_succ, if_pos hm] at this
      omega
    refine (storeIdx_hit' (F := F) (n := ![16]) (sh := S11x16) (tokBuf mk base o) ![row, col] ids mask h j (BitVec.ofNat 32 (base + i)) ?_ ?_).trans ?_
    · intro x hmx hj
      rw [key] at hj
      rw [hmask] at hmx
      rw [hids]
      have : o + (x 0).val = i := by
        exact count_inj mk hmx hm (by rw [hc, hj])
      rw [this]
    · obtain ⟨k, _, e⟩ := mem_finRange_ofLane (ix1 ⟨i - o, by omega⟩)
      refine ⟨k, ?_, ?_⟩
      · rw [hmask, e]; show mk (o + (i - o)); rw [show o + (i - o) = i by omega]; exact hm
      · rw [key, e]; show _ = Nat.count mk (o + (i - o)); rw [show o + (i - o) = i by omega, hc]
    · unfold tokBuf
      rw [if_pos (by omega), ← hc, nthM, findM_count mk hm 176 (by omega)]

end Mask
end Cert.Proof
end
-- ==== Proof.Chunk.lean ====
/-
  The triples of the compaction: a chunk's running sums, its tokens stored at their places, all eleven chunks.
-/
module

public import proofs.«01_k».proof.Proof.Holds
public import proofs.«01_k».proof.Proof.Words

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

section
variable (d : Dev nD) (c : Fin τ.nSC) (s : Fin τ.nSub)

local notation "W" => wp frame (wpE (defs₀ (F := F)) 𝒱₀ (V d c s) none) Set.univ

theorem whole16_emb (x : S16.Idx) : (Rect.unit (s := S16) ![0] S16.size inb_S16_S16_0).emb x = x :=
  Rect.emb_eq_of_coords (Rect.unit (s := S16) ![0] S16.size inb_S16_S16_0) x x (fun a => match a with | 0 => by simp [Rect.unit])

theorem mem_set_unit_whole16 (y : S16.Idx) : y ∈ (Rect.unit (s := S16) ![0] S16.size inb_S16_S16_0).set := by
  rw [Rect.mem_set_unit]
  intro a
  match a with
  | 0 => exact ⟨Nat.zero_le _, by have := S16_lt y; simpa using this⟩

/-- A whole store of sixteen words. -/
theorem wp_put16 {buf : Memref sig .scVector .vmem S16 .i32} {g : Vec F S16 .i32} {w : IVec S16 32} {Φ : PUnit → sProp 𝕄} :
    H d c s buf fullShare g ⊢ iprop((H (F := F) d c s buf fullShare w -∗ Φ ⟨⟩) -∗ W (put16 (F := F) buf w) Φ) := by
  iintro Hp HΦ
  unfold put16
  rw [wp_bind]
  iapply (wp_ldH d c s _) $$ Hp
  iintro Hp
  iapply (wp_stH d c s _ (w : Vec F S16 .i32) (fun x => by exact congrArg w (whole16_emb x)) (fun y hy => absurd (mem_set_unit_whole16 y) hy)) $$ Hp
  iexact HΦ

/-- A doubling step of the running sums. -/
theorem wp_scan {buf : Memref sig .scVector .vmem S16 .i32} (k : Fin 4) (w : BitVec 32) (hw : w = BitVec.ofNat 32 (2 ^ k.val)) (C : ℕ → ℕ) (hC : Monotone C) (v : IVec S16 32)
    (hv : ∀ x, v x = BitVec.ofNat 32 (C ((x 0).val + 1) - C ((x 0).val + 1 - 2 ^ k.val))) {Φ : IVec S16 32 → sProp 𝕄} :
    H (F := F) d c s buf fullShare v ⊢ iprop((∀ v', ⌜∀ x : S16.Idx, v' x = BitVec.ofNat 32 (C ((x 0).val + 1) - C ((x 0).val + 1 - 2 ^ (k.val + 1)))⌝ -∗ H (F := F) d c s buf fullShare v -∗ Φ v')
      -∗ W (scanProg (F := F) buf w v) Φ) := by
  subst hw
  iintro Hp HΦ
  unfold scanProg
  rw [wp_bind]
  rw [show (Prog.lift (TpuEff.assume (k1_chk1 (shIx (BitVec.ofNat 32 (2 ^ k.val)))) (k1_chk1.dec (shIx (BitVec.ofNat 32 (2 ^ k.val))))) : Prog (TpuEff nD τ sig (Elt F) Λ₀ (Proc.scVector c s)) _) = .op (.assume _ _) Prog.ret from rfl]
  iapply (wp_assume 𝒱₀ (V d c s) none Set.univ (shIx_chk k))
  rw [wp_ret]
  imodintro
  rw [wp_bind]
  iapply (wp_ldIdxH d c s) $$ Hp
  iintro Hp
  rw [wp_pure]
  imodintro
  iapply HΦ $$ %_ %(shAdd_val (F := F) k C hC v hv) Hp

variable (mk : ℕ → Prop) [DecidablePred mk]

/-- The running count of a chunk's entries. -/
abbrev cntO (o n : ℕ) : ℕ := Nat.count (fun i => mk (o + i)) n

theorem cntO_add (o n : ℕ) : Nat.count mk (o + n) = Nat.count mk o + cntO mk o n := Nat.count_add mk o n

theorem posW_val (o : ℕ) (cum : BitVec 32) (hcum : cum = BitVec.ofNat 32 (Nat.count mk o)) (mv c8 : IVec S16 32)
    (hmv : ∀ x : S16.Idx, mv x = if mk (o + (x 0).val) then 1#32 else 0#32)
    (h8 : ∀ x : S16.Idx, c8 x = BitVec.ofNat 32 (cntO mk o ((x 0).val + 1) - cntO mk o ((x 0).val + 1 - 2 ^ 4))) (x : S16.Idx) :
    posW cum c8 mv x = BitVec.ofNat 32 (Nat.count mk (o + (x 0).val)) := by
  have hx := S16_lt x
  show cum + c8 x - mv x = _
  rw [hcum, h8, hmv, show (x 0).val + 1 - 2 ^ 4 = 0 by omega, cntO_add, show cntO mk o 0 = 0 from Nat.count_zero _, Nat.sub_zero, cntO, cntO, Nat.count_succ, ← BitVec.ofNat_add]
  by_cases h : mk (o + (x 0).val)
  · rw [if_pos h, if_pos h, ← Nat.add_assoc, BitVec.ofNat_add _ 1]
    exact BitVec.add_sub_cancel _ _
  · rw [if_neg h, if_neg h, Nat.add_zero]
    exact BitVec.sub_zero _

theorem shr4_val (n : Fin 176) : (Scalar.shrsi (BitVec.ofNat 32 n.val) 4#32 : BitVec 32).toNat = n.val / 16 := by
  revert n; decide
theorem and15_val (n : Fin 176) : (Scalar.andi (BitVec.ofNat 32 n.val) 15#32 : BitVec 32).toNat = n.val % 16 := by
  revert n; decide

/-- One chunk of the compaction. -/
theorem wp_chunk {msk : Memref sig .scVector .vmem S176 .i32} {tok : Memref sig .scVector .vmem S11x16 .i32} {buf : Memref sig .scVector .vmem S16 .i32}
    {q : PosShare TreeShare} {M : Vec F S176 .i32} {g : Vec F S16 .i32} (base o : ℕ) (ho : ∀ a, (![o] : Fin 1 → Nat) a + S16.size a ≤ S176.size a) (ids : IVec S16 32) (cum : BitVec 32)
    (hM : ∀ y : S176.Idx, M y = if mk (y 0).val then 1#32 else 0#32) (hcum : cum = BitVec.ofNat 32 (Nat.count mk o))
    (hids : ∀ x : S16.Idx, ids x = BitVec.ofNat 32 (base + (o + (x 0).val))) {Φ : BitVec 32 → sProp 𝕄} :
    iprop(H d c s msk q M ∗ H (F := F) d c s tok fullShare (tokBuf mk base o) ∗ H d c s buf fullShare g)
      ⊢ iprop((∀ r, ⌜r = BitVec.ofNat 32 (Nat.count mk (o + 16) - Nat.count mk o)⌝ -∗ (∃ g', H d c s msk q M ∗ H (F := F) d c s tok fullShare (tokBuf mk base (o + 16)) ∗ H d c s buf fullShare g') -∗ Φ r)
      -∗ W (chunkProg (F := F) msk tok buf o ho ids cum) Φ) := by
  have ho' : o + 16 ≤ 176 := ho 0
  iintro ⟨Hm, Ht, Hb⟩ HΦ
  unfold chunkProg
  rw [wp_bind]
  iapply (wp_ldH d c s _) $$ Hm
  iintro Hm
  have hmv : ∀ x : S16.Idx, (fun x => M ((Rect.unit (s := S176) ![o] S16.size ho).emb x)) x = if mk (o + (x 0).val) then 1#32 else 0#32 := fun x => by
    show M _ = _
    rw [hM]
    simp [Rect.emb, Rect.unit]
  generalize (fun x => M ((Rect.unit (s := S176) ![o] S16.size ho).emb x)) = mv at hmv ⊢
  have h0 : ∀ x : S16.Idx, mv x = BitVec.ofNat 32 (cntO mk o ((x 0).val + 1) - cntO mk o ((x 0).val + 1 - 2 ^ (0 : Fin 4).val)) := fun x => by
    rw [hmv, show (x 0).val + 1 - 2 ^ (0 : Fin 4).val = (x 0).val from rfl, cntO, cntO, Nat.count_succ]
    split <;> simp
  rw [wp_bind]
  iapply (wp_put16 d c s) $$ Hb
  iintro Hb
  rw [wp_bind]
  iapply (wp_scan d c s 0 1#32 rfl (cntO mk o) (Nat.count_monotone _) mv h0) $$ Hb
  iintro %c1 %h1 Hb
  rw [wp_bind]
  iapply (wp_put16 d c s) $$ Hb
  iintro Hb
  rw [wp_bind]
  iapply (wp_scan d c s 1 2#32 rfl (cntO mk o) (Nat.count_monotone _) c1 h1) $$ Hb
  iintro %c2 %h2 Hb
  rw [wp_bind]
  iapply (wp_put16 d c s) $$ Hb
  iintro Hb
  rw [wp_bind]
  iapply (wp_scan d c s 2 4#32 rfl (cntO mk o) (Nat.count_monotone _) c2 h2) $$ Hb
  iintro %c4 %h4 Hb
  rw [wp_bind]
  iapply (wp_put16 d c s) $$ Hb
  iintro Hb
  rw [wp_bind]
  iapply (wp_scan d c s 3 8#32 rfl (cntO mk o) (Nat.count_monotone _) c4 h4) $$ Hb
  iintro %c8 %h8 Hb
  have hpos := posW_val mk o cum hcum mv c8 hmv h8
  have hlt : ∀ x : S16.Idx, Nat.count mk (o + (x 0).val) < 176 := fun x =>
    lt_of_le_of_lt (Nat.count_le mk) (by have := S16_lt x; omega)
  have hrow : ∀ x, ((shrsi (posW cum c8 mv) (broadcast S16 4#32)) x).toNat = Nat.count mk (o + (x 0).val) / 16 := fun x => by
    show (Scalar.shrsi (posW cum c8 mv x) 4#32 : BitVec 32).toNat = _
    rw [hpos]; exact shr4_val ⟨_, hlt x⟩
  have hcol : ∀ x, ((andi (posW cum c8 mv) (broadcast S16 15#32)) x).toNat = Nat.count mk (o + (x 0).val) % 16 := fun x => by
    show (Scalar.andi (posW cum c8 mv x) 15#32 : BitVec 32).toNat = _
    rw [hpos]; exact and15_val ⟨_, hlt x⟩
  have hchk : k1_chk5 (shrsi (posW cum c8 mv) (broadcast S16 4#32)) (andi (posW cum c8 mv) (broadcast S16 15#32)) := by
    intro a x
    match a with
    | 0 =>
      show ((shrsi (posW cum c8 mv) (broadcast S16 4#32)) x).toNat < 11
      rw [hrow]; have := hlt x; omega
    | 1 =>
      show ((andi (posW cum c8 mv) (broadcast S16 15#32)) x).toNat < 16
      rw [hcol]; omega
  rw [wp_bind]
  rw [show (Prog.lift (TpuEff.assume (k1_chk5 (shrsi (posW cum c8 mv) (broadcast S16 4#32)) (andi (posW cum c8 mv) (broadcast S16 15#32))) (k1_chk5.dec (shrsi (posW cum c8 mv) (broadcast S16 4#32)) (andi (posW cum c8 mv) (broadcast S16 15#32)))) : Prog (TpuEff nD τ sig (Elt F) Λ₀ (Proc.scVector c s)) _) = .op (.assume _ _) Prog.ret from rfl]
  iapply (wp_assume 𝒱₀ (V d c s) none Set.univ hchk)
  rw [wp_ret]
  imodintro
  rw [wp_bind]
  iapply (wp_stIdxH d c s) $$ Ht
  rw [store_tok (F := F) mk base o ho' (tokBuf mk base o) rfl _ _ ids _ hrow hcol hids (fun x => by
    show Scalar.cmpi .sgt (mv x) 0#32 = 1 ↔ _
    rw [hmv]
    by_cases h : mk (o + (x 0).val)
    · simp only [h, if_true, iff_true]; decide
    · simp only [h, if_false, iff_false]; decide)]
  iintro Ht
  rw [wp_pure]
  imodintro
  iapply HΦ $$ %_ %?_ [Hm Ht Hb]
  · have e : cntO mk o 16 = Nat.count mk (o + 16) - Nat.count mk o := by rw [cntO_add]; omega
    rw [← e]
    have := h8 (ix1 15)
    simp only [ix1] at this
    refine Eq.trans ?_ (this.trans (by simp))
    show c8 _ = c8 _
    congr 1
    funext a
    match a with
    | 0 => rfl
  iexists c4
  isplitl [Hm]
  · iexact Hm
  isplitl [Ht]
  · iexact Ht
  · iexact Hb

end
end Cert.Proof
end
-- ==== Proof.Units.lean ====
/-
  The words of the main loop as numbers: how many units of work, of what tokens, in how many pairs; and the facts the
  loops ask for.
-/
module

public import proofs.«01_k».proof.Proof.Body

@[expose] public section

noncomputable section

namespace Cert.Proof

open Cert.KernelIdeal Cert.KernelIdeal.Gen
open Idealize.ShloMosaic Idealize.SL.Sem

/-- Units of work for `n` tokens. -/
abbrev unitsN (n : ℕ) : ℕ := 4 * ((n + 15) / 16)
/-- Pairs of units. -/
abbrev pairsN (n : ℕ) : ℕ := 2 * ((n + 15) / 16)
/-- The tokens of unit `u`. -/
abbrev validN (n u : ℕ) : ℕ := min (n - 16 * (u / 4)) 16

theorem totalW_val : ∀ n : Fin 177, totalW (BitVec.ofNat 32 n.val) = BitVec.ofNat 32 (unitsN n.val) := by decide +kernel
theorem pairsW_val : ∀ n : Fin 177, pairsW (BitVec.ofNat 32 n.val) = BitVec.ofNat 32 (pairsN n.val) := by decide +kernel
theorem fdivW4_val : ∀ u : Fin 48, fdivW (BitVec.ofNat 32 u.val) 4#32 = BitVec.ofNat 32 (u.val / 4) := by decide +kernel
theorem fmodW4_val : ∀ u : Fin 48, fmodW (BitVec.ofNat 32 u.val) 4#32 = BitVec.ofNat 32 (u.val % 4) := by decide +kernel
theorem inW_val0 : ∀ (k : Fin 12) (u : Fin 48), (Scalar.cmpi .ne ((Scalar.extui (Scalar.cmpi .slt (BitVec.ofNat 32 u.val) (BitVec.ofNat 32 (4 * k.val))) : BitVec 32)) 0#32 = 1#1) ↔ u.val < 4 * k.val := by decide +kernel
theorem minW_val : ∀ n : Fin 177, (Scalar.minsi (BitVec.ofNat 32 n.val) 16#32 : BitVec 32) = BitVec.ofNat 32 (min n.val 16) := by decide +kernel
theorem loopA_pairs : ∀ p : Fin 24, (loopA (BitVec.ofNat 32 p.val)).OK ∧ (loopA (BitVec.ofNat 32 p.val)).trips = p.val := by decide +kernel
theorem loopB_pairs : ∀ p : Fin 24, (loopB (BitVec.ofNat 32 p.val)).OK ∧ (loopB (BitVec.ofNat 32 p.val)).trips = 0 := by decide +kernel

theorem inW_val (n : Fin 177) (u : Fin 48) : inW (BitVec.ofNat 32 n.val) (BitVec.ofNat 32 u.val) = 1#1 ↔ u.val < unitsN n.val := by
  unfold inW
  rw [totalW_val]
  exact inW_val0 ⟨(n.val + 15) / 16, by omega⟩ u

theorem validW_val (n : Fin 177) (u : Fin 48) (h : u.val < unitsN n.val) :
    validW (BitVec.ofNat 32 n.val) (BitVec.ofNat 32 u.val) = BitVec.ofNat 32 (validN n.val u.val) := by
  unfold validW
  rw [fdivW4_val]
  have hu : 16 * (u.val / 4) ≤ n.val := by have := h; unfold unitsN at this; omega
  rw [show Scalar.subi (BitVec.ofNat 32 n.val) (Scalar.muli (BitVec.ofNat 32 (u.val / 4)) 16#32) = BitVec.ofNat 32 (n.val - 16 * (u.val / 4)) from ?_]
  · exact minW_val ⟨n.val - 16 * (u.val / 4), by omega⟩
  · apply BitVec.eq_of_toNat_eq
    have := n.isLt; have := u.isLt
    show (BitVec.ofNat 32 n.val - BitVec.ofNat 32 (u.val / 4) * 16#32).toNat = _
    rw [BitVec.toNat_sub, BitVec.toNat_mul, BitVec.toNat_ofNat, BitVec.toNat_ofNat, BitVec.toNat_ofNat, BitVec.toNat_ofNat]
    omega

theorem iv01 (k : ℕ) : Scf.iv 0#32 1#32 k = BitVec.ofNat 32 k := by
  unfold Scf.iv; simp

theorem unitA_lt (v : ℕ) (hv : v ≤ 16) (t : ℕ) (ht : t < (loopA (BitVec.ofNat 32 v)).trips) : t < v := by
  rw [(loopA_pairs ⟨v, by omega⟩).2] at ht; exact ht

theorem rowW_lt (r : Fin 8) (t : ℕ) (ht : t < 16) : (Scalar.addi (BitVec.ofNat 32 (16 * r.val)) (BitVec.ofNat 32 t)).toNat < 128 := by
  show (BitVec.ofNat 32 (16 * r.val) + BitVec.ofNat 32 t).toNat < 128
  rw [← BitVec.ofNat_add, BitVec.toNat_ofNat]
  have := r.isLt
  omega

/-- A trip of a loop without trips. -/
theorem none_of_zero {N : ℕ} (h : N = 0) (k : Fin N) {P : Prop} : P := by subst h; exact k.elim0

theorem unitOK (v : ℕ) (hv : v ≤ 16) (w : BitVec 32) (hw : w = BitVec.ofNat 32 v) : UnitOK w := by
  subst hw
  refine ⟨(loopA_pairs ⟨v, by omega⟩).1, (loopB_pairs ⟨v, by omega⟩).1, fun t r => ?_, fun t r => ?_⟩
  · rw [iv01]; exact rowW_lt r _ (lt_of_lt_of_le (unitA_lt v hv _ t.isLt) hv)
  · exact none_of_zero (loopB_pairs ⟨v, by omega⟩).2 t

/-- The words of the two units of pair `k`. -/
theorem unit0W (k : ℕ) : Scalar.addi (Scalar.muli (BitVec.ofNat 32 k) 2#32) 0#32 = BitVec.ofNat 32 (2 * k) := by
  show BitVec.ofNat 32 k * BitVec.ofNat 32 2 + 0#32 = _
  rw [BitVec.add_zero, ← BitVec.ofNat_mul, Nat.mul_comm]
theorem unit1W (k : ℕ) : Scalar.addi (Scalar.muli (BitVec.ofNat 32 k) 2#32) 1#32 = BitVec.ofNat 32 (2 * k + 1) := by
  show BitVec.ofNat 32 k * BitVec.ofNat 32 2 + BitVec.ofNat 32 1 = _
  rw [← BitVec.ofNat_mul, ← BitVec.ofNat_add, Nat.mul_comm]
theorem succW (k : ℕ) : Scalar.addi (BitVec.ofNat 32 k) 1#32 = BitVec.ofNat 32 (k + 1) := (BitVec.ofNat_add k 1).symm

section
variable (n : ℕ) (hn : n ≤ 176)
include hn

theorem pairs_trips : (loopA (pairsW (BitVec.ofNat 32 n))).trips = pairsN n := by
  rw [pairsW_val ⟨n, by omega⟩]; exact (loopA_pairs ⟨pairsN n, by show pairsN n < 24; unfold pairsN; omega⟩).2

theorem unit0_ok (k : ℕ) (hk : k < pairsN n) : UnitOK (validW (BitVec.ofNat 32 n) (Scalar.addi (Scalar.muli (BitVec.ofNat 32 k) 2#32) 0#32)) := by
  unfold pairsN at hk
  rw [unit0W]
  exact unitOK (validN n (2 * k)) (Nat.min_le_right _ _) _ (validW_val ⟨n, by omega⟩ ⟨2 * k, by omega⟩ (by show 2 * k < unitsN n; unfold unitsN; omega))

theorem unit1_ok (k : ℕ) (hk : k < pairsN n) : UnitOK (validW (BitVec.ofNat 32 n) (Scalar.addi (Scalar.muli (BitVec.ofNat 32 k) 2#32) 1#32)) := by
  unfold pairsN at hk
  rw [unit1W]
  exact unitOK (validN n (2 * k + 1)) (Nat.min_le_right _ _) _ (validW_val ⟨n, by omega⟩ ⟨2 * k + 1, by omega⟩ (by show 2 * k + 1 < unitsN n; unfold unitsN; omega))

theorem fire_lt (u : ℕ) (hu : u < 48) (h : inW (BitVec.ofNat 32 n) (BitVec.ofNat 32 u) = 1#1) : (fdivW (BitVec.ofNat 32 u) 4#32).toNat < 11 := by
  rw [inW_val ⟨n, by omega⟩ ⟨u, hu⟩] at h
  rw [fdivW4_val ⟨u, hu⟩, BitVec.toNat_ofNat]
  simp only [unitsN] at h
  simp only []
  omega

theorem fire0_lt (k : ℕ) (hk : k < pairsN n) : inW (BitVec.ofNat 32 n) (Scalar.addi (Scalar.addi (Scalar.muli (BitVec.ofNat 32 k) 2#32) 0#32) 1#32) = 1#1 →
    (fdivW (Scalar.addi (Scalar.addi (Scalar.muli (BitVec.ofNat 32 k) 2#32) 0#32) 1#32) 4#32).toNat < 11 := by
  unfold pairsN at hk
  rw [unit0W, succW]
  exact fire_lt n hn _ (by omega)

theorem fire1_lt (k : ℕ) (hk : k < pairsN n) : inW (BitVec.ofNat 32 n) (Scalar.addi (Scalar.addi (Scalar.muli (BitVec.ofNat 32 k) 2#32) 1#32) 1#32) = 1#1 →
    (fdivW (Scalar.addi (Scalar.addi (Scalar.muli (BitVec.ofNat 32 k) 2#32) 1#32) 1#32) 4#32).toNat < 11 := by
  unfold pairsN at hk
  rw [unit1W, succW]
  exact fire_lt n hn _ (by omega)

end

set_option maxHeartbeats 2000000 in
theorem chk56_0 (v102 v163 v224 v285 v346 v407 v468 v529 v590 v651 v712 : BitVec 32) (n : ℕ) (hn : n ≤ 176)
    (hc : cumOf v102 v163 v224 v285 v346 v407 v468 v529 v590 v651 v712 = BitVec.ofNat 32 n) : k1_chk56_0 v102 v163 v224 v285 v346 v407 v468 v529 v590 v651 v712 := by
  have hA : (loopA (pairsW (cumOf v102 v163 v224 v285 v346 v407 v468 v529 v590 v651 v712))).OK := by
    rw [hc, pairsW_val ⟨n, by omega⟩]; exact (loopA_pairs ⟨pairsN n, by show pairsN n < 24; unfold pairsN; omega⟩).1
  have hB : (loopB (pairsW (cumOf v102 v163 v224 v285 v346 v407 v468 v529 v590 v651 v712))).OK := by
    rw [hc, pairsW_val ⟨n, by omega⟩]; exact (loopB_pairs ⟨pairsN n, by show pairsN n < 24; unfold pairsN; omega⟩).1
  have hB0 : (loopB (pairsW (cumOf v102 v163 v224 v285 v346 v407 v468 v529 v590 v651 v712))).trips = 0 := by
    rw [hc, pairsW_val ⟨n, by omega⟩]; exact (loopB_pairs ⟨pairsN n, by show pairsN n < 24; unfold pairsN; omega⟩).2
  have hlt : ∀ k : Fin (loopA (pairsW (cumOf v102 v163 v224 v285 v346 v407 v468 v529 v590 v651 v712))).trips, k.val < pairsN n := fun k =>
    lt_of_lt_of_eq k.isLt (by rw [hc]; exact pairs_trips n hn)
  have hu0' : ∀ k : ℕ, k < pairsN n →
      UnitOK (validW (cumOf v102 v163 v224 v285 v346 v407 v468 v529 v590 v651 v712) (Scalar.addi (Scalar.muli (Scf.iv 0#32 1#32 k) 2#32) 0#32)) := fun k hk => by
    rw [hc, iv01]; exact unit0_ok n hn _ hk
  have hu0 := fun k : Fin (loopA (pairsW (cumOf v102 v163 v224 v285 v346 v407 v468 v529 v590 v651 v712))).trips => hu0' k.val (hlt k)
  have hu1' : ∀ k : ℕ, k < pairsN n →
      UnitOK (validW (cumOf v102 v163 v224 v285 v346 v407 v468 v529 v590 v651 v712) (Scalar.addi (Scalar.muli (Scf.iv 0#32 1#32 k) 2#32) 1#32)) := fun k hk => by
    rw [hc, iv01]; exact unit1_ok n hn _ hk
  have hu1 := fun k : Fin (loopA (pairsW (cumOf v102 v163 v224 v285 v346 v407 v468 v529 v590 v651 v712))).trips => hu1' k.val (hlt k)
  have hf0' : ∀ k : ℕ, k < pairsN n →
      inW (cumOf v102 v163 v224 v285 v346 v407 v468 v529 v590 v651 v712) (Scalar.addi (Scalar.addi (Scalar.muli (Scf.iv 0#32 1#32 k) 2#32) 0#32) 1#32) = 1#1 →
        (fdivW (Scalar.addi (Scalar.addi (Scalar.muli (Scf.iv 0#32 1#32 k) 2#32) 0#32) 1#32) 4#32).toNat < 11 := fun k hk => by
    rw [hc, iv01]; exact fire0_lt n hn _ hk
  have hf0 := fun k : Fin (loopA (pairsW (cumOf v102 v163 v224 v285 v346 v407 v468 v529 v590 v651 v712))).trips => hf0' k.val (hlt k)
  have hf1' : ∀ k : ℕ, k < pairsN n →
      inW (cumOf v102 v163 v224 v285 v346 v407 v468 v529 v590 v651 v712) (Scalar.addi (Scalar.addi (Scalar.muli (Scf.iv 0#32 1#32 k) 2#32) 1#32) 1#32) = 1#1 →
        (fdivW (Scalar.addi (Scalar.addi (Scalar.muli (Scf.iv 0#32 1#32 k) 2#32) 1#32) 1#32) 4#32).toNat < 11 := fun k hk => by
    rw [hc, iv01]; exact fire1_lt n hn _ hk
  have hf1 := fun k : Fin (loopA (pairsW (cumOf v102 v163 v224 v285 v346 v407 v468 v529 v590 v651 v712))).trips => hf1' k.val (hlt k)
  exact ⟨hA,
    fun k _ h => rowOff11_inb (hf0 k h),
    fun k _ => (hu0 k).A,
    fun k t _ r => rowOff_inb (c := 0) ((hu0 k).rA t r) (by decide),
    fun k t _ r => rowOff_inb (c := 16) ((hu0 k).rA t r) (by decide),
    fun k t _ r => rowOff_inb (c := 32) ((hu0 k).rA t r) (by decide),
    fun k t _ r => rowOff_inb (c := 48) ((hu0 k).rA t r) (by decide),
    fun k t _ r => rowOff_inb (c := 64) ((hu0 k).rA t r) (by decide),
    fun k t _ r => rowOff_inb (c := 80) ((hu0 k).rA t r) (by decide),
    fun k t _ r => rowOff_inb (c := 96) ((hu0 k).rA t r) (by decide),
    fun k t _ r => rowOff_inb (c := 112) ((hu0 k).rA t r) (by decide),
    fun k _ => (hu0 k).B,
    fun k t _ r => rowOff_inb (c := 0) ((hu0 k).rB t r) (by decide),
    fun k t _ r => rowOff_inb (c := 16) ((hu0 k).rB t r) (by decide),
    fun k t _ r => rowOff_inb (c := 32) ((hu0 k).rB t r) (by decide),
    fun k t _ r => rowOff_inb (c := 48) ((hu0 k).rB t r) (by decide),
    fun k t _ r => rowOff_inb (c := 64) ((hu0 k).rB t r) (by decide),
    fun k t _ r => rowOff_inb (c := 80) ((hu0 k).rB t r) (by decide),
    fun k t _ r => rowOff_inb (c := 96) ((hu0 k).rB t r) (by decide),
    fun k t _ r => rowOff_inb (c := 112) ((hu0 k).rB t r) (by decide),
    fun k _ h => rowOff11_inb (hf1 k h),
    fun k _ => (hu1 k).A,
    fun k t _ r => rowOff_inb (c := 0) ((hu1 k).rA t r) (by decide),
    fun k t _ r => rowOff_inb (c := 16) ((hu1 k).rA t r) (by decide),
    fun k t _ r => rowOff_inb (c := 32) ((hu1 k).rA t r) (by decide),
    fun k t _ r => rowOff_inb (c := 48) ((hu1 k).rA t r) (by decide),
    fun k t _ r => rowOff_inb (c := 64) ((hu1 k).rA t r) (by decide),
    fun k t _ r => rowOff_inb (c := 80) ((hu1 k).rA t r) (by decide),
    fun k t _ r => rowOff_inb (c := 96) ((hu1 k).rA t r) (by decide),
    fun k t _ r => rowOff_inb (c := 112) ((hu1 k).rA t r) (by decide),
    fun k _ => (hu1 k).B,
    fun k t _ r => rowOff_inb (c := 0) ((hu1 k).rB t r) (by decide)⟩

set_option maxHeartbeats 2000000 in
theorem chk56_1 (v102 v163 v224 v285 v346 v407 v468 v529 v590 v651 v712 : BitVec 32) (n : ℕ) (hn : n ≤ 176)
    (hc : cumOf v102 v163 v224 v285 v346 v407 v468 v529 v590 v651 v712 = BitVec.ofNat 32 n) : k1_chk56_1 v102 v163 v224 v285 v346 v407 v468 v529 v590 v651 v712 := by
  have hA : (loopA (pairsW (cumOf v102 v163 v224 v285 v346 v407 v468 v529 v590 v651 v712))).OK := by
    rw [hc, pairsW_val ⟨n, by omega⟩]; exact (loopA_pairs ⟨pairsN n, by show pairsN n < 24; unfold pairsN; omega⟩).1
  have hB : (loopB (pairsW (cumOf v102 v163 v224 v285 v346 v407 v468 v529 v590 v651 v712))).OK := by
    rw [hc, pairsW_val ⟨n, by omega⟩]; exact (loopB_pairs ⟨pairsN n, by show pairsN n < 24; unfold pairsN; omega⟩).1
  have hB0 : (loopB (pairsW (cumOf v102 v163 v224 v285 v346 v407 v468 v529 v590 v651 v712))).trips = 0 := by
    rw [hc, pairsW_val ⟨n, by omega⟩]; exact (loopB_pairs ⟨pairsN n, by show pairsN n < 24; unfold pairsN; omega⟩).2
  have hlt : ∀ k : Fin (loopA (pairsW (cumOf v102 v163 v224 v285 v346 v407 v468 v529 v590 v651 v712))).trips, k.val < pairsN n := fun k =>
    lt_of_lt_of_eq k.isLt (by rw [hc]; exact pairs_trips n hn)
  have hu0' : ∀ k : ℕ, k < pairsN n →
      UnitOK (validW (cumOf v102 v163 v224 v285 v346 v407 v468 v529 v590 v651 v712) (Scalar.addi (Scalar.muli (Scf.iv 0#32 1#32 k) 2#32) 0#32)) := fun k hk => by
    rw [hc, iv01]; exact unit0_ok n hn _ hk
  have hu0 := fun k : Fin (loopA (pairsW (cumOf v102 v163 v224 v285 v346 v407 v468 v529 v590 v651 v712))).trips => hu0' k.val (hlt k)
  have hu1' : ∀ k : ℕ, k < pairsN n →
      UnitOK (validW (cumOf v102 v163 v224 v285 v346 v407 v468 v529 v590 v651 v712) (Scalar.addi (Scalar.muli (Scf.iv 0#32 1#32 k) 2#32) 1#32)) := fun k hk => by
    rw [hc, iv01]; exact unit1_ok n hn _ hk
  have hu1 := fun k : Fin (loopA (pairsW (cumOf v102 v163 v224 v285 v346 v407 v468 v529 v590 v651 v712))).trips => hu1' k.val (hlt k)
  have hf0' : ∀ k : ℕ, k < pairsN n →
      inW (cumOf v102 v163 v224 v285 v346 v407 v468 v529 v590 v651 v712) (Scalar.addi (Scalar.addi (Scalar.muli (Scf.iv 0#32 1#32 k) 2#32) 0#32) 1#32) = 1#1 →
        (fdivW (Scalar.addi (Scalar.addi (Scalar.muli (Scf.iv 0#32 1#32 k) 2#32) 0#32) 1#32) 4#32).toNat < 11 := fun k hk => by
    rw [hc, iv01]; exact fire0_lt n hn _ hk
  have hf0 := fun k : Fin (loopA (pairsW (cumOf v102 v163 v224 v285 v346 v407 v468 v529 v590 v651 v712))).trips => hf0' k.val (hlt k)
  have hf1' : ∀ k : ℕ, k < pairsN n →
      inW (cumOf v102 v163 v224 v285 v346 v407 v468 v529 v590 v651 v712) (Scalar.addi (Scalar.addi (Scalar.muli (Scf.iv 0#32 1#32 k) 2#32) 1#32) 1#32) = 1#1 →
        (fdivW (Scalar.addi (Scalar.addi (Scalar.muli (Scf.iv 0#32 1#32 k) 2#32) 1#32) 1#32) 4#32).toNat < 11 := fun k hk => by
    rw [hc, iv01]; exact fire1_lt n hn _ hk
  have hf1 := fun k : Fin (loopA (pairsW (cumOf v102 v163 v224 v285 v346 v407 v468 v529 v590 v651 v712))).trips => hf1' k.val (hlt k)
  exact ⟨fun k t _ r => rowOff_inb (c := 16) ((hu1 k).rB t r) (by decide),
    fun k t _ r => rowOff_inb (c := 32) ((hu1 k).rB t r) (by decide),
    fun k t _ r => rowOff_inb (c := 48) ((hu1 k).rB t r) (by decide),
    fun k t _ r => rowOff_inb (c := 64) ((hu1 k).rB t r) (by decide),
    fun k t _ r => rowOff_inb (c := 80) ((hu1 k).rB t r) (by decide),
    fun k t _ r => rowOff_inb (c := 96) ((hu1 k).rB t r) (by decide),
    fun k t _ r => rowOff_inb (c := 112) ((hu1 k).rB t r) (by decide),
    hB,
    fun k => none_of_zero hB0 k,
    fun k => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k => none_of_zero hB0 k,
    fun k => none_of_zero hB0 k,
    fun k _ => none_of_zero hB0 k,
    fun k _ => none_of_zero hB0 k,
    fun k _ => none_of_zero hB0 k⟩

set_option maxHeartbeats 2000000 in
theorem chk56_2 (v102 v163 v224 v285 v346 v407 v468 v529 v590 v651 v712 : BitVec 32) (n : ℕ) (hn : n ≤ 176)
    (hc : cumOf v102 v163 v224 v285 v346 v407 v468 v529 v590 v651 v712 = BitVec.ofNat 32 n) : k1_chk56_2 v102 v163 v224 v285 v346 v407 v468 v529 v590 v651 v712 := by
  have hA : (loopA (pairsW (cumOf v102 v163 v224 v285 v346 v407 v468 v529 v590 v651 v712))).OK := by
    rw [hc, pairsW_val ⟨n, by omega⟩]; exact (loopA_pairs ⟨pairsN n, by show pairsN n < 24; unfold pairsN; omega⟩).1
  have hB : (loopB (pairsW (cumOf v102 v163 v224 v285 v346 v407 v468 v529 v590 v651 v712))).OK := by
    rw [hc, pairsW_val ⟨n, by omega⟩]; exact (loopB_pairs ⟨pairsN n, by show pairsN n < 24; unfold pairsN; omega⟩).1
  have hB0 : (loopB (pairsW (cumOf v102 v163 v224 v285 v346 v407 v468 v529 v590 v651 v712))).trips = 0 := by
    rw [hc, pairsW_val ⟨n, by omega⟩]; exact (loopB_pairs ⟨pairsN n, by show pairsN n < 24; unfold pairsN; omega⟩).2
  have hlt : ∀ k : Fin (loopA (pairsW (cumOf v102 v163 v224 v285 v346 v407 v468 v529 v590 v651 v712))).trips, k.val < pairsN n := fun k =>
    lt_of_lt_of_eq k.isLt (by rw [hc]; exact pairs_trips n hn)
  have hu0' : ∀ k : ℕ, k < pairsN n →
      UnitOK (validW (cumOf v102 v163 v224 v285 v346 v407 v468 v529 v590 v651 v712) (Scalar.addi (Scalar.muli (Scf.iv 0#32 1#32 k) 2#32) 0#32)) := fun k hk => by
    rw [hc, iv01]; exact unit0_ok n hn _ hk
  have hu0 := fun k : Fin (loopA (pairsW (cumOf v102 v163 v224 v285 v346 v407 v468 v529 v590 v651 v712))).trips => hu0' k.val (hlt k)
  have hu1' : ∀ k : ℕ, k < pairsN n →
      UnitOK (validW (cumOf v102 v163 v224 v285 v346 v407 v468 v529 v590 v651 v712) (Scalar.addi (Scalar.muli (Scf.iv 0#32 1#32 k) 2#32) 1#32)) := fun k hk => by
    rw [hc, iv01]; exact unit1_ok n hn _ hk
  have hu1 := fun k : Fin (loopA (pairsW (cumOf v102 v163 v224 v285 v346 v407 v468 v529 v590 v651 v712))).trips => hu1' k.val (hlt k)
  have hf0' : ∀ k : ℕ, k < pairsN n →
      inW (cumOf v102 v163 v224 v285 v346 v407 v468 v529 v590 v651 v712) (Scalar.addi (Scalar.addi (Scalar.muli (Scf.iv 0#32 1#32 k) 2#32) 0#32) 1#32) = 1#1 →
        (fdivW (Scalar.addi (Scalar.addi (Scalar.muli (Scf.iv 0#32 1#32 k) 2#32) 0#32) 1#32) 4#32).toNat < 11 := fun k hk => by
    rw [hc, iv01]; exact fire0_lt n hn _ hk
  have hf0 := fun k : Fin (loopA (pairsW (cumOf v102 v163 v224 v285 v346 v407 v468 v529 v590 v651 v712))).trips => hf0' k.val (hlt k)
  have hf1' : ∀ k : ℕ, k < pairsN n →
      inW (cumOf v102 v163 v224 v285 v346 v407 v468 v529 v590 v651 v712) (Scalar.addi (Scalar.addi (Scalar.muli (Scf.iv 0#32 1#32 k) 2#32) 1#32) 1#32) = 1#1 →
        (fdivW (Scalar.addi (Scalar.addi (Scalar.muli (Scf.iv 0#32 1#32 k) 2#32) 1#32) 1#32) 4#32).toNat < 11 := fun k hk => by
    rw [hc, iv01]; exact fire1_lt n hn _ hk
  have hf1 := fun k : Fin (loopA (pairsW (cumOf v102 v163 v224 v285 v346 v407 v468 v529 v590 v651 v712))).trips => hf1' k.val (hlt k)
  exact ⟨fun k _ => none_of_zero hB0 k,
    fun k _ => none_of_zero hB0 k,
    fun k _ => none_of_zero hB0 k,
    fun k _ => none_of_zero hB0 k,
    fun k _ => none_of_zero hB0 k,
    fun k => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k,
    fun k _ => none_of_zero hB0 k⟩

theorem chk56 (v102 v163 v224 v285 v346 v407 v468 v529 v590 v651 v712 : BitVec 32) (n : ℕ) (hn : n ≤ 176)
    (hc : cumOf v102 v163 v224 v285 v346 v407 v468 v529 v590 v651 v712 = BitVec.ofNat 32 n) : k1_chk56 v102 v163 v224 v285 v346 v407 v468 v529 v590 v651 v712 := by
  exact ⟨chk56_0 v102 v163 v224 v285 v346 v407 v468 v529 v590 v651 v712 n hn hc, chk56_1 v102 v163 v224 v285 v346 v407 v468 v529 v590 v651 v712 n hn hc, chk56_2 v102 v163 v224 v285 v346 v407 v468 v529 v590 v651 v712 n hn hc⟩

end Cert.Proof
end
-- ==== Proof.Chunks.lean ====
/-
  The triples of the stretch before the main loop: the lists and the tokens cleared, the eleven chunks.
-/
module

public import proofs.«01_k».proof.Proof.Chunk
public import proofs.«01_k».proof.Proof.Units

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

section
variable (d : Dev nD) (c : Fin τ.nSC) (s : Fin τ.nSub)

local notation "W" => wp frame (wpE (defs₀ (F := F)) 𝒱₀ (V d c s) none) Set.univ

/-- Sixteen words of a list stored. -/
def putUp (o : ℕ) (w : IVec S16 32) (g : Vec F S128 .i32) : Vec F S128 .i32 :=
  fun y => if h : o ≤ (y 0).val ∧ (y 0).val < o + 16 then w (ix1 ⟨(y 0).val - o, by omega⟩) else g y

theorem wp_put {idx : Memref sig .scVector .vmem S128 .i32} (o : Nat) (ho : ∀ a, (![o] : Fin 1 → Nat) a + S16.size a ≤ S128.size a) (w : IVec S16 32)
    {g : Vec F S128 .i32} {Φ : PUnit → sProp 𝕄} :
    H d c s idx fullShare g ⊢ iprop((H (F := F) d c s idx fullShare (putUp o w g) -∗ Φ ⟨⟩) -∗ W (put (F := F) idx o ho w) Φ) := by
  iintro Hp HΦ
  unfold put
  rw [wp_bind]
  iapply (wp_ldH d c s _) $$ Hp
  iintro Hp
  iapply (wp_stH d c s _ (putUp o w g) (fun x => by
    have e : (((Rect.unit (s := S128) ![o] S16.size ho).emb x) 0).val = o + (x 0).val := by simp [Rect.emb, Rect.unit]
    have hx : (x 0).val < 16 := (x 0).isLt
    unfold putUp
    rw [dif_pos (by omega)]
    congr 1
    funext a
    match a with
    | 0 => exact Fin.ext (by show _ - o = _; omega)) (fun y hy => by
    unfold putUp
    rw [dif_neg]
    intro h
    apply hy
    rw [Rect.mem_set_unit]
    intro a
    match a with
    | 0 => exact h)) $$ Hp
  iexact HΦ

/-- The lists cleared: what they hold does not matter. -/
theorem wp_clear {i0 i1 : Memref sig .scVector .vmem S128 .i32} {g0 g1 : Vec F S128 .i32} {Φ : PUnit → sProp 𝕄} :
    iprop(H d c s i0 fullShare g0 ∗ H d c s i1 fullShare g1) ⊢ iprop((∀ g0' g1', H (F := F) d c s i0 fullShare g0' -∗ H (F := F) d c s i1 fullShare g1' -∗ Φ ⟨⟩) -∗ W (clearProg (F := F) i0 i1) Φ) := by
  iintro ⟨H0, H1⟩ HΦ
  unfold clearProg
  rw [wp_bind]
  iapply (wp_put d c s _ _ _) $$ H0
  iintro H0
  rw [wp_bind]
  iapply (wp_put d c s _ _ _) $$ H1
  iintro H1
  rw [wp_bind]
  iapply (wp_put d c s _ _ _) $$ H0
  iintro H0
  rw [wp_bind]
  iapply (wp_put d c s _ _ _) $$ H1
  iintro H1
  rw [wp_bind]
  iapply (wp_put d c s _ _ _) $$ H0
  iintro H0
  rw [wp_bind]
  iapply (wp_put d c s _ _ _) $$ H1
  iintro H1
  rw [wp_bind]
  iapply (wp_put d c s _ _ _) $$ H0
  iintro H0
  rw [wp_bind]
  iapply (wp_put d c s _ _ _) $$ H1
  iintro H1
  rw [wp_bind]
  iapply (wp_put d c s _ _ _) $$ H0
  iintro H0
  rw [wp_bind]
  iapply (wp_put d c s _ _ _) $$ H1
  iintro H1
  rw [wp_bind]
  iapply (wp_put d c s _ _ _) $$ H0
  iintro H0
  rw [wp_bind]
  iapply (wp_put d c s _ _ _) $$ H1
  iintro H1
  rw [wp_bind]
  iapply (wp_put d c s _ _ _) $$ H0
  iintro H0
  rw [wp_bind]
  iapply (wp_put d c s _ _ _) $$ H1
  iintro H1
  rw [wp_bind]
  iapply (wp_put d c s _ _ _) $$ H0
  iintro H0
  iapply (wp_put d c s _ _ _) $$ H1
  iintro H1
  iapply HΦ $$ %_ %_ H0 H1

/-- A row of the tokens cleared. -/
theorem wp_zrow {tok : Memref sig .scVector .vmem S11x16 .i32} (r : Nat) (hr : ∀ a, (![r, 0] : Fin 2 → Nat) a + S1x16.size a ≤ S11x16.size a)
    {g : Vec F S11x16 .i32} (hg : ∀ y : S11x16.Idx, (y 0).val < r → g y = 0#32) {Φ : PUnit → sProp 𝕄} :
    H d c s tok fullShare g ⊢ iprop((∀ g', ⌜∀ y : S11x16.Idx, (y 0).val < r + 1 → g' y = 0#32⌝ -∗ H (F := F) d c s tok fullShare g' -∗ Φ ⟨⟩) -∗ W (zrow (F := F) tok r hr) Φ) := by
  iintro Hp HΦ
  unfold zrow
  rw [wp_bind]
  iapply (wp_ldH d c s _) $$ Hp
  iintro Hp
  iapply (wp_stH d c s _ (fun y => if (y 0).val = r then 0#32 else g y) (fun x => by
    have e : (((Rect.unit (s := S11x16) ![r, 0] S1x16.size hr).emb x) 0).val = r + (x 0).val := by simp [Rect.emb, Rect.unit]
    have hx : (x 0).val < 1 := (x 0).isLt
    show (if _ then _ else _) = _
    rw [if_pos (by omega)]
    rfl) (fun y hy => by
    show (if _ then _ else _) = _
    rw [if_neg]
    intro h
    apply hy
    rw [Rect.mem_set_unit]
    intro a
    match a with
    | 0 => exact ⟨h.ge, by show _ < r + 1; omega⟩
    | 1 => exact ⟨Nat.zero_le _, by show (y 1).val < 0 + 16; have : (y 1).val < 16 := (y 1).isLt; omega⟩)) $$ Hp
  iintro Hp
  iapply HΦ $$ %_ %?_ Hp
  intro y hy
  show (if _ then _ else _) = _
  split
  · rfl
  · exact hg y (by omega)

variable (mk : ℕ → Prop) [DecidablePred mk]

/-- The tokens cleared: as none of the mask's entries leaves them. -/
theorem wp_zero {tok : Memref sig .scVector .vmem S11x16 .i32} (base : ℕ) {g : Vec F S11x16 .i32} {Φ : PUnit → sProp 𝕄} :
    H d c s tok fullShare g ⊢ iprop((H (F := F) d c s tok fullShare (tokBuf mk base 0) -∗ Φ ⟨⟩) -∗ W (zeroProg (F := F) tok) Φ) := by
  iintro Hp HΦ
  have h0 : ∀ y : S11x16.Idx, (y 0).val < 0 → g y = 0#32 := fun _ h => absurd h (Nat.not_lt_zero _)
  unfold zeroProg
  rw [wp_bind]
  iapply (wp_zrow d c s 0 _ h0) $$ Hp
  iintro %g1 %h1 Hp
  rw [wp_bind]
  iapply (wp_zrow d c s 1 _ h1) $$ Hp
  iintro %g2 %h2 Hp
  rw [wp_bind]
  iapply (wp_zrow d c s 2 _ h2) $$ Hp
  iintro %g3 %h3 Hp
  rw [wp_bind]
  iapply (wp_zrow d c s 3 _ h3) $$ Hp
  iintro %g4 %h4 Hp
  rw [wp_bind]
  iapply (wp_zrow d c s 4 _ h4) $$ Hp
  iintro %g5 %h5 Hp
  rw [wp_bind]
  iapply (wp_zrow d c s 5 _ h5) $$ Hp
  iintro %g6 %h6 Hp
  rw [wp_bind]
  iapply (wp_zrow d c s 6 _ h6) $$ Hp
  iintro %g7 %h7 Hp
  rw [wp_bind]
  iapply (wp_zrow d c s 7 _ h7) $$ Hp
  iintro %g8 %h8 Hp
  rw [wp_bind]
  iapply (wp_zrow d c s 8 _ h8) $$ Hp
  iintro %g9 %h9 Hp
  rw [wp_bind]
  iapply (wp_zrow d c s 9 _ h9) $$ Hp
  iintro %g10 %h10 Hp
  iapply (wp_zrow d c s 10 _ h10) $$ Hp
  iintro %g11 %h11 Hp
  rw [show (tokBuf mk base 0 : Vec F S11x16 .i32) = g11 from funext fun y => ?_]
  · iapply HΦ $$ Hp
  · rw [h11 y (y 0).isLt]
    unfold tokBuf
    rw [if_neg (by simp)]

theorem cum_add (o : ℕ) (cum r : BitVec 32) (hcum : cum = BitVec.ofNat 32 (Nat.count mk o)) (hr : r = BitVec.ofNat 32 (Nat.count mk (o + 16) - Nat.count mk o)) :
    Scalar.addi cum r = BitVec.ofNat 32 (Nat.count mk (o + 16)) := by
  have := Nat.count_monotone mk (show o ≤ o + 16 by omega)
  subst hcum hr
  show BitVec.ofNat 32 _ + BitVec.ofNat 32 _ = _
  rw [← BitVec.ofNat_add, Nat.add_sub_cancel' this]

/-- The subcore's first token. -/
def baseN (i : grid1.Coords) : ℕ := 6912 + ((i 1).val * 2 + (i 0).val) * 176

theorem idsW_val (i : grid1.Coords) (o : ℕ) (x : S16.Idx) : idsW i (BitVec.ofNat 32 o) x = BitVec.ofNat 32 (baseN i + (o + (x 0).val)) := by
  show BitVec.ofNat 32 6912 + (BitVec.ofNat 32 (i 1).val * BitVec.ofNat 32 2 + BitVec.ofNat 32 (i 0).val) * BitVec.ofNat 32 176 + BitVec.ofNat 32 o + iotaV x = _
  rw [iotaV_apply, ← BitVec.ofNat_mul, ← BitVec.ofNat_add, ← BitVec.ofNat_mul, ← BitVec.ofNat_add, ← BitVec.ofNat_add, ← BitVec.ofNat_add, baseN, Nat.add_assoc _ o]

/-- All eleven chunks. -/
theorem wp_chunks (i : grid1.Coords) {msk : Memref sig .scVector .vmem S176 .i32} {tok : Memref sig .scVector .vmem S11x16 .i32} {buf : Memref sig .scVector .vmem S16 .i32}
    {q : PosShare TreeShare} {M : Vec F S176 .i32} {g : Vec F S16 .i32}
    (hM : ∀ y : S176.Idx, M y = if mk (y 0).val then 1#32 else 0#32)
    {Φ : (Σ' (v102 : BitVec 32) (v163 : BitVec 32) (v224 : BitVec 32) (v285 : BitVec 32) (v346 : BitVec 32) (v407 : BitVec 32) (v468 : BitVec 32) (v529 : BitVec 32) (v590 : BitVec 32) (v651 : BitVec 32) (v712 : BitVec 32), k1_chk56 v102 v163 v224 v285 v346 v407 v468 v529 v590 v651 v712) → sProp 𝕄} :
    iprop(H d c s msk q M ∗ H (F := F) d c s tok fullShare (tokBuf mk (baseN i) 0) ∗ H d c s buf fullShare g)
      ⊢ iprop((∀ v102 v163 v224 v285 v346 v407 v468 v529 v590 v651 v712 hw, ⌜cumOf v102 v163 v224 v285 v346 v407 v468 v529 v590 v651 v712 = BitVec.ofNat 32 (Nat.count mk 176)⌝ -∗
          (∃ g', H d c s msk q M ∗ H (F := F) d c s tok fullShare (tokBuf mk (baseN i) 176) ∗ H d c s buf fullShare g') -∗ Φ ⟨v102, v163, v224, v285, v346, v407, v468, v529, v590, v651, v712, hw⟩)
      -∗ W (chunksProg (F := F) i msk tok buf) Φ) := by
  iintro HH HΦ
  unfold chunksProg
  have e0 : (0#32 : BitVec 32) = BitVec.ofNat 32 (Nat.count mk 0) := by simp
  rw [wp_bind]
  iapply (wp_chunk d c s mk (baseN i) 0 _ (idsW i 0#32) _ hM e0 (idsW_val i 0)) $$ HH
  iintro %v102 %r0 HH
  have e1 := cum_add mk 0 _ _ e0 r0
  icases HH with ⟨%g1, HH⟩
  rw [wp_bind]
  iapply (wp_chunk d c s mk (baseN i) 16 _ (idsW i 16#32) _ hM e1 (idsW_val i 16)) $$ HH
  iintro %v163 %r1 HH
  have e2 := cum_add mk 16 _ _ e1 r1
  icases HH with ⟨%g2, HH⟩
  rw [wp_bind]
  iapply (wp_chunk d c s mk (baseN i) 32 _ (idsW i 32#32) _ hM e2 (idsW_val i 32)) $$ HH
  iintro %v224 %r2 HH
  have e3 := cum_add mk 32 _ _ e2 r2
  icases HH with ⟨%g3, HH⟩
  rw [wp_bind]
  iapply (wp_chunk d c s mk (baseN i) 48 _ (idsW i 48#32) _ hM e3 (idsW_val i 48)) $$ HH
  iintro %v285 %r3 HH
  have e4 := cum_add mk 48 _ _ e3 r3
  icases HH with ⟨%g4, HH⟩
  rw [wp_bind]
  iapply (wp_chunk d c s mk (baseN i) 64 _ (idsW i 64#32) _ hM e4 (idsW_val i 64)) $$ HH
  iintro %v346 %r4 HH
  have e5 := cum_add mk 64 _ _ e4 r4
  icases HH with ⟨%g5, HH⟩
  rw [wp_bind]
  iapply (wp_chunk d c s mk (baseN i) 80 _ (idsW i 80#32) _ hM e5 (idsW_val i 80)) $$ HH
  iintro %v407 %r5 HH
  have e6 := cum_add mk 80 _ _ e5 r5
  icases HH with ⟨%g6, HH⟩
  rw [wp_bind]
  iapply (wp_chunk d c s mk (baseN i) 96 _ (idsW i 96#32) _ hM e6 (idsW_val i 96)) $$ HH
  iintro %v468 %r6 HH
  have e7 := cum_add mk 96 _ _ e6 r6
  icases HH with ⟨%g7, HH⟩
  rw [wp_bind]
  iapply (wp_chunk d c s mk (baseN i) 112 _ (idsW i 112#32) _ hM e7 (idsW_val i 112)) $$ HH
  iintro %v529 %r7 HH
  have e8 := cum_add mk 112 _ _ e7 r7
  icases HH with ⟨%g8, HH⟩
  rw [wp_bind]
  iapply (wp_chunk d c s mk (baseN i) 128 _ (idsW i 128#32) _ hM e8 (idsW_val i 128)) $$ HH
  iintro %v590 %r8 HH
  have e9 := cum_add mk 128 _ _ e8 r8
  icases HH with ⟨%g9, HH⟩
  rw [wp_bind]
  iapply (wp_chunk d c s mk (baseN i) 144 _ (idsW i 144#32) _ hM e9 (idsW_val i 144)) $$ HH
  iintro %v651 %r9 HH
  have e10 := cum_add mk 144 _ _ e9 r9
  icases HH with ⟨%g10, HH⟩
  rw [wp_bind]
  iapply (wp_chunk d c s mk (baseN i) 160 _ (idsW i 160#32) _ hM e10 (idsW_val i 160)) $$ HH
  iintro %v712 %r10 HH
  have e11 := cum_add mk 160 _ _ e10 r10
  have hc : cumOf v102 v163 v224 v285 v346 v407 v468 v529 v590 v651 v712 = BitVec.ofNat 32 (Nat.count mk 176) := e11
  have hw : k1_chk56 v102 v163 v224 v285 v346 v407 v468 v529 v590 v651 v712 := chk56 v102 v163 v224 v285 v346 v407 v468 v529 v590 v651 v712 _ (Nat.count_le mk) hc
  rw [wp_bind]
  rw [show (Prog.lift (TpuEff.assume (k1_chk56 v102 v163 v224 v285 v346 v407 v468 v529 v590 v651 v712) (k1_chk56.dec v102 v163 v224 v285 v346 v407 v468 v529 v590 v651 v712)) : Prog (TpuEff nD τ sig (Elt F) Λ₀ (Proc.scVector c s)) _) = .op (.assume _ _) Prog.ret from rfl]
  iapply (wp_assume 𝒱₀ (V d c s) none Set.univ hw)
  rw [wp_ret]
  imodintro
  rw [wp_pure]
  imodintro
  iapply HΦ $$ %v102 %v163 %v224 %v285 %v346 %v407 %v468 %v529 %v590 %v651 %v712 %hw %hc [HH]
  iexact HH

end
end Cert.Proof
end
-- ==== Proof.Lists.lean ====
/-
  The list of table rows a unit of work gathers, as numbers, and what the gather over it lands.
-/
module

public import proofs.«01_k».proof.Proof.Chunks

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

section
variable (d : Dev nD) (c : Fin τ.nSC) (s : Fin τ.nSub)

local notation "W" => wp frame (wpE (defs₀ (F := F)) 𝒱₀ (V d c s) none) Set.univ

/-! ## The list of a unit as numbers -/

/-- The row of the tables token `n`'s block `j` of unit `u` is at. -/
def rowN (u n j : ℕ) : ℕ := n / 64 * 2048 + n % 64 / 8 * 256 + n % 8 + u % 4 * 64 + 8 * j

theorem rowN_lt (u n j : ℕ) (hn : n < 12544) (hj : j < 8) : rowN u n j < 401408 := by unfold rowN; omega

theorem shr3_val : ∀ b : Fin 64, (IntOp.shrsi .vector (BitVec.ofNat 32 b.val) 3#32) = BitVec.ofNat 32 (b.val / 8) := by decide +kernel
theorem and7_val : ∀ b : Fin 64, (IntOp.andi (BitVec.ofNat 32 b.val) 7#32) = BitVec.ofNat 32 (b.val % 8) := by decide +kernel
theorem and63_val (n : ℕ) (hn : n < 12544) : IntOp.andi (BitVec.ofNat 32 n) 63#32 = BitVec.ofNat 32 (n % 64) := by
  apply BitVec.eq_of_toNat_eq
  show (BitVec.ofNat 32 n &&& BitVec.ofNat 32 (2 ^ 6 - 1)).toNat = _
  rw [BitVec.toNat_and, BitVec.toNat_ofNat, BitVec.toNat_ofNat, BitVec.toNat_ofNat, Nat.mod_eq_of_lt (show n < 2 ^ 32 by omega), Nat.mod_eq_of_lt (show 2 ^ 6 - 1 < 2 ^ 32 by decide),
    Nat.and_two_pow_sub_one_eq_mod]
  omega
theorem shr6_val (n : ℕ) (hn : n < 12544) : IntOp.shrui .vector (BitVec.ofNat 32 n) 6#32 = BitVec.ofNat 32 (n / 64) := by
  apply BitVec.eq_of_toNat_eq
  show (if _ then _ else _ : BitVec 32).toNat = _
  rw [if_pos (by decide)]
  show (BitVec.ofNat 32 n >>> (6#32).toNat).toNat = _
  rw [BitVec.toNat_ushiftRight, BitVec.toNat_ofNat, BitVec.toNat_ofNat, Nat.mod_eq_of_lt (show n < 2 ^ 32 by omega), Nat.shiftRight_eq_div_pow]
  show n / 2 ^ 6 = (BitVec.ofNat 32 (n / 64)).toNat
  rw [BitVec.toNat_ofNat]
  omega

theorem baseIx_val (u : Fin 48) (t : IVec S16 32) (x : S16.Idx) (n : ℕ) (hn : n < 12544) (ht : t x = BitVec.ofNat 32 n) (j : ℕ) (w : BitVec 32) (hw : w = BitVec.ofNat 32 (8 * j)) :
    addi (baseIx (BitVec.ofNat 32 u.val) t) (broadcast S16 w) x = BitVec.ofNat 32 (rowN u.val n j) := by
  subst hw
  show (IntOp.shrui .vector (t x) 6#32 * BitVec.ofNat 32 2048 + IntOp.shrsi .vector (IntOp.andi (t x) 63#32) 3#32 * BitVec.ofNat 32 256
    + IntOp.andi (IntOp.andi (t x) 63#32) 7#32 + fmodW (BitVec.ofNat 32 u.val) 4#32 * BitVec.ofNat 32 64) + BitVec.ofNat 32 (8 * j) = _
  have h7 : n % 64 % 8 = n % 8 := by omega
  rw [ht, and63_val n hn, shr6_val n hn, shr3_val ⟨n % 64, by omega⟩, and7_val ⟨n % 64, by omega⟩, fmodW4_val, ← BitVec.ofNat_mul, ← BitVec.ofNat_mul, ← BitVec.ofNat_mul,
    ← BitVec.ofNat_add, ← BitVec.ofNat_add, ← BitVec.ofNat_add, ← BitVec.ofNat_add]
  simp only [h7]
  rfl

theorem nthM_lt (mk : ℕ → Prop) [DecidablePred mk] (p : ℕ) : nthM mk p < 176 := by
  have : ∀ n, 0 < n → findM mk n p < n := fun n => by
    induction n with
    | zero => intro h; omega
    | succ n ih =>
      intro _
      unfold findM
      split
      · omega
      · rcases Nat.eq_zero_or_pos n with h | h
        · subst h; simp [findM]
        · have := ih h; omega
  exact this 176 (by decide)

section Mask
variable (mk : ℕ → Prop) [DecidablePred mk] (base : ℕ)

/-- The token at place `p`. -/
def tokenAt (p : ℕ) : ℕ := if p < Nat.count mk 176 then base + nthM mk p else 0

theorem tokBuf_val (y : S11x16.Idx) : tokBuf mk base 176 y = BitVec.ofNat 32 (tokenAt mk base (16 * (y 0).val + (y 1).val)) := by
  unfold tokBuf tokenAt
  split <;> rfl

theorem tokenAt_lt (hb : base ≤ 12368) (p : ℕ) : tokenAt mk base p < 12544 := by
  unfold tokenAt
  have := nthM_lt mk p
  split <;> omega

/-- The table row the `r`-th word of unit `u`'s list names. -/
def unitRow (u r : ℕ) : ℕ := rowN u (tokenAt mk base (16 * (u / 4) + r % 16)) (r / 16)

theorem unitRow_lt (hb : base ≤ 12368) (u r : ℕ) (hr : r < 128) : unitRow mk base u r < 401408 :=
  rowN_lt _ _ _ (tokenAt_lt mk base hb _) (by omega)

/-- Unit `u`'s list. -/
def unitLst (u : ℕ) : Vec F S128 .i32 := fun y => BitVec.ofNat 32 (unitRow mk base u (y 0).val)

theorem puts_eq (u : Fin 48) (hb : base ≤ 12368) (b : IVec S16 32) (t : IVec S16 32) (hbt : b = baseIx (BitVec.ofNat 32 u.val) t)
    (ht : ∀ x : S16.Idx, t x = BitVec.ofNat 32 (tokenAt mk base (16 * (u.val / 4) + (x 0).val))) (g : Vec F S128 .i32) :
    putUp 112 (addi b (broadcast S16 56#32)) (putUp 96 (addi b (broadcast S16 48#32)) (putUp 80 (addi b (broadcast S16 40#32)) (putUp 64 (addi b (broadcast S16 32#32))
      (putUp 48 (addi b (broadcast S16 24#32)) (putUp 32 (addi b (broadcast S16 16#32)) (putUp 16 (addi b (broadcast S16 8#32)) (putUp (F := F) 0 (addi b (broadcast S16 0#32)) g)))))))
      = unitLst mk base u.val := by
  subst hbt
  have key : ∀ (j : ℕ) (w : BitVec 32) (hw : w = BitVec.ofNat 32 (8 * j)) (y : S128.Idx) (hy : 16 * j ≤ (y 0).val ∧ (y 0).val < 16 * j + 16),
      addi (baseIx (BitVec.ofNat 32 u.val) t) (broadcast S16 w) (ix1 ⟨(y 0).val - 16 * j, by omega⟩) = unitLst (F := F) mk base u.val y := fun j w hw y hy => by
    rw [baseIx_val u t _ _ (tokenAt_lt mk base hb _) (ht _) j w hw]
    unfold unitLst unitRow
    have e1 : (y 0).val / 16 = j := by omega
    have e2 : (y 0).val % 16 = (y 0).val - 16 * j := by omega
    rw [e1, e2]
  funext y
  have hy : (y 0).val < 128 := (y 0).isLt
  unfold putUp
  split; · next h => exact key 7 _ rfl y h
  split; · next h => exact key 6 _ rfl y h
  split; · next h => exact key 5 _ rfl y h
  split; · next h => exact key 4 _ rfl y h
  split; · next h => exact key 3 _ rfl y h
  split; · next h => exact key 2 _ rfl y h
  split; · next h => exact key 1 _ rfl y h
  split; · next h => exact key 0 _ rfl y h
  omega

end Mask

/-- Rows of a table gathered. -/
def gath (G : Vec F S401408x128 .f32) (R : ℕ → ℕ) : Vec F S128x128 .f32 := fun x => G (ix2 ⟨R (x 0).val % 401408, Nat.mod_lt _ (by decide)⟩ (x 1))

theorem gather_eq (G : Vec F S401408x128 .f32) (R : ℕ → ℕ) (L : Vec F S128 .i32) (hR : ∀ r, r < 128 → R r < 401408) (hL : ∀ y : S128.Idx, L y = BitVec.ofNat 32 (R (y 0).val))
    (hn : S128.numel = S128x128.size (gathers_S401408x128_S128x128).axis') (hin : ∀ x, (L x).toNat < S401408x128.size (gathers_S401408x128_S128x128).axis) :
    SparseCore.gatherPayload (F := F) (e := .f32) gathers_S401408x128_S128x128 G (SparseCore.rows L hn hin) = gath G R := by
  funext x
  unfold SparseCore.gatherPayload gath
  congr 1
  funext a
  apply Fin.ext
  match a with
  | 0 =>
    have hx : (x 0).val < 128 := (x 0).isLt
    have : ((S128.rowMajor.symm (Fin.cast hn.symm (x 0))) 0).val = (x 0).val := by
      have h := Shape.rowMajor_val_one (S128.rowMajor.symm (Fin.cast hn.symm (x 0)))
      rw [Equiv.apply_symm_apply] at h
      exact h.symm
    show (L (S128.rowMajor.symm (Fin.cast hn.symm (x 0)))).toNat = R (x 0).val % 401408
    rw [hL, this, BitVec.toNat_ofNat]
    have := hR _ hx
    omega
  | 1 => rfl

end
end Cert.Proof
end
-- ==== Proof.Fire.lean ====
/-
  A unit of work started: its list built and its two gathers put in flight.
-/
module

public import proofs.«01_k».proof.Proof.Lists

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

section
variable (d : Dev nD) (c : Fin τ.nSC) (s : Fin τ.nSub)

local notation "W" => wp frame (wpE (defs₀ (F := F)) 𝒱₀ (V d c s) none) Set.univ

/-- The slot of a unit in flight: its list, its two blocks and the two semaphores its gathers count on. -/
structure Slot where
  idx : Memref sig .scVector .vmem S128 .i32
  dP : Memref sig .scVector .vmem S128x128 .f32
  dT : Memref sig .scVector .vmem S128x128 .f32
  sP : DmaSems sig S_
  sT : DmaSems sig S_
  hdP : dP.IsWhole
  hdT : dT.IsWhole
  hNP : ∀ h : S401408x128.Gathers 0 S128x128, ∑ j, (dP.slice (S128x128.rowRect h.axis' j) (S128x128.stride_rowRect h.axis' j)).view.dmaCredit = dP.view.dmaCredit
  hNT : ∀ h : S401408x128.Gathers 0 S128x128, ∑ j, (dT.slice (S128x128.rowRect h.axis' j) (S128x128.stride_rowRect h.axis' j)).view.dmaCredit = dT.view.dmaCredit

/-- A gather started: in flight, to deliver the rows gathered and the shares it took. -/
theorem wp_gatherH {α : Type} {Q : α → sProp 𝕄} {src : Memref sig .scVector .hbm S401408x128 .f32} {dst : Memref sig .scVector .vmem S128x128 .f32} {offs : Memref sig .scVector .vmem S128 .i32}
    {sem : DmaSem sig} {hp hsrc he hsp hr} {hn : S128.numel = S128x128.size (gathers_S401408x128_S128x128).axis'} {k : PUnit → Prog (TpuEff nD τ sig (Elt F) Λ₀ (Proc.scVector c s)) α} {q qo : PosShare TreeShare} {G : Vec F S401408x128 .f32} {g : Vec F S128x128 .f32}
    (hN : ∀ h : S401408x128.Gathers 0 S128x128, ∑ j, (dst.slice (S128x128.rowRect h.axis' j) (S128x128.stride_rowRect h.axis' j)).view.dmaCredit = dst.view.dmaCredit)
    (R : ℕ → ℕ) (hR : ∀ r, r < 128 → R r < 401408) (fo : Buf (Elt F) (offs.view.loc (V d c s))) (hL : ∀ y : S128.Idx, offs.view.read (Elt F) fo y = BitVec.ofNat 32 (R (y 0).val)) :
    iprop(H d c s src q G ∗ H d c s dst fullShare g ∗ (offs.view.loc (V d c s) ↦[offs.view.set]{qo} fo) ∗ semVal (V d c s, SemLoc.dma sem) 0)
      ⊢ iprop((Transfers.Flight countersEmb (V d c s) (.dma sem) (default : HIx 1) dst.view.dmaCredit
            iprop(H d c s dst fullShare (gath G R) ∗ H d c s src q G ∗ (offs.view.loc (V d c s) ↦[offs.view.set]{qo} fo)) -∗ W (k ⟨⟩) Q)
          -∗ W (SparseCore.enqueueIndirectGather hp src dst gathers_S401408x128_S128x128 offs hn sem hsrc he hsp hr >>= k) Q) := by
  have hin : ∀ x, (offs.view.read (Elt F) fo x).toNat < S401408x128.size (gathers_S401408x128_S128x128).axis := fun x => by
    rw [hL, BitVec.toNat_ofNat]
    have h1 := hR (x 0).val (x 0).isLt
    show _ < 401408
    omega
  unfold H
  iintro ⟨⟨%fs, %hfs, Hs⟩, ⟨%fd, %hfd, Hd⟩, Ho, Hv⟩ HΦ
  iapply (SparseCore.wp_indirectGatherLocal countersEmb 𝒱₀ (V d c s) none (hg := gathers_S401408x128_S128x128) (default : HIx 1)
      dst.view.dmaCredit (hN _) (by decide) hin) $$ [Hs Hd Ho Hv]
  · isplitl [Hs]; · iexact Hs
    isplitl [Hd]; · iexact Hd
    isplitl [Ho]; · iexact Ho
    iexact Hv
  iintro Hfl
  iapply HΦ
  iapply (Transfers.Flight_mono countersEmb (V d c s) ?_) $$ Hfl
  iintro ⟨Hd, Hs, Ho⟩
  isplitl [Hd]
  · iexists (dst.view.write (Elt F) fd (SparseCore.gatherPayload gathers_S401408x128_S128x128 (src.view.read (Elt F) fs) (SparseCore.rows (offs.view.read (Elt F) fo) hn hin)) Finset.univ)
    isplitr
    · ipureintro
      rw [View.read_write_univ, hfs]
      exact gather_eq G R (offs.view.read (Elt F) fo) hR hL hn hin
    · iexact Hd
  isplitl [Hs]
  · iexists fs
    isplitr
    · ipureintro; exact hfs
    · iexact Hs
  · iexact Ho

section Units
variable (A : Slot) (P T : Memref sig .scVector .hbm S401408x128 .f32) (q : PosShare TreeShare) (GP GT : Vec F S401408x128 .f32)

/-- The slot with nothing in flight. -/
def free : sProp 𝕄 :=
  iprop((∃ g, H (F := F) d c s A.idx fullShare g) ∗ (∃ g, H (F := F) d c s A.dP fullShare g) ∗ (∃ g, H (F := F) d c s A.dT fullShare g) ∗ H d c s P q GP ∗ H d c s T q GT
    ∗ semVal (V d c s, SemLoc.dma A.sP.sem) 0 ∗ semVal (V d c s, SemLoc.dma A.sT.sem) 0)

/-- The slot with the gathers of the rows `R` in flight. -/
def pend (R : ℕ → ℕ) : sProp 𝕄 :=
  iprop(∃ f : Buf (Elt F) (A.idx.view.loc (V d c s)),
    Transfers.Flight countersEmb (V d c s) (.dma A.sP.sem) (default : HIx 1) A.dP.view.dmaCredit
        iprop(H d c s A.dP fullShare (gath GP R) ∗ H d c s P q GP ∗ (A.idx.view.loc (V d c s) ↦[A.idx.view.set]{fullShare.left} f))
    ∗ Transfers.Flight countersEmb (V d c s) (.dma A.sT.sem) (default : HIx 1) A.dT.view.dmaCredit
        iprop(H d c s A.dT fullShare (gath GT R) ∗ H d c s T q GT ∗ (A.idx.view.loc (V d c s) ↦[A.idx.view.set]{fullShare.right} f)))

variable (mk : ℕ → Prop) [DecidablePred mk] (base : ℕ)

/-- The list of unit `u` built. -/
theorem wp_build {tok : Memref sig .scVector .vmem S11x16 .i32} {idx : Memref sig .scVector .vmem S128 .i32} {qt : PosShare TreeShare} (hb : base ≤ 12368) (u : Fin 48) (h : (fdivW (BitVec.ofNat 32 u.val) 4#32).toNat < 11)
    {g : Vec F S128 .i32} {Φ : PUnit → sProp 𝕄} :
    iprop(H (F := F) d c s tok qt (tokBuf mk base 176) ∗ H d c s idx fullShare g)
      ⊢ iprop((H (F := F) d c s tok qt (tokBuf mk base 176) ∗ H (F := F) d c s idx fullShare (unitLst mk base u.val) -∗ Φ ⟨⟩) -∗ W (buildProg (F := F) tok idx (BitVec.ofNat 32 u.val) h) Φ) := by
  iintro ⟨Ht, Hi⟩ HΦ
  unfold buildProg
  rw [wp_bind]
  iapply (wp_ldH d c s _) $$ Ht
  iintro Ht
  have hg : (fdivW (BitVec.ofNat 32 u.val) 4#32).toNat = u.val / 4 := by
    rw [fdivW4_val, BitVec.toNat_ofNat]; have := u.isLt; omega
  have ht : ∀ x : S16.Idx, shapeCast S16 (fun x : S1x16.Idx => (tokBuf mk base 176 : Vec F S11x16 .i32) ((Rect.unit (s := S11x16) (rowOff11 (fdivW (BitVec.ofNat 32 u.val) 4#32)) S1x16.size (rowOff11_inb h)).emb x)) shapeCasts_S1x16_S16 x
      = BitVec.ofNat 32 (tokenAt mk base (16 * (u.val / 4) + (x 0).val)) := fun x => by
    refine (shapeCast_dropUnit_apply (n := 1) ![16] _ _ x).trans ?_
    rw [tokBuf_val]
    have e0 : (((Rect.unit (s := S11x16) (rowOff11 (fdivW (BitVec.ofNat 32 u.val) 4#32)) S1x16.size (rowOff11_inb h)).emb (Fin.cons ⟨0, Nat.one_pos⟩ x)) 0).val = u.val / 4 := by
      rw [← hg]; simp [Rect.emb, Rect.unit, rowOff11, Scalar.indexCast]; rfl
    have e1 : (((Rect.unit (s := S11x16) (rowOff11 (fdivW (BitVec.ofNat 32 u.val) 4#32)) S1x16.size (rowOff11_inb h)).emb (Fin.cons ⟨0, Nat.one_pos⟩ x)) 1).val = (x 0).val := by
      simp [Rect.emb, Rect.unit, rowOff11]; rfl
    rw [e0, e1]
  rw [wp_bind]
  iapply (wp_put d c s _ _ _) $$ Hi
  iintro Hi
  rw [wp_bind]
  iapply (wp_put d c s _ _ _) $$ Hi
  iintro Hi
  rw [wp_bind]
  iapply (wp_put d c s _ _ _) $$ Hi
  iintro Hi
  rw [wp_bind]
  iapply (wp_put d c s _ _ _) $$ Hi
  iintro Hi
  rw [wp_bind]
  iapply (wp_put d c s _ _ _) $$ Hi
  iintro Hi
  rw [wp_bind]
  iapply (wp_put d c s _ _ _) $$ Hi
  iintro Hi
  rw [wp_bind]
  iapply (wp_put d c s _ _ _) $$ Hi
  iintro Hi
  iapply (wp_put d c s _ _ _) $$ Hi
  iintro Hi
  iapply HΦ
  isplitl [Ht]
  · iexact Ht
  iapply (H_congr d c s ?_) $$ Hi
  exact puts_eq (F := F) mk base u hb _ _ rfl ht _

/-- A unit started in a free slot. -/
theorem wp_fire {tok : Memref sig .scVector .vmem S11x16 .i32} {qt : PosShare TreeShare} (hb : base ≤ 12368) (u : Fin 48) (h : (fdivW (BitVec.ofNat 32 u.val) 4#32).toNat < 11) {Φ : PUnit → sProp 𝕄} :
    iprop(H (F := F) d c s tok qt (tokBuf mk base 176) ∗ free d c s A (tableAll P) (tableAll T) q GP GT)
      ⊢ iprop((H (F := F) d c s tok qt (tokBuf mk base 176) ∗ pend d c s A (tableAll P) (tableAll T) q GP GT (unitRow mk base u.val) -∗ Φ ⟨⟩)
        -∗ W (fireProg (F := F) P T tok A.idx A.dP A.dT A.sP A.sT (BitVec.ofNat 32 u.val) h) Φ) := by
  unfold free
  iintro ⟨Ht, ⟨⟨%gi, Hi⟩, ⟨%gp, Hp⟩, ⟨%gt, Hd⟩, HP, HT, Hs, Hs'⟩⟩ HΦ
  unfold fireProg
  rw [wp_bind]
  iapply (wp_build d c s mk base hb u h) $$ [Ht Hi]
  · isplitl [Ht] <;> iassumption
  iintro ⟨Ht, Hi⟩
  unfold H
  icases Hi with ⟨%f, %hf, Hi⟩
  ihave Hi' := (pointsTo_share (PosShare.mem_left_op_right fullShare)).1 $$ Hi
  icases Hi' with ⟨Hi, Hi'⟩
  have hR : ∀ r, r < 128 → unitRow mk base u.val r < 401408 := fun r hr => unitRow_lt mk base hb _ r hr
  have hL : ∀ y : S128.Idx, A.idx.view.read (Elt F) f y = BitVec.ofNat 32 (unitRow mk base u.val (y 0).val) := fun y => by rw [hf]; rfl
  iapply (wp_gatherH d c s (G := GP) (q := q) (g := gp) A.hNP (unitRow mk base u.val) hR f hL) $$ [HP Hp Hi Hs]
  · unfold H
    isplitl [HP]; · iexact HP
    isplitl [Hp]; · iexact Hp
    isplitl [Hi]; · iexact Hi
    iexact Hs
  iintro Hf
  iapply (wp_gatherH d c s (G := GT) (q := q) (g := gt) A.hNT (unitRow mk base u.val) hR f hL) $$ [HT Hd Hi' Hs']
  · unfold H
    isplitl [HT]; · iexact HT
    isplitl [Hd]; · iexact Hd
    isplitl [Hi']; · iexact Hi'
    iexact Hs'
  iintro Hf'
  rw [wp_pure]
  imodintro
  iapply HΦ
  isplitl [Ht]; · iexact Ht
  unfold pend
  iexists f
  isplitl [Hf]
  · iexact Hf
  · iexact Hf'

end Units

end
end Cert.Proof
end
-- ==== Proof.Half.lean ====
/-
  A unit of work done: its gathers waited for and its tokens added in, the next one put in flight meanwhile.
-/
module

public import proofs.«01_k».proof.Proof.Fire

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

section
variable (d : Dev nD) (c : Fin τ.nSC) (s : Fin τ.nSub)

local notation "W" => wp frame (wpE (defs₀ (F := F)) 𝒱₀ (V d c s) none) Set.univ

/-- The first `n` tokens of the blocks `g` and `h` added in. -/
def toksUp (g h : Vec F S128x128 .f32) : ℕ → Acc F → Acc F
  | 0, a => a
  | t + 1, a => if ht : t < 16 then tokUp g h t ht (toksUp g h t a) else toksUp g h t a

/-- The tokens of a unit whose two blocks are here. -/
theorem wp_unit {P T : Memref sig .scVector .vmem S128x128 .f32} {g h : Vec F S128x128 .f32} (v : ℕ) (hv : v ≤ 16) (w : BitVec 32) (hw : w = BitVec.ofNat 32 v) (ok : UnitOK w) (a : Acc F) {Φ : Acc F → sProp 𝕄} :
    iprop(H d c s P fullShare g ∗ H d c s T fullShare h)
      ⊢ iprop((H d c s P fullShare g ∗ H d c s T fullShare h -∗ Φ (toksUp g h v a)) -∗ W (unitProg (F := F) P T w ok.A ok.B ok.rA ok.rB a) Φ) := by
  subst hw
  iintro ⟨Hp, Ht⟩ HΦ
  unfold unitProg
  have hA := (loopA_pairs ⟨v, by omega⟩).2
  have hB := (loopB_pairs ⟨v, by omega⟩).2
  simp only [] at hA hB
  iapply (Scf.wp_for_bind frame (wpE (defs₀ (F := F)) 𝒱₀ (V d c s) none) Set.univ _ _ _ ok.A _ _
    (fun t b => iprop(⌜b = toksUp g h t a⌝ ∗ H d c s P fullShare g ∗ H d c s T fullShare h)) ?_) $$ [Hp Ht]
  · intro t b
    have ht : t.val < v := lt_of_lt_of_eq t.isLt hA
    iintro ⟨%hb, Hp, Ht⟩
    unfold H
    icases Hp with ⟨%f, %hf, Hp⟩
    icases Ht with ⟨%f', %hf', Ht⟩
    have hiv : (Scf.iv 0#32 1#32 t : BitVec 32).toNat = t.val := by rw [iv01, BitVec.toNat_ofNat]; omega
    iapply (wp_tok d c s (ok.rA t) (by rw [hiv]; omega) b) $$ [Hp Ht]
    · isplitl [Hp] <;> iassumption
    iintro ⟨Hp, Ht⟩
    isplitr
    · ipureintro
      simp only [hiv]
      rw [hf, hf', hb]
      show _ = if ht : t.val < 16 then _ else _
      rw [dif_pos (by omega)]
    isplitl [Hp]
    · iexists f; isplitr
      · ipureintro; exact hf
      · iexact Hp
    · iexists f'; isplitr
      · ipureintro; exact hf'
      · iexact Ht
  · isplitr
    · ipureintro; rfl
    isplitl [Hp] <;> iassumption
  iintro %b ⟨%hb, Hp, Ht⟩
  iapply (Scf.wp_for frame (wpE (defs₀ (F := F)) 𝒱₀ (V d c s) none) Set.univ _ _ _ ok.B _ _
    (fun t b => iprop(⌜b = toksUp g h v a⌝ ∗ H d c s P fullShare g ∗ H d c s T fullShare h)) ?_)
  · intro t b
    exact absurd (lt_of_lt_of_eq t.isLt hB) (Nat.not_lt_zero _)
  isplitl [Hp Ht]
  · isplitr
    · ipureintro; rw [hb]; exact congrArg (fun x => toksUp g h x a) hA
    isplitl [Hp] <;> iassumption
  iintro %b' ⟨%hb', Hp, Ht⟩
  rw [hb']
  iapply HΦ
  isplitl [Hp] <;> iassumption

section Halves
variable (P T : Memref sig .scVector .hbm S401408x128 .f32) (GP GT : Vec F S401408x128 .f32) (mk : ℕ → Prop) [DecidablePred mk] (base : ℕ) (O : CellTallies nD τ sig (HIx 1)) (W₀ : Waits sig (HIx 1))

/-- The first `u` units added in, of `n` tokens. -/
def unitsUp (n : ℕ) : ℕ → Acc F → Acc F
  | 0, a => a
  | u + 1, a => toksUp (gath GP (unitRow mk base u)) (gath GT (unitRow mk base u)) (validN n u) (unitsUp n u a)

/-- The waits recorded: those there before and some of this subcore's own. -/
def ow : sProp 𝕄 := iprop(∃ W', ⌜∀ p ∈ W', p ∈ W₀ ∨ p.2 = none⌝ ∗ owes (V d c s) O W')

theorem ow_insert {W' : Waits sig (HIx 1)} (h : ∀ p ∈ W', p ∈ W₀ ∨ p.2 = none) (sm : SemLoc sig) :
    (owes (V d c s) O (insert (sm, (default : HIx 1)) W') : sProp 𝕄) ⊢ iprop(∃ W', ⌜∀ p ∈ W', p ∈ W₀ ∨ p.2 = none⌝ ∗ owes (V d c s) O W') := by
  iintro H
  iexists (insert (sm, (default : HIx 1)) W')
  isplitr
  · ipureintro
    intro p hp
    rcases Finset.mem_insert.mp hp with hp | hp
    · right; rw [hp]; rfl
    · exact h p hp
  · iexact H

/-- The gather of a slot waited for. -/
theorem wp_waitH {α : Type} {Q : α → sProp 𝕄} {src : Memref sig .scVector .hbm S401408x128 .f32} {dst : Memref sig .scVector .vmem S128x128 .f32} {sem : DmaSem sig} {hs : src.view.WordExact} {hd : dst.view.WordExact}
    {k : PUnit → Prog (TpuEff nD τ sig (Elt F) Λ₀ (Proc.scVector c s)) α} {D : sProp 𝕄} :
    iprop(Transfers.MayWaits (V d c s) (default : HIx 1) O ∗ Transfers.Flight countersEmb (V d c s) (.dma sem) (default : HIx 1) dst.view.dmaCredit D ∗ ow d c s O W₀)
      ⊢ iprop((D ∗ semVal (V d c s, SemLoc.dma sem) 0 ∗ ow d c s O W₀ -∗ W (k ⟨⟩) Q) -∗ W (SparseCore.waitIndirectGather sem src dst hs hd >>= k) Q) := by
  iintro ⟨Hmw, Hf, Ho⟩ HΦ
  unfold ow
  icases Ho with ⟨%W', %hW, Ho⟩
  iapply (Transfers.wp_waitLocalO countersEmb 𝒱₀ (V d c s) none (default : HIx 1) (rfl : dst.view.dmaCredit = _)) $$ [Hmw Hf Ho]
  · isplitl [Hf]; · iexact Hf
    isplitl [Ho]; · iexact Ho
    iapply (Transfers.MayWaits.elim (SemLoc.dma sem)) $$ Hmw
  iintro ⟨Hd, Hs, Ho⟩
  iapply HΦ
  isplitl [Hd]; · iexact Hd
  isplitl [Hs]; · iexact Hs
  iapply (ow_insert d c s O W₀ hW _) $$ Ho

variable (n : ℕ)

/-- A slot with unit `u` in flight when there is one, else with nothing. -/
def next (A : Slot) (q : PosShare TreeShare) (u : ℕ) : sProp 𝕄 :=
  if u < unitsN n then pend d c s A (tableAll P) (tableAll T) q GP GT (unitRow mk base u) else free d c s A (tableAll P) (tableAll T) q GP GT

/-- One unit: the next put in flight, this one's blocks waited for and its tokens added in. -/
theorem wp_half {tok : Memref sig .scVector .vmem S11x16 .i32} {qt : PosShare TreeShare} (A B : Slot) (qa qb : PosShare TreeShare) (hb : base ≤ 12368) (hn : n ≤ 176) (cum : BitVec 32) (hc : cum = BitVec.ofNat 32 n) (u : ℕ) (hu : u < unitsN n) (w : BitVec 32) (hw : w = BitVec.ofNat 32 u)
    (hf : inW cum (Scalar.addi w 1#32) = 1#1 → (fdivW (Scalar.addi w 1#32) 4#32).toNat < 11) (ok : UnitOK (validW cum w)) (a : Acc F) {Φ : Acc F → sProp 𝕄} :
    iprop(Transfers.MayWaits (V d c s) (default : HIx 1) O ∗ H (F := F) d c s tok qt (tokBuf mk base 176) ∗ pend d c s A (tableAll P) (tableAll T) qa GP GT (unitRow mk base u) ∗ free d c s B (tableAll P) (tableAll T) qb GP GT ∗ ow d c s O W₀)
      ⊢ iprop((H (F := F) d c s tok qt (tokBuf mk base 176) ∗ free d c s A (tableAll P) (tableAll T) qa GP GT ∗ next d c s P T GP GT mk base n B qb (u + 1) ∗ ow d c s O W₀
            -∗ Φ (toksUp (gath GP (unitRow mk base u)) (gath GT (unitRow mk base u)) (validN n u) a))
        -∗ W (halfProg (F := F) P T tok A.dP A.dT A.hdP A.hdT A.sP A.sT B.idx B.dP B.dT B.sP B.sT cum w hf ok a) Φ) := by
  subst hc; subst hw
  have hu48 : u + 1 < 48 := by unfold unitsN at hu; omega
  have hin : inW (BitVec.ofNat 32 n) (BitVec.ofNat 32 u) = 1#1 := (inW_val ⟨n, by omega⟩ ⟨u, by omega⟩).2 hu
  have hin' : inW (BitVec.ofNat 32 n) (Scalar.addi (BitVec.ofNat 32 u) 1#32) = 1#1 ↔ u + 1 < unitsN n := by
    rw [succW]; exact inW_val ⟨n, by omega⟩ ⟨u + 1, hu48⟩
  have hv : validW (BitVec.ofNat 32 n) (BitVec.ofNat 32 u) = BitVec.ofNat 32 (validN n u) := validW_val ⟨n, by omega⟩ ⟨u, by omega⟩ hu
  have rest : iprop(Transfers.MayWaits (V d c s) (default : HIx 1) O ∗ H (F := F) d c s tok qt (tokBuf mk base 176) ∗ pend d c s A (tableAll P) (tableAll T) qa GP GT (unitRow mk base u) ∗ next d c s P T GP GT mk base n B qb (u + 1) ∗ ow d c s O W₀)
      ⊢ iprop((H (F := F) d c s tok qt (tokBuf mk base 176) ∗ free d c s A (tableAll P) (tableAll T) qa GP GT ∗ next d c s P T GP GT mk base n B qb (u + 1) ∗ ow d c s O W₀
            -∗ Φ (toksUp (gath GP (unitRow mk base u)) (gath GT (unitRow mk base u)) (validN n u) a))
        -∗ W (do
          SparseCore.waitIndirectGather A.sP.sem (tableAll P) A.dP (View.wordExact_bits rfl) A.hdP.wordExact
          SparseCore.waitIndirectGather A.sT.sem (tableAll T) A.dT (View.wordExact_bits rfl) A.hdT.wordExact
          unitProg A.dP A.dT (validW (BitVec.ofNat 32 n) (BitVec.ofNat 32 u)) ok.A ok.B ok.rA ok.rB a) Φ) := by
    iintro ⟨#Hmw, Ht, HA, HB, Ho⟩ HΦ
    unfold pend
    icases HA with ⟨%f, Hf, Hf'⟩
    iapply (wp_waitH d c s O W₀) $$ [Hf Ho]
    · isplitr; · iexact Hmw
      isplitl [Hf] <;> iassumption
    iintro ⟨⟨Hp, HP, Hi⟩, Hs, Ho⟩
    iapply (wp_waitH d c s O W₀) $$ [Hf' Ho]
    · isplitr; · iexact Hmw
      isplitl [Hf'] <;> iassumption
    iintro ⟨⟨Hd, HT, Hi'⟩, Hs', Ho⟩
    iapply (wp_unit d c s (validN n u) (Nat.min_le_right _ _) _ hv ok a) $$ [Hp Hd]
    · isplitl [Hp] <;> iassumption
    iintro ⟨Hp, Hd⟩
    iapply HΦ
    isplitl [Ht]; · iexact Ht
    isplitr [HB Ho]
    · unfold free
      isplitl [Hi Hi']
      · iexists (A.idx.view.read (Elt F) f)
        unfold H
        iexists f
        isplitr
        · ipureintro; rfl
        iapply (pointsTo_share (PosShare.mem_left_op_right fullShare)).2
        isplitl [Hi] <;> iassumption
      isplitl [Hp]; · iexists _; iexact Hp
      isplitl [Hd]; · iexists _; iexact Hd
      isplitl [HP]; · iexact HP
      isplitl [HT]; · iexact HT
      isplitl [Hs] <;> iassumption
    · isplitl [HB] <;> iassumption
  have gen : ∀ (w : BitVec 32) (hw : w = BitVec.ofNat 32 (u + 1)) (hlt : (fdivW w 4#32).toNat < 11),
        iprop(H (F := F) d c s tok qt (tokBuf mk base 176) ∗ free d c s B (tableAll P) (tableAll T) qb GP GT)
          ⊢ W (fireProg (F := F) P T tok B.idx B.dP B.dT B.sP B.sT w hlt)
            (fun _ => iprop(H (F := F) d c s tok qt (tokBuf mk base 176) ∗ pend d c s B (tableAll P) (tableAll T) qb GP GT (unitRow mk base (u + 1)))) := by
      intro w hw hlt
      subst hw
      iintro H
      iapply (wp_fire d c s B P T qb GP GT mk base hb ⟨u + 1, hu48⟩ hlt) $$ H
      iintro H
      iexact H
  iintro ⟨#Hmw, Ht, HA, HB, Ho⟩ HΦ
  unfold halfProg
  rw [dif_pos hin]
  by_cases h : u + 1 < unitsN n
  · rw [dif_pos (hin'.2 h)]
    dsimp only
    rw [wp_bind]
    have fire := gen (Scalar.addi (BitVec.ofNat 32 u) 1#32) (succW u) (hf (hin'.2 h))
    iapply (wp_wand _ _) $$ [Ht HB]
    · iapply fire
      isplitl [Ht] <;> iassumption
    iintro %_ ⟨Ht, HB⟩
    iapply rest $$ [Ht HA HB Ho]
    · isplitr; · iexact Hmw
      isplitl [Ht]; · iexact Ht
      isplitl [HA]; · iexact HA
      isplitl [HB]
      · unfold next; rw [if_pos h]; iexact HB
      · iexact Ho
    iexact HΦ
  · rw [dif_neg (fun h' => h (hin'.1 h'))]
    dsimp only
    iapply rest $$ [Ht HA HB Ho]
    · isplitr; · iexact Hmw
      isplitl [Ht]; · iexact Ht
      isplitl [HA]; · iexact HA
      isplitl [HB]
      · unfold next; rw [if_neg h]; iexact HB
      · iexact Ho
    iexact HΦ

/-- A pair of units. -/
theorem wp_pair {tok : Memref sig .scVector .vmem S11x16 .i32} {qt : PosShare TreeShare} (A B : Slot) (qa qb : PosShare TreeShare) (hb : base ≤ 12368) (hn : n ≤ 176) (cum : BitVec 32) (hc : cum = BitVec.ofNat 32 n) (k : ℕ) (hk : k < pairsN n)
    (w : BitVec 32) (hw : w = BitVec.ofNat 32 k) (hf0 hf1 hu0 hu1) (a : Acc F) {Φ : Acc F → sProp 𝕄} :
    iprop(Transfers.MayWaits (V d c s) (default : HIx 1) O ∗ H (F := F) d c s tok qt (tokBuf mk base 176) ∗ pend d c s A (tableAll P) (tableAll T) qa GP GT (unitRow mk base (2 * k)) ∗ free d c s B (tableAll P) (tableAll T) qb GP GT ∗ ow d c s O W₀)
      ⊢ iprop((H (F := F) d c s tok qt (tokBuf mk base 176) ∗ next d c s P T GP GT mk base n A qa (2 * (k + 1)) ∗ free d c s B (tableAll P) (tableAll T) qb GP GT ∗ ow d c s O W₀
            -∗ Φ (toksUp (gath GP (unitRow mk base (2 * k + 1))) (gath GT (unitRow mk base (2 * k + 1))) (validN n (2 * k + 1))
              (toksUp (gath GP (unitRow mk base (2 * k))) (gath GT (unitRow mk base (2 * k))) (validN n (2 * k)) a)))
        -∗ W (pairProg (F := F) P T tok A.idx B.idx A.dP B.dP A.dT B.dT A.hdP B.hdP A.hdT B.hdT A.sP B.sP A.sT B.sT cum w hf0 hf1 hu0 hu1 a) Φ) := by
  subst hw
  have hu0' : 2 * k < unitsN n := by unfold pairsN at hk; unfold unitsN; omega
  have hu1' : 2 * k + 1 < unitsN n := by unfold pairsN at hk; unfold unitsN; omega
  iintro ⟨#Hmw, Ht, HA, HB, Ho⟩ HΦ
  unfold pairProg
  rw [wp_bind]
  iapply (wp_half d c s P T GP GT mk base O W₀ n A B qa qb hb hn cum hc (2 * k) hu0' _ (unit0W k) _ _ a) $$ [Ht HA HB Ho]
  · isplitr; · iexact Hmw
    isplitl [Ht]; · iexact Ht
    isplitl [HA]; · iexact HA
    isplitl [HB] <;> iassumption
  iintro ⟨Ht, HA, HB, Ho⟩
  ihave HB := (Entails.of_eq (show next d c s P T GP GT mk base n B qb (2 * k + 1) = pend d c s B (tableAll P) (tableAll T) qb GP GT (unitRow mk base (2 * k + 1)) from if_pos hu1')) $$ HB
  iapply (wp_half d c s P T GP GT mk base O W₀ n B A qb qa hb hn cum hc (2 * k + 1) hu1' _ (unit1W k) hf1 hu1 _) $$ [Ht HA HB Ho]
  · isplitr; · iexact Hmw
    isplitl [Ht]; · iexact Ht
    isplitl [HB]; · iexact HB
    isplitl [HA] <;> iassumption
  iintro ⟨Ht, HB, HA, Ho⟩
  iapply HΦ
  isplitl [Ht]; · iexact Ht
  isplitl [HA]; · iexact HA
  isplitl [HB] <;> iassumption

end Halves

end
end Cert.Proof
end
-- ==== Proof.HeadEq.lean ====
/-
  The vector subcore's body is its first part in the shapes of `Head`, and the rest as printed.
-/
module

public import proofs.«01_k».proof.Proof.Head

@[expose] public section

noncomputable section

namespace Cert.Proof

open Cert.KernelIdeal Cert.KernelIdeal.Gen
open Idealize.ShloMosaic Idealize.SL.Sem

variable {F : FTy → Type} [FloatOps F]

variable {c : Fin τ.nSC} {s : Fin τ.nSub}

local notation "PV" => Prog (TpuEff nD τ sig (Elt F) Λ₀ (Proc.scVector c s))

set_option maxHeartbeats 8000000 in
/-- The body, its first part in the shapes above. -/
theorem body_eq (i : grid1.Coords) (arg2 : Memref sig .scVector .hbm S5632 .i32) (harg2 : arg2.IsWhole) (arg3 : Memref sig .scVector .hbm S401408x128 .f32) (harg3 : arg3.IsWhole) (arg4 : Memref sig .scVector .hbm S401408x128 .f32) (harg4 : arg4.IsWhole) (arg5 : Memref sig .scVector .hbm S32x16 .f32) (harg5 : arg5.IsWhole) (arg6 : Memref sig .scVector .vmem S176 .i32) (harg6 : arg6.IsWhole) (arg7 : Memref sig .scVector .vmem S11x16 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S16 .f32) (harg14 : arg14.IsWhole) (arg15 : Memref sig .scVector .vmem S16 .i32) (harg15 : arg15.IsWhole) (arg16 : DmaSems sig S_) (arg17 : DmaSems sig S_) (arg18 : DmaSems sig S_) (arg19 : DmaSems sig S_) (v782_r0 : DmaSems sig S_) (v782_r1 : DmaSems sig S_)  :
    cc1__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 = (do
      fetchProg (F := F) i arg2 arg6 harg6 v782_r0
      clearProg (F := F) arg8 arg9
      zeroProg (F := F) arg7
      let ⟨v102, v163, v224, v285, v346, v407, v468, v529, v590, v651, v712, hw⟩ ← chunksProg (F := F) i arg6 arg7 arg15
      let ⟨v716, v737, v738, v739, v740, v741, v742, v743, v744, v745, v746, v747, v748⟩ ← k1_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 (cumOf v102 v163 v224 v285 v346 v407 v468 v529 v590 v651 v712)
      k1_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 v102 v163 v224 v285 v346 v407 v468 v529 v590 v651 v712 hw (cumOf v102 v163 v224 v285 v346 v407 v468 v529 v590 v651 v712) v716 v737 v738 v739 v740 v741 v742 v743 v744 v745 v746 v747 v748
      Prog.lift (.waitDma2 v782_r1.sem arg14 ((arg5.slice (Rect.unit (s := S32x16) (k1_off71 i) S1x16.size (k1_off71_inb i)) (fun _ => rfl)).squeeze S16 squeezes_S1x16_S16) harg14.wordExact ((View.wordExact_bits rfl).reshape _ _))
      pure ⟨⟩) := by
  rfl

end Cert.Proof
end
-- ==== Proof.Tail.lean ====
/-
  The work of a subcore: the first unit started, the pairs of units, and the copies in and out.
-/
module

public import proofs.«01_k».proof.Proof.Half
public import proofs.«01_k».proof.Proof.HeadEq

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

section
variable (d : Dev nD) (c : Fin τ.nSC) (s : Fin τ.nSub)

local notation "W" => wp frame (wpE (defs₀ (F := F)) 𝒱₀ (V d c s) none) Set.univ

/-- The sums and marks a subcore begins with. -/
def accZ : Acc F := (k1_pay2049 (F := F), k1_pay2050 (F := F), k1_pay2051 (F := F), k1_pay2052 (F := F), k1_pay2053 (F := F), k1_pay2054 (F := F), k1_pay2055 (F := F), k1_pay2056 (F := F), k1_pay2057, k1_pay2058, k1_pay2059, k1_pay2060, k1_pay2061, k1_pay2062, k1_pay2063, k1_pay2064)

/-- Whether there is a unit to start. -/
def startW (cum : BitVec 32) : BitVec 1 := Scalar.cmpi .ne ((Scalar.extui (Scalar.cmpi .sgt (totalW cum) 0#32) : BitVec 32)) 0#32

theorem startW_val0 : ∀ k : Fin 12, (Scalar.cmpi .ne ((Scalar.extui (Scalar.cmpi .sgt (BitVec.ofNat 32 (4 * k.val)) 0#32) : BitVec 32)) 0#32 = 1#1) ↔ 0 < 4 * k.val := by decide +kernel

theorem startW_val (n : Fin 177) : startW (BitVec.ofNat 32 n.val) = 1#1 ↔ 0 < unitsN n.val := by
  unfold startW
  rw [totalW_val]
  exact startW_val0 ⟨(n.val + 15) / 16, by omega⟩

theorem zero_lt : (fdivW 0#32 4#32).toNat < 11 := by decide

set_option maxHeartbeats 4000000 in
theorem part231_eq (i : grid1.Coords) (arg2 : Memref sig .scVector .hbm S5632 .i32) (harg2 : arg2.IsWhole) (arg3 : Memref sig .scVector .hbm S401408x128 .f32) (harg3 : arg3.IsWhole) (arg4 : Memref sig .scVector .hbm S401408x128 .f32) (harg4 : arg4.IsWhole) (arg5 : Memref sig .scVector .hbm S32x16 .f32) (harg5 : arg5.IsWhole) (arg6 : Memref sig .scVector .vmem S176 .i32) (harg6 : arg6.IsWhole) (arg7 : Memref sig .scVector .vmem S11x16 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S16 .f32) (harg14 : arg14.IsWhole) (arg15 : Memref sig .scVector .vmem S16 .i32) (harg15 : arg15.IsWhole) (arg16 : DmaSems sig S_) (arg17 : DmaSems sig S_) (arg18 : DmaSems sig S_) (arg19 : DmaSems sig S_) (v782_r0 : DmaSems sig S_) (v782_r1 : DmaSems sig S_) (cum : BitVec 32) :
    k1_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 cum
      = (if startW cum = 1#1 then fireProg (F := F) arg3 arg4 arg7 arg8 arg10 arg12 arg16 arg18 0#32 zero_lt else pure ⟨⟩) >>= fun _ => pure ⟨totalW cum, pairsW cum, k1_pay2049 (F := F), k1_pay2050 (F := F), k1_pay2051 (F := F), k1_pay2052 (F := F), k1_pay2053 (F := F), k1_pay2054 (F := F), k1_pay2055 (F := F), k1_pay2056 (F := F), k1_pay2057, k1_pay2058, k1_pay2059⟩ := by
  rw [k1_part231_eq_skeleton]
  unfold k1_part231_skel
  by_cases h : startW cum = 1#1
  · rw [if_pos h]
    refine (if_pos h).trans ?_
    rfl
  · rw [if_neg h]
    refine (if_neg h).trans ?_
    rfl

/-- A unit's first gathers put in flight, if there is any. -/
theorem wp_start (P T : Memref sig .scVector .hbm S401408x128 .f32) (GP GT : Vec F S401408x128 .f32) (mk : ℕ → Prop) [DecidablePred mk] (base n : ℕ) {tok : Memref sig .scVector .vmem S11x16 .i32} {qt : PosShare TreeShare}
    (A : Slot) (qa : PosShare TreeShare) (hb : base ≤ 12368) (hn : n ≤ 176) (cum : BitVec 32) (hc : cum = BitVec.ofNat 32 n) {Φ : PUnit → sProp 𝕄} :
    iprop(H (F := F) d c s tok qt (tokBuf mk base 176) ∗ free d c s A (tableAll P) (tableAll T) qa GP GT)
      ⊢ iprop((H (F := F) d c s tok qt (tokBuf mk base 176) ∗ next d c s P T GP GT mk base n A qa 0 -∗ Φ ⟨⟩)
        -∗ W (if startW cum = 1#1 then fireProg (F := F) P T tok A.idx A.dP A.dT A.sP A.sT 0#32 zero_lt else pure ⟨⟩) Φ) := by
  subst hc
  iintro ⟨Ht, HA⟩ HΦ
  by_cases h : 0 < unitsN n
  · rw [if_pos ((startW_val ⟨n, by omega⟩).2 h)]
    iapply (wp_fire d c s A P T qa GP GT mk base hb (0 : Fin 48) zero_lt) $$ [Ht HA]
    · isplitl [Ht] <;> iassumption
    iintro ⟨Ht, HA⟩
    iapply HΦ
    isplitl [Ht]; · iexact Ht
    unfold next
    rw [if_pos h]
    iexact HA
  · rw [if_neg (fun h' => h ((startW_val ⟨n, by omega⟩).1 h'))]
    rw [wp_pure]
    imodintro
    iapply HΦ
    isplitl [Ht]; · iexact Ht
    unfold next
    rw [if_neg h]
    iexact HA

/-- What a subcore writes out of its sums and marks. -/
def laneOut : Acc F → FVec F S16 .f32 :=
  fun (a0, a1, a2, a3, a4, a5, a6, a7, z0, z1, z2, z3, z4, z5, z6, z7) => k1_pay2081 a0 a1 a2 a3 a4 a5 a6 a7 z0 z1 z2 z3 z4 z5 z6 z7

/-- A whole plain copy put in flight. -/
theorem wp_dmaH {sp sp' : Space} {sh : Shape} {e : EltTy} {src : Memref sig .scVector sp sh e} {dst : Memref sig .scVector sp' sh e} {sem : DmaSem sig} {h1 h2 h3} {q : PosShare TreeShare} {g g' : Vec F sh e} (hpos : 0 < sh.numel) {Φ : PUnit → sProp 𝕄} :
    iprop(H d c s src q g ∗ H d c s dst fullShare g' ∗ semVal (V d c s, SemLoc.dma sem) 0)
      ⊢ iprop((Transfers.Flight countersEmb (V d c s) (.dma sem) (default : HIx 1) dst.view.dmaCredit iprop(H d c s dst fullShare g ∗ H d c s src q g) -∗ Φ ⟨⟩)
        -∗ W (Prog.lift (.enqueueDma src (.here dst) (.dma sem) h1 h2 h3)) Φ) := by
  unfold H
  iintro ⟨⟨%f, %hf, Hs⟩, ⟨%f', %hf', Hd⟩, Hv⟩ HΦ
  iapply (Transfers.wp_dmaLocal countersEmb 𝒱₀ (V d c s) none (default : HIx 1) dst.view.dmaCredit rfl (View.dmaCredit_pos _ hpos) (Finset.Subset.refl _) (k := fun x => Prog.ret x)) $$ [Hs Hd Hv]
  · isplitl [Hs]; · iexact Hs
    isplitl [Hd] <;> iassumption
  iintro Hf
  rw [wp_ret]
  imodintro
  iapply HΦ
  iapply (Transfers.Flight_mono countersEmb (V d c s) ?_) $$ Hf
  iintro ⟨Hd, Hs⟩
  isplitl [Hd]
  · iexists (dst.view.write (Elt F) f' (src.view.read (Elt F) f) Finset.univ)
    isplitr
    · ipureintro
      rw [View.read_write_univ, hf]
    · iexact Hd
  · iexists f
    isplitr
    · ipureintro; exact hf
    · iexact Hs

/-- A plain copy waited for. -/
theorem wp_waitD (O : CellTallies nD τ sig (HIx 1)) (W₀ : Waits sig (HIx 1)) {sp sp' : Space} {sh : Shape} {e : EltTy} {src : Memref sig .scVector sp sh e} {dst : Memref sig .scVector sp' sh e} {sem : DmaSem sig} {h1 h2} {D : sProp 𝕄} {Φ : PUnit → sProp 𝕄} :
    iprop(Transfers.MayWaits (V d c s) (default : HIx 1) O ∗ Transfers.Flight countersEmb (V d c s) (.dma sem) (default : HIx 1) dst.view.dmaCredit D ∗ ow d c s O W₀)
      ⊢ iprop((D ∗ semVal (V d c s, SemLoc.dma sem) 0 ∗ ow d c s O W₀ -∗ Φ ⟨⟩) -∗ W (Prog.lift (.waitDma2 sem src dst h1 h2)) Φ) := by
  iintro ⟨Hmw, Hf, Ho⟩ HΦ
  unfold ow
  icases Ho with ⟨%W', %hW, Ho⟩
  iapply (Transfers.wp_waitLocalO countersEmb 𝒱₀ (V d c s) none (default : HIx 1) (rfl : dst.view.dmaCredit = _) (k := fun x => Prog.ret x)) $$ [Hmw Hf Ho]
  · isplitl [Hf]; · iexact Hf
    isplitl [Ho]; · iexact Ho
    iapply (Transfers.MayWaits.elim (SemLoc.dma sem)) $$ Hmw
  iintro ⟨Hd, Hs, Ho⟩
  rw [wp_ret]
  imodintro
  iapply HΦ
  isplitl [Hd]; · iexact Hd
  isplitl [Hs]; · iexact Hs
  iapply (ow_insert d c s O W₀ hW _) $$ Ho

end
end Cert.Proof
end
-- ==== Proof.Pairs.lean ====
/-
  The pairs of units of a subcore, and its row of results put in flight.
-/
module

public import proofs.«01_k».proof.Proof.Tail

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

theorem two_pairs (n : ℕ) : unitsN n = 2 * pairsN n := by unfold unitsN pairsN; omega

theorem unitsUp_two (GP GT : Vec F S401408x128 .f32) (mk : ℕ → Prop) [DecidablePred mk] (base n k : ℕ) (a : Acc F) :
    unitsUp GP GT mk base n (2 * (k + 1)) a
      = toksUp (gath GP (unitRow mk base (2 * k + 1))) (gath GT (unitRow mk base (2 * k + 1))) (validN n (2 * k + 1))
          (toksUp (gath GP (unitRow mk base (2 * k))) (gath GT (unitRow mk base (2 * k))) (validN n (2 * k)) (unitsUp GP GT mk base n (2 * k) a)) := rfl

variable (d : Dev nD)

/-- The row of the results a subcore writes. -/
abbrev outRow (i : grid1.Coords) (arg5 : Memref sig .scVector .hbm S32x16 .f32) : Memref sig .scVector .hbm S16 .f32 :=
  (arg5.slice (Rect.unit (s := S32x16) (k1_off71 i) S1x16.size (k1_off71_inb i)) (fun _ => rfl)).squeeze S16 squeezes_S1x16_S16

set_option maxHeartbeats 4000000 in
/-- The pairs of units, and the row of results put in flight. -/
theorem wp_part232 (mk : ℕ → Prop) [DecidablePred mk] (base n : ℕ) (O : CellTallies nD τ sig (HIx 1)) (W₀ : Waits sig (HIx 1)) (GP GT : Vec F S401408x128 .f32) (qa qb qt : PosShare TreeShare) (i : grid1.Coords) (arg2 : Memref sig .scVector .hbm S5632 .i32) (harg2 : arg2.IsWhole) (arg3 : Memref sig .scVector .hbm S401408x128 .f32) (harg3 : arg3.IsWhole) (arg4 : Memref sig .scVector .hbm S401408x128 .f32) (harg4 : arg4.IsWhole) (arg5 : Memref sig .scVector .hbm S32x16 .f32) (harg5 : arg5.IsWhole) (arg6 : Memref sig .scVector .vmem S176 .i32) (harg6 : arg6.IsWhole) (arg7 : Memref sig .scVector .vmem S11x16 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S16 .f32) (harg14 : arg14.IsWhole) (arg15 : Memref sig .scVector .vmem S16 .i32) (harg15 : arg15.IsWhole) (arg16 : DmaSems sig S_) (arg17 : DmaSems sig S_) (arg18 : DmaSems sig S_) (arg19 : DmaSems sig S_) (v782_r0 : DmaSems sig S_) (v782_r1 : DmaSems sig S_) (v102 v163 v224 v285 v346 v407 v468 v529 v590 v651 v712 : BitVec 32)
    (hb : base ≤ 12368) (hn : n ≤ 176) (hc : cumOf v102 v163 v224 v285 v346 v407 v468 v529 v590 v651 v712 = BitVec.ofNat 32 n) (hw : k1_chk56 v102 v163 v224 v285 v346 v407 v468 v529 v590 v651 v712)
    (hNP0 hNT0 hNP1 hNT1) {g : Vec F S16 .f32} {g' : Vec F S16 .f32} {Φ : PUnit → sProp 𝕄} :
    iprop(Transfers.MayWaits (V d (i 0 |>.castLE hcore1) (i 1 |>.castLE hsub1)) (default : HIx 1) O
        ∗ H (F := F) d (i 0 |>.castLE hcore1) (i 1 |>.castLE hsub1) arg7 qt (tokBuf mk base 176)
        ∗ next d (i 0 |>.castLE hcore1) (i 1 |>.castLE hsub1) arg3 arg4 GP GT mk base n ⟨arg8, arg10, arg12, arg16, arg18, harg10, harg12, hNP0, hNT0⟩ qa 0
        ∗ free d (i 0 |>.castLE hcore1) (i 1 |>.castLE hsub1) ⟨arg9, arg11, arg13, arg17, arg19, harg11, harg13, hNP1, hNT1⟩ (tableAll arg3) (tableAll arg4) qb GP GT
        ∗ ow d (i 0 |>.castLE hcore1) (i 1 |>.castLE hsub1) O W₀
        ∗ H d (i 0 |>.castLE hcore1) (i 1 |>.castLE hsub1) arg14 fullShare g ∗ H d (i 0 |>.castLE hcore1) (i 1 |>.castLE hsub1) (outRow i arg5) fullShare g'
        ∗ semVal (V d (i 0 |>.castLE hcore1) (i 1 |>.castLE hsub1), SemLoc.dma v782_r1.sem) 0)
      ⊢ iprop((H (F := F) d (i 0 |>.castLE hcore1) (i 1 |>.castLE hsub1) arg7 qt (tokBuf mk base 176)
            ∗ free d (i 0 |>.castLE hcore1) (i 1 |>.castLE hsub1) ⟨arg8, arg10, arg12, arg16, arg18, harg10, harg12, hNP0, hNT0⟩ (tableAll arg3) (tableAll arg4) qa GP GT
            ∗ free d (i 0 |>.castLE hcore1) (i 1 |>.castLE hsub1) ⟨arg9, arg11, arg13, arg17, arg19, harg11, harg13, hNP1, hNT1⟩ (tableAll arg3) (tableAll arg4) qb GP GT
            ∗ ow d (i 0 |>.castLE hcore1) (i 1 |>.castLE hsub1) O W₀
            ∗ Transfers.Flight countersEmb (V d (i 0 |>.castLE hcore1) (i 1 |>.castLE hsub1)) (.dma v782_r1.sem) (default : HIx 1) (outRow i arg5).view.dmaCredit
                iprop(H d (i 0 |>.castLE hcore1) (i 1 |>.castLE hsub1) (outRow i arg5) fullShare (laneOut (unitsUp GP GT mk base n (unitsN n) accZ))
                  ∗ H d (i 0 |>.castLE hcore1) (i 1 |>.castLE hsub1) arg14 fullShare (laneOut (unitsUp GP GT mk base n (unitsN n) accZ))) -∗ Φ ⟨⟩)
        -∗ wp frame (wpE (defs₀ (F := F)) 𝒱₀ (V d (i 0 |>.castLE hcore1) (i 1 |>.castLE hsub1)) none) Set.univ
          (k1_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 v102 v163 v224 v285 v346 v407 v468 v529 v590 v651 v712 hw (cumOf v102 v163 v224 v285 v346 v407 v468 v529 v590 v651 v712) (totalW (cumOf v102 v163 v224 v285 v346 v407 v468 v529 v590 v651 v712)) (pairsW (cumOf v102 v163 v224 v285 v346 v407 v468 v529 v590 v651 v712)) (k1_pay2049 (F := F)) (k1_pay2050 (F := F)) (k1_pay2051 (F := F)) (k1_pay2052 (F := F)) (k1_pay2053 (F := F)) (k1_pay2054 (F := F)) (k1_pay2055 (F := F)) (k1_pay2056 (F := F)) k1_pay2057 k1_pay2058 k1_pay2059) Φ) := by
  iintro ⟨#Hmw, Ht, HA, HB, Ho, H14, Hrow, Hs⟩ HΦ
  have hp : pairsN n < 24 := by unfold pairsN; omega
  have hcp : pairsW (cumOf v102 v163 v224 v285 v346 v407 v468 v529 v590 v651 v712) = BitVec.ofNat 32 (pairsN n) := by rw [hc]; exact pairsW_val ⟨n, by omega⟩
  have hA : (k1_t1_loop v102 v163 v224 v285 v346 v407 v468 v529 v590 v651 v712).trips = pairsN n := by
    show (loopA (pairsW (cumOf v102 v163 v224 v285 v346 v407 v468 v529 v590 v651 v712))).trips = _
    rw [hcp]; exact (loopA_pairs ⟨pairsN n, hp⟩).2
  have hB : (k1_t6_loop v102 v163 v224 v285 v346 v407 v468 v529 v590 v651 v712).trips = 0 := by
    show (loopB (pairsW (cumOf v102 v163 v224 v285 v346 v407 v468 v529 v590 v651 v712))).trips = _
    rw [hcp]; exact (loopB_pairs ⟨pairsN n, hp⟩).2
  rw [k1_part232_eq_skeleton]
  unfold k1_part232_skel
  dsimp only
  iapply (Scf.wp_for_bind frame (wpE (defs₀ (F := F)) 𝒱₀ (V d (i 0 |>.castLE hcore1) (i 1 |>.castLE hsub1)) none) Set.univ _ _ _ (k1_t1_ok v102 v163 v224 v285 v346 v407 v468 v529 v590 v651 v712 hw) _ _
    (fun k b => iprop(⌜b = unitsUp GP GT mk base n (2 * k) accZ⌝ ∗ Transfers.MayWaits (V d (i 0 |>.castLE hcore1) (i 1 |>.castLE hsub1)) (default : HIx 1) O
        ∗ H (F := F) d (i 0 |>.castLE hcore1) (i 1 |>.castLE hsub1) arg7 qt (tokBuf mk base 176)
        ∗ next d (i 0 |>.castLE hcore1) (i 1 |>.castLE hsub1) arg3 arg4 GP GT mk base n ⟨arg8, arg10, arg12, arg16, arg18, harg10, harg12, hNP0, hNT0⟩ qa (2 * k)
        ∗ free d (i 0 |>.castLE hcore1) (i 1 |>.castLE hsub1) ⟨arg9, arg11, arg13, arg17, arg19, harg11, harg13, hNP1, hNT1⟩ (tableAll arg3) (tableAll arg4) qb GP GT
        ∗ ow d (i 0 |>.castLE hcore1) (i 1 |>.castLE hsub1) O W₀)) ?_) $$ [Ht HA HB Ho]
  · intro k b
    have hk : k.val < pairsN n := lt_of_lt_of_eq k.isLt hA
    have hu : 2 * k.val < unitsN n := by rw [two_pairs]; omega
    have f0 := fire0_lt n hn k.val hk
    have f1 := fire1_lt n hn k.val hk
    have u0 := unit0_ok n hn k.val hk
    have u1 := unit1_ok n hn k.val hk
    rw [← hc, ← iv01] at f0 f1 u0 u1
    iintro ⟨%hb', #Hmw, Ht, HA, HB, Ho⟩
    ihave HA := (Entails.of_eq (show next d (i 0 |>.castLE hcore1) (i 1 |>.castLE hsub1) arg3 arg4 GP GT mk base n ⟨arg8, arg10, arg12, arg16, arg18, harg10, harg12, hNP0, hNT0⟩ qa (2 * k.val)
      = pend d (i 0 |>.castLE hcore1) (i 1 |>.castLE hsub1) ⟨arg8, arg10, arg12, arg16, arg18, harg10, harg12, hNP0, hNT0⟩ (tableAll arg3) (tableAll arg4) qa GP GT (unitRow mk base (2 * k.val)) from if_pos hu)) $$ HA
    rw [t1_eq (hf0 := f0) (hf1 := f1) (hu0 := u0) (hu1 := u1), pairRaw_eq]
    iapply (wp_pair d _ _ arg3 arg4 GP GT mk base O W₀ n ⟨arg8, arg10, arg12, arg16, arg18, harg10, harg12, hNP0, hNT0⟩ ⟨arg9, arg11, arg13, arg17, arg19, harg11, harg13, hNP1, hNT1⟩ qa qb hb hn _ hc k.val hk _ (iv01 k.val) f0 f1 u0 u1 b) $$ [Ht HA HB Ho]
    · isplitr; · iexact Hmw
      isplitl [Ht]; · iexact Ht
      isplitl [HA]; · iexact HA
      isplitl [HB] <;> iassumption
    iintro ⟨Ht, HA, HB, Ho⟩
    isplitr
    · ipureintro; rw [hb', unitsUp_two]
    isplitr; · iexact Hmw
    isplitl [Ht]; · iexact Ht
    isplitl [HA]; · iexact HA
    isplitl [HB] <;> iassumption
  · isplitr
    · ipureintro; rfl
    isplitr; · iexact Hmw
    isplitl [Ht]; · iexact Ht
    isplitl [HA]; · iexact HA
    isplitl [HB] <;> iassumption
  iintro %b ⟨%hb', -, Ht, HA, HB, Ho⟩
  have hA' : Scf.trips (k1_t1_loop v102 v163 v224 v285 v346 v407 v468 v529 v590 v651 v712).lb (k1_t1_loop v102 v163 v224 v285 v346 v407 v468 v529 v590 v651 v712).ub (k1_t1_loop v102 v163 v224 v285 v346 v407 v468 v529 v590 v651 v712).st = pairsN n := hA
  rw [hA', ← two_pairs] at hb'
  ihave HA := (Entails.of_eq (show next d (i 0 |>.castLE hcore1) (i 1 |>.castLE hsub1) arg3 arg4 GP GT mk base n ⟨arg8, arg10, arg12, arg16, arg18, harg10, harg12, hNP0, hNT0⟩ qa (2 * Scf.trips (k1_t1_loop v102 v163 v224 v285 v346 v407 v468 v529 v590 v651 v712).lb (k1_t1_loop v102 v163 v224 v285 v346 v407 v468 v529 v590 v651 v712).ub (k1_t1_loop v102 v163 v224 v285 v346 v407 v468 v529 v590 v651 v712).st)
      = free d (i 0 |>.castLE hcore1) (i 1 |>.castLE hsub1) ⟨arg8, arg10, arg12, arg16, arg18, harg10, harg12, hNP0, hNT0⟩ (tableAll arg3) (tableAll arg4) qa GP GT from
    if_neg (by rw [hA', ← two_pairs]; exact Nat.lt_irrefl _))) $$ HA
  subst hb'
  generalize unitsUp GP GT mk base n (unitsN n) (accZ (F := F)) = acc
  obtain ⟨a0, a1, a2, a3, a4, a5, a6, a7, z0, z1, z2, z3, z4, z5, z6, z7⟩ := acc
  dsimp only
  iapply (Scf.wp_for_bind frame (wpE (defs₀ (F := F)) 𝒱₀ (V d (i 0 |>.castLE hcore1) (i 1 |>.castLE hsub1)) none) Set.univ _ _ _ (k1_t6_ok v102 v163 v224 v285 v346 v407 v468 v529 v590 v651 v712 hw) _ _
    (fun k b => iprop(⌜b = (a0, a1, a2, a3, a4, a5, a6, a7, z0, z1, z2, z3, z4, z5, z6, z7)⌝)) ?_) $$ []
  · intro k b
    exact absurd (lt_of_lt_of_eq k.isLt hB) (Nat.not_lt_zero _)
  · ipureintro; rfl
  iintro %b %hb'
  subst hb'
  dsimp only
  rw [wp_bind]
  iapply (wp_ldH d _ _ _) $$ H14
  iintro H14
  rw [wp_bind]
  iapply (wp_stH d _ _ _ (laneOut (a0, a1, a2, a3, a4, a5, a6, a7, z0, z1, z2, z3, z4, z5, z6, z7) : Vec F S16 .f32) (fun x => by exact congrArg _ (whole16_emb x)) (fun y hy => absurd (mem_set_unit_whole16 y) hy)) $$ H14
  iintro H14
  rw [wp_bind]
  iapply (wp_dmaH d _ _ (by decide)) $$ [H14 Hrow Hs]
  · isplitl [H14]; · iexact H14
    isplitl [Hrow] <;> iassumption
  iintro Hf
  rw [wp_pure]
  imodintro
  iapply HΦ
  isplitl [Ht]; · iexact Ht
  isplitl [HA]; · iexact HA
  isplitl [HB]; · iexact HB
  isplitl [Ho] <;> iassumption

end Cert.Proof
end
-- ==== Proof.Whole.lean ====
/-
  The body of a vector subcore, whole.
-/
module

public import proofs.«01_k».proof.Proof.Pairs

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

abbrev cV (i : grid1.Coords) : Fin τ.nSC := (i 0).castLE hcore1
abbrev sV (i : grid1.Coords) : Fin τ.nSub := (i 1).castLE hsub1

/-- What the subcore with base `base` and mask `mk` writes out. -/
def tileOut (GP GT : Vec F S401408x128 .f32) (mk : ℕ → Prop) [DecidablePred mk] (base : ℕ) : FVec F S16 .f32 :=
  laneOut (unitsUp GP GT mk base (Nat.count mk 176) (unitsN (Nat.count mk 176)) accZ)

/-- The mask's own entries, as the subcore addresses them. -/
abbrev mskSl (i : grid1.Coords) (arg2 : Memref sig .scVector .hbm S5632 .i32) : Memref sig .scVector .hbm S176 .i32 :=
  arg2.slice (Rect.unit (s := S5632) (k1_off1 i) S176.size (k1_off1_inb i)) (fun _ => rfl)

theorem baseN_le (i : grid1.Coords) : baseN i ≤ 12368 := by
  have h0 : (i 0).val < 2 := (i 0).isLt
  have h1 : (i 1).val < 16 := (i 1).isLt
  unfold baseN
  omega

variable (d : Dev nD)

set_option maxHeartbeats 4000000 in
/-- The body of a vector subcore. -/
theorem wp_body (mk : ℕ → Prop) [DecidablePred mk] (O : CellTallies nD τ sig (HIx 1)) (W₀ : Waits sig (HIx 1)) (GP GT : Vec F S401408x128 .f32) (qa qb qm : PosShare TreeShare) (i : grid1.Coords) (arg2 : Memref sig .scVector .hbm S5632 .i32) (harg2 : arg2.IsWhole) (arg3 : Memref sig .scVector .hbm S401408x128 .f32) (harg3 : arg3.IsWhole) (arg4 : Memref sig .scVector .hbm S401408x128 .f32) (harg4 : arg4.IsWhole) (arg5 : Memref sig .scVector .hbm S32x16 .f32) (harg5 : arg5.IsWhole) (arg6 : Memref sig .scVector .vmem S176 .i32) (harg6 : arg6.IsWhole) (arg7 : Memref sig .scVector .vmem S11x16 .i32) (harg7 : arg7.IsWhole) (arg8 : Memref sig .scVector .vmem S128 .i32) (harg8 : arg8.IsWhole) (arg9 : Memref sig .scVector .vmem S128 .i32) (harg9 : arg9.IsWhole) (arg10 : Memref sig .scVector .vmem S128x128 .f32) (harg10 : arg10.IsWhole) (arg11 : Memref sig .scVector .vmem S128x128 .f32) (harg11 : arg11.IsWhole) (arg12 : Memref sig .scVector .vmem S128x128 .f32) (harg12 : arg12.IsWhole) (arg13 : Memref sig .scVector .vmem S128x128 .f32) (harg13 : arg13.IsWhole) (arg14 : Memref sig .scVector .vmem S16 .f32) (harg14 : arg14.IsWhole) (arg15 : Memref sig .scVector .vmem S16 .i32) (harg15 : arg15.IsWhole) (arg16 : DmaSems sig S_) (arg17 : DmaSems sig S_) (arg18 : DmaSems sig S_) (arg19 : DmaSems sig S_) (v782_r0 : DmaSems sig S_) (v782_r1 : DmaSems sig S_)
    (hNP0 hNT0 hNP1 hNT1) {M : Vec F S176 .i32} (hM : ∀ y : S176.Idx, M y = if mk (y 0).val then 1#32 else 0#32) {g' : Vec F S16 .f32} :
    iprop(Transfers.MayWaits (V d (cV i) (sV i)) (default : HIx 1) O ∗ ow d (cV i) (sV i) O W₀ ∗ H d (cV i) (sV i) (mskSl i arg2) qm M ∗ H d (cV i) (sV i) (outRow i arg5) fullShare g'
        ∗ (∃ g, H (F := F) d (cV i) (sV i) arg6 fullShare g) ∗ (∃ g, H (F := F) d (cV i) (sV i) arg7 fullShare g) ∗ (∃ g, H (F := F) d (cV i) (sV i) arg15 fullShare g) ∗ (∃ g, H (F := F) d (cV i) (sV i) arg14 fullShare g)
        ∗ free d (cV i) (sV i) ⟨arg8, arg10, arg12, arg16, arg18, harg10, harg12, hNP0, hNT0⟩ (tableAll arg3) (tableAll arg4) qa GP GT
        ∗ free d (cV i) (sV i) ⟨arg9, arg11, arg13, arg17, arg19, harg11, harg13, hNP1, hNT1⟩ (tableAll arg3) (tableAll arg4) qb GP GT
        ∗ semVal (V d (cV i) (sV i), SemLoc.dma v782_r0.sem) 0 ∗ semVal (V d (cV i) (sV i), SemLoc.dma v782_r1.sem) 0)
      ⊢ wp frame (wpE (defs₀ (F := F)) 𝒱₀ (V d (cV i) (sV i)) none) Set.univ (cc1__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1)
        (fun _ => iprop(ow d (cV i) (sV i) O W₀ ∗ H d (cV i) (sV i) (mskSl i arg2) qm M ∗ H d (cV i) (sV i) (outRow i arg5) fullShare (tileOut GP GT mk (baseN i))
        ∗ (∃ g, H (F := F) d (cV i) (sV i) arg6 fullShare g) ∗ (∃ g, H (F := F) d (cV i) (sV i) arg7 fullShare g) ∗ (∃ g, H (F := F) d (cV i) (sV i) arg15 fullShare g) ∗ (∃ g, H (F := F) d (cV i) (sV i) arg14 fullShare g)
        ∗ free d (cV i) (sV i) ⟨arg8, arg10, arg12, arg16, arg18, harg10, harg12, hNP0, hNT0⟩ (tableAll arg3) (tableAll arg4) qa GP GT
        ∗ free d (cV i) (sV i) ⟨arg9, arg11, arg13, arg17, arg19, harg11, harg13, hNP1, hNT1⟩ (tableAll arg3) (tableAll arg4) qb GP GT
        ∗ semVal (V d (cV i) (sV i), SemLoc.dma v782_r0.sem) 0 ∗ semVal (V d (cV i) (sV i), SemLoc.dma v782_r1.sem) 0)) := by
  have hn : Nat.count mk 176 ≤ 176 := Nat.count_le mk
  rw [body_eq]
  iintro ⟨#Hmw, Ho, Hm, Hrow, ⟨%g6, H6⟩, ⟨%g7, H7⟩, ⟨%g15, H15⟩, ⟨%g14, H14⟩, HA, HB, Hs0, Hs1⟩
  rw [wp_bind]
  unfold fetchProg
  rw [wp_bind]
  iapply (wp_dmaH d _ _ (show 0 < S176.numel by decide)) $$ [Hm H6 Hs0]
  · isplitl [Hm]; · iexact Hm
    isplitl [H6] <;> iassumption
  iintro Hf
  iapply (wp_waitD d _ _ O W₀) $$ [Hf Ho]
  · isplitr; · iexact Hmw
    isplitl [Hf]; · iexact Hf
    iexact Ho
  iintro ⟨⟨H6, Hm⟩, Hs0, Ho⟩
  rw [wp_bind]
  unfold free
  icases HA with ⟨⟨%ga, Ha⟩, HA⟩
  icases HB with ⟨⟨%gb, Hb⟩, HB⟩
  iapply (wp_clear d _ _) $$ [Ha Hb]
  · isplitl [Ha] <;> iassumption
  iintro %ga' %gb' Ha Hb
  rw [wp_bind]
  iapply (wp_zero d _ _ mk (baseN i)) $$ H7
  iintro H7
  rw [wp_bind]
  iapply (wp_chunks d _ _ mk i hM) $$ [H6 H7 H15]
  · isplitl [H6]; · iexact H6
    isplitl [H7] <;> iassumption
  iintro %v102 %v163 %v224 %v285 %v346 %v407 %v468 %v529 %v590 %v651 %v712 %hw %hc ⟨%g15', H6, H7, H15⟩
  dsimp only
  rw [part231_eq, wp_bind, wp_bind]
  iapply (wp_start d _ _ arg3 arg4 GP GT mk (baseN i) (Nat.count mk 176) ⟨arg8, arg10, arg12, arg16, arg18, harg10, harg12, hNP0, hNT0⟩ qa (baseN_le i) hn _ hc) $$ [H7 HA Ha]
  · isplitl [H7]; · iexact H7
    unfold free
    isplitl [Ha]; · iexists _; iexact Ha
    iexact HA
  iintro ⟨H7, HA⟩
  rw [wp_pure]
  imodintro
  dsimp only
  rw [wp_bind]
  iapply (wp_part232 d mk (baseN i) (Nat.count mk 176) O W₀ GP GT qa qb fullShare i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v782_r0 v782_r1 v102 v163 v224 v285 v346 v407 v468 v529 v590 v651 v712 (baseN_le i) hn hc hw hNP0 hNT0 hNP1 hNT1) $$ [H7 HA Ho HB Hb H14 Hrow Hs1]
  · isplitr; · iexact Hmw
    isplitl [H7]; · iexact H7
    isplitl [HA]; · iexact HA
    isplitl [HB Hb]
    · unfold free
      isplitl [Hb]; · iexists _; iexact Hb
      iexact HB
    isplitl [Ho]; · iexact Ho
    isplitl [H14]; · iexact H14
    isplitl [Hrow] <;> iassumption
  iintro ⟨H7, HA, HB, Ho, Hf⟩
  rw [wp_bind]
  iapply (wp_waitD d _ _ O W₀) $$ [Hf Ho]
  · isplitr; · iexact Hmw
    isplitl [Hf]; · iexact Hf
    iexact Ho
  iintro ⟨⟨Hrow, H14⟩, Hs1, Ho⟩
  rw [wp_pure]
  imodintro
  isplitl [Ho]; · iexact Ho
  isplitl [Hm]; · iexact Hm
  isplitl [Hrow]; · iexact Hrow
  isplitl [H6]; · iexists _; iexact H6
  isplitl [H7]; · iexists _; iexact H7
  isplitl [H15]; · iexists _; iexact H15
  isplitl [H14]; · iexists _; iexact H14
  isplitl [HA]; · unfold free; iexact HA
  isplitl [HB]; · unfold free; iexact HB
  isplitl [Hs0] <;> iassumption

end Cert.Proof
end
-- ==== Proof.Tile.lean ====
/-
  A vector subcore's task, from the device's buffers.
-/
module

public import proofs.«01_k».proof.Proof.Whole
public import Idealize.ShloMosaic.Lib.ShareLeaves

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

/-- What the SparseCore call works from on one device: the mask's words, the two tables, and the old result. -/
structure Ins (F : FTy → Type) where
  mw : Vec F S5632 .i32
  gp : Vec F S401408x128 .f32
  gt : Vec F S401408x128 .f32
  o0 : Vec F S32x16 .f32
  h01 : ∀ y, mw y = 0#32 ∨ mw y = 1#32

/-- The index of place `n`. -/
def atM (n : ℕ) (h : n < 5632) : S5632.Idx := fun | 0 => ⟨n, h⟩

/-- The index of lane `n`. -/
def atL (n : ℕ) (h : n < 16) : S16.Idx := fun | 0 => ⟨n, h⟩

/-- The mask's word of place `n`. -/
def wordAt (mw : Vec F S5632 .i32) (n : ℕ) : BitVec 32 := if h : n < 5632 then mw (atM n h) else 0#32

/-- The entries of subcore `w` that are masked in. -/
def mkOf (mw : Vec F S5632 .i32) (w n : ℕ) : Prop := wordAt mw (w * 176 + n) = 1#32

instance (mw : Vec F S5632 .i32) (w : ℕ) : DecidablePred (mkOf mw w) := fun _ => inferInstanceAs (Decidable (_ = _))

/-- The whole result: row `w` is what subcore `w` writes. -/
def outV (mw : Vec F S5632 .i32) (GP GT : Vec F S401408x128 .f32) : Vec F S32x16 .f32 :=
  fun x => tileOut GP GT (mkOf mw (x 0).val) (6912 + (x 0).val * 176) (atL (x 1).val (x 1).isLt)

abbrev mLoc (d : Dev nD) : Loc nD τ sig := (SparseCore.T d).loc main_v17
abbrev pLoc (d : Dev nD) : Loc nD τ sig := (SparseCore.T d).loc main_v4
abbrev tLoc (d : Dev nD) : Loc nD τ sig := (SparseCore.T d).loc main_v7
abbrev oLoc (d : Dev nD) : Loc nD τ sig := (SparseCore.T d).loc main_v18

/-! ## A buffer's elements held as a view's values -/

section HView
variable {d : Dev nD} {c : Fin τ.nSC} {s : Fin τ.nSub} {sp : Space} {sh : Shape} {e : EltTy}

theorem H_in (m : Memref sig .scVector sp sh e) (q : PosShare TreeShare) (I : Finset (Idx (m.view.loc (V d c s)))) (hI : m.view.set ⊆ I) (f : Buf (Elt F) (m.view.loc (V d c s))) :
    ((m.view.loc (V d c s) ↦[I]{q} f : sProp 𝕄)) ⊢ iprop(H d c s m q (m.view.read (Elt F) f) ∗ (m.view.loc (V d c s) ↦[I \ m.view.set]{q} f)) := by
  refine (pointsTo_split_subset hI).1.trans ?_
  iintro ⟨H1, H2⟩
  isplitl [H1]
  · unfold H
    iexists f
    isplitr
    · ipureintro; rfl
    · iexact H1
  · iexact H2

theorem H_set (m : Memref sig .scVector sp sh e) (q : PosShare TreeShare) (f : Buf (Elt F) (m.view.loc (V d c s))) {g : Vec F sh e} (hg : m.view.read (Elt F) f = g) :
    H d c s m q g ⊢ ((m.view.loc (V d c s) ↦[m.view.set]{q} f : sProp 𝕄)) := by
  unfold H
  iintro ⟨%f', %hf, Hf⟩
  iapply (Entails.of_eq (pointsTo_congr (f := f') (g := f) ?_)) $$ Hf
  intro x hx
  obtain ⟨y, -, rfl⟩ := Finset.mem_map.mp hx
  have := congrFun (hf.trans hg.symm) y
  rw [View.read_apply, View.read_apply] at this
  exact (cast_inj _).mp this

theorem H_out (m : Memref sig .scVector sp sh e) (q : PosShare TreeShare) (I : Finset (Idx (m.view.loc (V d c s)))) (hI : m.view.set ⊆ I) (f : Buf (Elt F) (m.view.loc (V d c s))) :
    iprop(H d c s m q (m.view.read (Elt F) f) ∗ (m.view.loc (V d c s) ↦[I \ m.view.set]{q} f)) ⊢ ((m.view.loc (V d c s) ↦[I]{q} f : sProp 𝕄)) := by
  iintro ⟨H1, H2⟩
  iapply (pointsTo_split_subset hI).2
  isplitl [H1]
  · iapply (H_set m q f rfl) $$ H1
  · iexact H2

/-- A scratch buffer whole, at some contents. -/
theorem H_scr (b : Ref sig .scVector) :
    (iprop(∃ f, (V d c s).loc b ↦{fullShare} f) : sProp 𝕄) = iprop(∃ g, H (F := F) d c s (Memref.whole b) fullShare g) := by
  have hs : (Memref.whole b).view.set = Finset.univ := View.set_whole _
  refine BI.Entails.antisymm (show (iprop(∃ f, (V d c s).loc b ↦{fullShare} f) : sProp 𝕄) ⊢ iprop(∃ g, H (F := F) d c s (Memref.whole b) fullShare g) from ?_)
    (show (iprop(∃ g, H (F := F) d c s (Memref.whole b) fullShare g) : sProp 𝕄) ⊢ iprop(∃ f, (V d c s).loc b ↦{fullShare} f) from ?_)
  · iintro ⟨%f, Hf⟩
    iexists ((Memref.whole b).view.read (Elt F) f)
    unfold H
    iexists f
    isplitr
    · ipureintro; rfl
    · iapply (Entails.of_eq (show ((V d c s).loc b ↦{fullShare} f : sProp 𝕄) = ((Memref.whole b).view.loc (V d c s) ↦[(Memref.whole b).view.set]{fullShare} f) by rw [hs])) $$ Hf
  · unfold H
    iintro ⟨%g, %f, -, Hf⟩
    iexists f
    iapply (Entails.of_eq (show ((Memref.whole b).view.loc (V d c s) ↦[(Memref.whole b).view.set]{fullShare} f : sProp 𝕄) = ((V d c s).loc b ↦{fullShare} f) by rw [hs])) $$ Hf

end HView

/-! ## The subcore's own buffers and semaphores -/

section Own
variable (d : Dev nD) (c : Fin τ.nSC) (s : Fin τ.nSub)

def scrL : List (Ref sig .scVector) := [cc1_scratch0, cc1_scratch1, cc1_scratch2, cc1_scratch3, cc1_scratch4, cc1_scratch5, cc1_scratch6, cc1_scratch7, cc1_scratch8, cc1_scratch9]
def semL : List (SemLoc sig) := [.dma cc1_scratch10.sem, .dma cc1_scratch11.sem, .dma cc1_scratch12.sem, .dma cc1_scratch13.sem, .dma cc1_scoped0.sem, .dma cc1_scoped1.sem]

def scrS : Finset (DevRef τ sig) := scrL.toFinset.map ⟨fun b => (Proc.scVector c s).devRef b, Proc.devRef_injective _⟩
def semS : Finset (GSem nD τ sig) := semL.toFinset.map ⟨fun b => (V d c s, b), fun _ _ h => (Prod.mk.inj h).2⟩

theorem scrS_sub : scrS c s ⊆ SparseCore.Cfg.ownRefs (τ := τ) (.scVector c s) := by
  intro x hx
  obtain ⟨b, hb, rfl⟩ := Finset.mem_map.mp hx
  simp only [scrL, List.mem_toFinset, List.mem_cons, List.not_mem_nil, _root_.or_false] at hb
  rcases hb with rfl | rfl | rfl | rfl | rfl | rfl | rfl | rfl | rfl | rfl <;>
    exact SparseCore.Cfg.mem_ownRefs_of_owner (p := Proc.scVector c s) rfl

theorem semS_sub : semS d c s ⊆ SparseCore.Cfg.ownCells (V d c s) := by
  intro x hx
  obtain ⟨b, hb, rfl⟩ := Finset.mem_map.mp hx
  refine SparseCore.Cfg.mem_ownCells.mpr ⟨rfl, ?_⟩
  show b.isScoped .scVector = true
  clear hx
  revert b
  decide

theorem ownSems0_V : (SparseCore.Cfg.ownSems0 (V d c s) : sProp 𝕄)
    = iprop((semVal (V d c s, SemLoc.dma cc1_scratch10.sem) 0 ∗ semVal (V d c s, SemLoc.dma cc1_scratch11.sem) 0 ∗ semVal (V d c s, SemLoc.dma cc1_scratch12.sem) 0 ∗ semVal (V d c s, SemLoc.dma cc1_scratch13.sem) 0
        ∗ semVal (V d c s, SemLoc.dma cc1_scoped0.sem) 0 ∗ semVal (V d c s, SemLoc.dma cc1_scoped1.sem) 0) ∗ bigSep (SparseCore.Cfg.ownCells (V d c s) \ semS d c s) fun g => semVal g 0) := by
  unfold SparseCore.Cfg.ownSems0
  rw [SparseCore.bigSep_sdiff_split' (semS_sub d c s), semS, SparseCore.bigSep_map, bigSep_eq_bigSepL_of_eq semL rfl (by decide)]
  rfl

theorem ownBufs_V : (SparseCore.Cfg.ownBufs (V d c s) : sProp 𝕄)
    = iprop(((∃ g, H (F := F) d c s (Memref.whole cc1_scratch0) fullShare g) ∗ (∃ g, H (F := F) d c s (Memref.whole cc1_scratch1) fullShare g) ∗ (∃ g, H (F := F) d c s (Memref.whole cc1_scratch2) fullShare g)
        ∗ (∃ g, H (F := F) d c s (Memref.whole cc1_scratch3) fullShare g) ∗ (∃ g, H (F := F) d c s (Memref.whole cc1_scratch4) fullShare g) ∗ (∃ g, H (F := F) d c s (Memref.whole cc1_scratch5) fullShare g)
        ∗ (∃ g, H (F := F) d c s (Memref.whole cc1_scratch6) fullShare g) ∗ (∃ g, H (F := F) d c s (Memref.whole cc1_scratch7) fullShare g) ∗ (∃ g, H (F := F) d c s (Memref.whole cc1_scratch8) fullShare g)
        ∗ (∃ g, H (F := F) d c s (Memref.whole cc1_scratch9) fullShare g))
      ∗ bigSep (SparseCore.Cfg.ownRefs (τ := τ) (.scVector c s) \ scrS c s) fun b => iprop(∃ f, ((d, b) : Loc nD τ sig) ↦{fullShare} f)) := by
  unfold SparseCore.Cfg.ownBufs
  rw [SparseCore.bigSep_sdiff_split' (show scrS c s ⊆ SparseCore.Cfg.ownRefs (τ := τ) (V d c s).2 from scrS_sub c s), scrS, SparseCore.bigSep_map, bigSep_eq_bigSepL_of_eq scrL rfl (by decide)]
  simp only [← H_scr]
  rfl

end Own

/-! ## The views of the call's operands -/

theorem k1_off71_val : ∀ i : grid1.Coords, k1_off71 i = ![(i 1).val * 2 + (i 0).val, 0] := by decide +kernel

abbrev orow (i : grid1.Coords) : Memref sig .scVector .hbm S16 .f32 := outRow i (Memref.whole main_v18_scv)
abbrev mrow (i : grid1.Coords) : Memref sig .scVector .hbm S176 .i32 := mskSl i (Memref.whole main_v17_scv)
abbrev wOf (i : grid1.Coords) : ℕ := (i 1).val * 2 + (i 0).val

theorem orow_emb : ∀ (i : grid1.Coords) (y : S16.Idx), (((orow i).view.emb y : S32x16.Idx) 0).val = wOf i ∧ (((orow i).view.emb y : S32x16.Idx) 1).val = (y 0).val := by
  decide +kernel

/-- The elements of row `w` of the result. -/
def rowS (w : ℕ) : Finset S32x16.Idx := Finset.univ.filter fun x => (x 0).val = w

theorem orow_set (i : grid1.Coords) : (orow i).view.set = rowS (wOf i) := by
  refine Finset.ext fun x => ?_
  constructor
  · intro hx
    obtain ⟨y, -, rfl⟩ := Finset.mem_map.mp hx
    exact Finset.mem_filter.mpr ⟨Finset.mem_univ _, (orow_emb i y).1⟩
  · intro hx
    have hx' := (Finset.mem_filter.mp hx).2
    refine Finset.mem_map.mpr ⟨atL (x 1).val (x 1).isLt, Finset.mem_univ _, ?_⟩
    have h := orow_emb i (atL (x 1).val (x 1).isLt)
    refine (funext fun a => ?_ : ((orow i).view.emb _ : S32x16.Idx) = x)
    match a with
    | 0 => exact Fin.ext (h.1.trans hx'.symm)
    | 1 => exact Fin.ext h.2

theorem read_orow (i : grid1.Coords) (mw : Vec F S5632 .i32) (GP GT : Vec F S401408x128 .f32) :
    (orow i).view.read (Elt F) (outV mw GP GT) = tileOut GP GT (mkOf mw (wOf i)) (baseN i) := by
  funext y
  refine (View.read_apply _ _).trans ((cast_eq _ _).trans ?_)
  have h := orow_emb i y
  show outV mw GP GT ((orow i).view.emb y : S32x16.Idx) = _
  unfold outV
  have e1 : ∀ w w' : ℕ, w = w' → ∀ z z' : S16.Idx, z = z' → tileOut GP GT (mkOf mw w) (6912 + w * 176) z = tileOut GP GT (mkOf mw w') (6912 + w' * 176) z' := by
    rintro w _ rfl z _ rfl; rfl
  refine e1 _ _ h.1 _ _ (funext fun a => ?_)
  match a with
  | 0 => exact Fin.ext h.2

theorem read_mrow (i : grid1.Coords) (mw : Vec F S5632 .i32) (h01 : ∀ y, mw y = 0#32 ∨ mw y = 1#32) (y : S176.Idx) :
    (mrow i).view.read (Elt F) mw y = if mkOf mw (wOf i) (y 0).val then 1#32 else 0#32 := by
  refine (View.read_apply _ _).trans ((cast_eq _ _).trans ?_)
  have h0 : (i 0).val < 2 := (i 0).isLt
  have h1 : (i 1).val < 16 := (i 1).isLt
  have hy : (y 0).val < 176 := (y 0).isLt
  have hlt : wOf i * 176 + (y 0).val < 5632 := by simp only [wOf]; omega
  have he : ((mrow i).view.emb y : S5632.Idx) = atM (wOf i * 176 + (y 0).val) hlt := by
    funext a
    match a with
    | 0 =>
      apply Fin.ext
      show k1_off1 i 0 + 1 * (y 0).val = wOf i * 176 + (y 0).val
      rw [k1_off1_eq]
      simp only [wOf, Matrix.cons_val_zero]
      omega
  show mw ((mrow i).view.emb y : S5632.Idx) = _
  rw [he]
  have hk : Iff (mkOf mw (wOf i) (y 0).val) (mw (atM (wOf i * 176 + (y 0).val) hlt) = 1#32) := by
    unfold mkOf wordAt; rw [dif_pos hlt]
  by_cases hm : mkOf mw (wOf i) (y 0).val
  · rw [if_pos hm]; exact hk.mp hm
  · rw [if_neg hm]
    exact (h01 _).resolve_right fun h => hm (hk.mpr h)

theorem read_ptab (g : Vec F S401408x128 .f32) : (tableAll (Memref.whole main_v4_scv)).view.read (Elt F) g = g := by
  funext y
  refine (View.read_apply _ _).trans ((cast_eq _ _).trans (congrArg g (funext fun a => Fin.ext ?_)))
  match a with
  | 0 => show 0 + 1 * (y 0).val = (y 0).val; omega
  | 1 => show 0 + 1 * (y 1).val = (y 1).val; omega

theorem read_ttab (g : Vec F S401408x128 .f32) : (tableAll (Memref.whole main_v7_scv)).view.read (Elt F) g = g := by
  funext y
  refine (View.read_apply _ _).trans ((cast_eq _ _).trans (congrArg g (funext fun a => Fin.ext ?_)))
  match a with
  | 0 => show 0 + 1 * (y 0).val = (y 0).val; omega
  | 1 => show 0 + 1 * (y 1).val = (y 1).val; omega

/-! ## The task -/

/-- What a subcore's task is handed and hands back: shares of the operands, and its row of the result. -/
def tilePts (X : Ins F) (d : Dev nD) (q : PosShare TreeShare) (w : ℕ) (o : Vec F S32x16 .f32) : sProp 𝕄 :=
  iprop((mLoc d ↦{q} X.mw) ∗ (pLoc d ↦{q} X.gp) ∗ (tLoc d ↦{q} X.gt) ∗ (oLoc d ↦[rowS w]{fullShare} o))

section Task
variable (d : Dev nD) (i : grid1.Coords)

abbrev bodyOf (F : FTy → Type) [FloatOps F] (i : grid1.Coords) :=
  cc1__sc_body (F := F) i (Memref.whole main_v17_scv) (Memref.isWhole_whole _) (Memref.whole main_v4_scv) (Memref.isWhole_whole _) (Memref.whole main_v7_scv) (Memref.isWhole_whole _)
    (Memref.whole main_v18_scv) (Memref.isWhole_whole _) (Memref.whole cc1_scratch0) (Memref.isWhole_whole _) (Memref.whole cc1_scratch1) (Memref.isWhole_whole _)
    (Memref.whole cc1_scratch2) (Memref.isWhole_whole _) (Memref.whole cc1_scratch3) (Memref.isWhole_whole _) (Memref.whole cc1_scratch4) (Memref.isWhole_whole _)
    (Memref.whole cc1_scratch5) (Memref.isWhole_whole _) (Memref.whole cc1_scratch6) (Memref.isWhole_whole _) (Memref.whole cc1_scratch7) (Memref.isWhole_whole _)
    (Memref.whole cc1_scratch8) (Memref.isWhole_whole _) (Memref.whole cc1_scratch9) (Memref.isWhole_whole _)
    cc1_scratch10 cc1_scratch11 cc1_scratch12 cc1_scratch13 cc1_scoped0 cc1_scoped1

set_option maxHeartbeats 4000000 in
theorem tile_body (X : Ins F) (q : PosShare TreeShare) (O : CellTallies nD τ sig (HIx 1)) (W : Waits sig (HIx 1)) (hO : ∀ g, O g none = 0) :
    iprop(levAts (K (F := F)).L (K (F := F)).lev ∗ emp ∗ tilePts X d q (wOf i) X.o0
        ∗ scopedBufs (V d (cV i) (sV i)) ∗ scopedSems0 (V d (cV i) (sV i)) ∗ owes (V d (cV i) (sV i)) O W)
      ⊢ wp frame (wpE (defs₀ (F := F)) 𝒱₀ (V d (cV i) (sV i)) none) Set.univ (bodyOf F i)
          fun _ => iprop(tilePts X d q (wOf i) (outV X.mw X.gp X.gt)
            ∗ scopedBufs (V d (cV i) (sV i)) ∗ scopedSems0 (V d (cV i) (sV i))
            ∗ ∃ W', ⌜∀ p ∈ W', p ∈ W ∨ p.2 = none⌝ ∗ owes (V d (cV i) (sV i)) O W') := by
  rw [(K (F := F)).scopedBufs_V facts d (cV i) (sV i), SparseCore.Cfg.scopedSems0_V (Val := Elt F) d (cV i) (sV i), ownSems0_V, ownBufs_V]
  unfold tilePts
  iintro ⟨#Hlv, -, ⟨Hm, Hp, Ht, Ho⟩, ⟨⟨H0, H1, H2, H3, H4, H5, H6, H7, H8, H9⟩, Hbufs⟩, ⟨⟨Sa, Sb, Sc, Sd, Se, Sf⟩, Hsems⟩, HO⟩
  ihave #Hmw := (show levAts (K (F := F)).L (K (F := F)).lev ⊢ Transfers.MayWaits (V d (cV i) (sV i)) (default : HIx 1) O from
    (K (F := F)).mayWaits_none (thr := V d (cV i) (sV i)) hO) $$ Hlv
  ihave Hm := (H_in (d := d) (c := cV i) (s := sV i) (mrow i) q Finset.univ (Finset.subset_univ _) X.mw) $$ Hm
  icases Hm with ⟨Hm, Hm'⟩
  ihave Hp := (pointsTo_share (PosShare.mem_left_op_right q)).1 $$ Hp
  icases Hp with ⟨Hpa, Hpb⟩
  ihave Ht := (pointsTo_share (PosShare.mem_left_op_right q)).1 $$ Ht
  icases Ht with ⟨Hta, Htb⟩
  ihave Hpa := (H_in (d := d) (c := cV i) (s := sV i) (tableAll (Memref.whole main_v4_scv)) q.left Finset.univ (Finset.subset_univ _) X.gp) $$ Hpa
  icases Hpa with ⟨Hpa, Hpa'⟩
  ihave Hpb := (H_in (d := d) (c := cV i) (s := sV i) (tableAll (Memref.whole main_v4_scv)) q.right Finset.univ (Finset.subset_univ _) X.gp) $$ Hpb
  icases Hpb with ⟨Hpb, Hpb'⟩
  ihave Hta := (H_in (d := d) (c := cV i) (s := sV i) (tableAll (Memref.whole main_v7_scv)) q.left Finset.univ (Finset.subset_univ _) X.gt) $$ Hta
  icases Hta with ⟨Hta, Hta'⟩
  ihave Htb := (H_in (d := d) (c := cV i) (s := sV i) (tableAll (Memref.whole main_v7_scv)) q.right Finset.univ (Finset.subset_univ _) X.gt) $$ Htb
  icases Htb with ⟨Htb, Htb'⟩
  ihave Ho := (H_in (d := d) (c := cV i) (s := sV i) (orow i) fullShare (rowS (wOf i)) (orow_set i).le X.o0) $$ Ho
  icases Ho with ⟨Ho, Ho'⟩
  rw [read_ptab, read_ttab]
  iapply (wp_wand _ _) $$ [HO Hm Ho H0 H1 H9 H8 H2 H4 H6 Hpa Hta Sa Sc H3 H5 H7 Hpb Htb Sb Sd Se Sf]
  · iapply (wp_body d (mkOf X.mw (wOf i)) O W X.gp X.gt q.left q.right q i (Memref.whole main_v17_scv) (Memref.isWhole_whole _) (Memref.whole main_v4_scv) (Memref.isWhole_whole _) (Memref.whole main_v7_scv) (Memref.isWhole_whole _)
      (Memref.whole main_v18_scv) (Memref.isWhole_whole _) (Memref.whole cc1_scratch0) (Memref.isWhole_whole _) (Memref.whole cc1_scratch1) (Memref.isWhole_whole _)
      (Memref.whole cc1_scratch2) (Memref.isWhole_whole _) (Memref.whole cc1_scratch3) (Memref.isWhole_whole _) (Memref.whole cc1_scratch4) (Memref.isWhole_whole _)
      (Memref.whole cc1_scratch5) (Memref.isWhole_whole _) (Memref.whole cc1_scratch6) (Memref.isWhole_whole _) (Memref.whole cc1_scratch7) (Memref.isWhole_whole _)
      (Memref.whole cc1_scratch8) (Memref.isWhole_whole _) (Memref.whole cc1_scratch9) (Memref.isWhole_whole _)
      cc1_scratch10 cc1_scratch11 cc1_scratch12 cc1_scratch13 cc1_scoped0 cc1_scoped1 (by decide) (by decide) (by decide) (by decide)
      (M := (mrow i).view.read (Elt F) X.mw) (read_mrow i X.mw X.h01) (g' := (orow i).view.read (Elt F) X.o0)) $$ [HO Hm Ho H0 H1 H9 H8 H2 H4 H6 Hpa Hta Sa Sc H3 H5 H7 Hpb Htb Sb Sd Se Sf]
    isplitr; · iexact Hmw
    isplitl [HO]
    · unfold ow
      iexists W
      isplitr
      · ipureintro; exact fun p hp => .inl hp
      · iexact HO
    isplitl [Hm]; · iexact Hm
    isplitl [Ho]; · iexact Ho
    isplitl [H0]; · iexact H0
    isplitl [H1]; · iexact H1
    isplitl [H9]; · iexact H9
    isplitl [H8]; · iexact H8
    isplitl [H2 H4 H6 Hpa Hta Sa Sc]
    · unfold free
      isplitl [H2]; · iexact H2
      isplitl [H4]; · iexact H4
      isplitl [H6]; · iexact H6
      isplitl [Hpa]; · iexact Hpa
      isplitl [Hta]; · iexact Hta
      isplitl [Sa]; · iexact Sa
      iexact Sc
    isplitl [H3 H5 H7 Hpb Htb Sb Sd]
    · unfold free
      isplitl [H3]; · iexact H3
      isplitl [H5]; · iexact H5
      isplitl [H7]; · iexact H7
      isplitl [Hpb]; · iexact Hpb
      isplitl [Htb]; · iexact Htb
      isplitl [Sb]; · iexact Sb
      iexact Sd
    isplitl [Se]; · iexact Se
    iexact Sf
  iintro %_ ⟨HO, Hm, Ho, H0, H1, H9, H8, HA, HB, Se, Sf⟩
  unfold free
  icases HA with ⟨H2, H4, H6, Hpa, Hta, Sa, Sc⟩
  icases HB with ⟨H3, H5, H7, Hpb, Htb, Sb, Sd⟩
  isplitl [Hm Hm' Hpa Hpa' Hpb Hpb' Hta Hta' Htb Htb' Ho Ho']
  · isplitl [Hm Hm']
    · iapply (H_out (d := d) (c := cV i) (s := sV i) (mrow i) q Finset.univ (Finset.subset_univ _) X.mw)
      isplitl [Hm]; · iexact Hm
      iexact Hm'
    isplitl [Hpa Hpa' Hpb Hpb']
    · iapply (pointsTo_share (PosShare.mem_left_op_right q)).2
      isplitl [Hpa Hpa']
      · iapply (H_out (d := d) (c := cV i) (s := sV i) (tableAll (Memref.whole main_v4_scv)) q.left Finset.univ (Finset.subset_univ _) X.gp)
        rw [read_ptab]
        isplitl [Hpa]; · iexact Hpa
        iexact Hpa'
      · iapply (H_out (d := d) (c := cV i) (s := sV i) (tableAll (Memref.whole main_v4_scv)) q.right Finset.univ (Finset.subset_univ _) X.gp)
        rw [read_ptab]
        isplitl [Hpb]; · iexact Hpb
        iexact Hpb'
    isplitl [Hta Hta' Htb Htb']
    · iapply (pointsTo_share (PosShare.mem_left_op_right q)).2
      isplitl [Hta Hta']
      · iapply (H_out (d := d) (c := cV i) (s := sV i) (tableAll (Memref.whole main_v7_scv)) q.left Finset.univ (Finset.subset_univ _) X.gt)
        rw [read_ttab]
        isplitl [Hta]; · iexact Hta
        iexact Hta'
      · iapply (H_out (d := d) (c := cV i) (s := sV i) (tableAll (Memref.whole main_v7_scv)) q.right Finset.univ (Finset.subset_univ _) X.gt)
        rw [read_ttab]
        isplitl [Htb]; · iexact Htb
        iexact Htb'
    · iclear Ho'
      ihave Ho := (H_set (d := d) (c := cV i) (s := sV i) (orow i) fullShare (outV X.mw X.gp X.gt) (read_orow i X.mw X.gp X.gt)) $$ Ho
      iapply (Entails.of_eq (show ((orow i).view.loc (V d (cV i) (sV i)) ↦[(orow i).view.set]{fullShare} (outV X.mw X.gp X.gt) : sProp 𝕄) = (oLoc d ↦[rowS (wOf i)]{fullShare} (outV X.mw X.gp X.gt)) by rw [orow_set])) $$ Ho
  isplitl [H0 H1 H2 H3 H4 H5 H6 H7 H8 H9 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact Hbufs
  isplitl [Sa Sb Sc Sd Se Sf Hsems]
  · isplitr [Hsems]
    · isplitl [Sa]; · iexact Sa
      isplitl [Sb]; · iexact Sb
      isplitl [Sc]; · iexact Sc
      isplitl [Sd]; · iexact Sd
      isplitl [Se]; · iexact Se
      iexact Sf
    · iexact Hsems
  unfold ow
  iexact HO

end Task

end Cert.Proof

end
-- ==== Proof.Sc.lean ====
/-
  The SparseCore call: what its handshakes carry, and its tasks.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx Idealize.ShloMosaic.Pipeline

variable {F : FTy → Type} [FloatOps F]

local notation "𝕄" => MT nD τ sig (HIx 1) (Elt F) ℕ UU ℕ

open Idealize.ShloMosaic.ShareLeaves (leaf pointsTo_leaves)

/-- The elements of the rows core `c`'s subcores write. -/
def coreS (c : Fin 2) : Finset S32x16.Idx := Finset.univ.filter fun x => (x 0).val % 2 = c.val

/-- What a core is handed and hands back: shares of the operands, and its rows of the result. -/
def corePts (X : Ins F) (d : Dev nD) (c : Fin 2) (o : Vec F S32x16 .f32) : sProp 𝕄 :=
  iprop((mLoc d ↦{leaf 1 fullShare c} X.mw) ∗ (pLoc d ↦{leaf 1 fullShare c} X.gp) ∗ (tLoc d ↦{leaf 1 fullShare c} X.gt) ∗ (oLoc d ↦[coreS c]{fullShare} o))

/-- What the call is handed and hands back. -/
def callPts (X : Ins F) (d : Dev nD) (o : Vec F S32x16 .f32) : sProp 𝕄 :=
  iprop((mLoc d ↦{fullShare} X.mw) ∗ (pLoc d ↦{fullShare} X.gp) ∗ (tLoc d ↦{fullShare} X.gt) ∗ (oLoc d ↦{fullShare} o))

abbrev c2 (c : Fin ((K (F := F)).nCore 0)) : Fin 2 := Fin.cast nCore_zero c
abbrev i16 (i : Fin ((K (F := F)).nSub 0)) : Fin 16 := Fin.cast nSub_zero i

/-- What subcore `i` of core `c` is handed and hands back. -/
def subPts (X : Ins F) (d : Dev nD) (c : Fin 2) (i : Fin 16) (o : Vec F S32x16 .f32) : sProp 𝕄 :=
  tilePts X d (leaf 4 (leaf 1 fullShare c) i) (i.val * 2 + c.val) o

instance corePts_storable (X : Ins F) (d : Dev nD) (c : Fin 2) (o : Vec F S32x16 .f32) : BI.Storable (upEmb : UEmb _ 𝕄) (corePts X d c o) := by
  unfold corePts; infer_instance
instance subPts_storable (X : Ins F) (d : Dev nD) (c : Fin 2) (i : Fin 16) (o : Vec F S32x16 .f32) : BI.Storable (upEmb : UEmb _ 𝕄) (subPts X d c i o) := by
  unfold subPts tilePts; infer_instance

variable (X : Dev nD → Ins F)

def out (X : Ins F) : Vec F S32x16 .f32 := outV X.mw X.gp X.gt

def P : (K (F := F)).Pay (nD := nD) (Val := Elt F) (Name := ℕ) (U := UU) where
  st := fun q d c => match q with | 0 => corePts (X d) d (c2 c) (X d).o0
  dn := fun q d c => match q with | 0 => corePts (X d) d (c2 c) (out (X d))
  go := fun q d c i => match q with | 0 => subPts (X d) d (c2 c) (i16 i) (X d).o0
  td := fun q d c i => match q with | 0 => subPts (X d) d (c2 c) (i16 i) (out (X d))
  x := fun _ _ => iprop(emp)

instance P_storable : (P X).IsStorable where
  st q d c := match q with | 0 => corePts_storable (X d) d (c2 c) (X d).o0
  dn q d c := match q with | 0 => corePts_storable (X d) d (c2 c) (out (X d))
  go q d c i := match q with | 0 => subPts_storable (X d) d (c2 c) (i16 i) (X d).o0
  td q d c i := match q with | 0 => subPts_storable (X d) d (c2 c) (i16 i) (out (X d))

/-! ## The obligation of a task -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => bodyOf F (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 4000000 in
theorem tileObl : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d) (leaf 4 (leaf 1 fullShare (c2 c)) (i16 i)) O W hO).trans (wp_mono frame _ _ fun _ => obl_post)

/-! ## The rows split and join -/

theorem rows_disjoint (c : Fin 2) : ∀ i ∈ (Finset.univ : Finset (Fin 16)), ∀ j ∈ (Finset.univ : Finset (Fin 16)), i ≠ j → Disjoint (rowS (i.val * 2 + c.val)) (rowS (j.val * 2 + c.val)) := by
  intro i _ j _ h
  refine Finset.disjoint_left.mpr fun x hx hx' => h (Fin.ext ?_)
  have h1 := (Finset.mem_filter.mp hx).2
  have h2 := (Finset.mem_filter.mp hx').2
  omega

theorem rows_cover (c : Fin 2) : ((Finset.univ : Finset (Fin 16)).biUnion fun i => rowS (i.val * 2 + c.val)) = coreS c := by
  refine Finset.ext fun x => ?_
  have hx : (x 0).val < 32 := (x 0).isLt
  simp only [Finset.mem_biUnion, Finset.mem_univ, _root_.true_and, rowS, coreS, Finset.mem_filter]
  constructor
  · rintro ⟨i, hi⟩
    have := c.isLt; omega
  · intro h
    exact ⟨⟨(x 0).val / 2, by omega⟩, by show (x 0).val = (x 0).val / 2 * 2 + c.val; omega⟩

theorem cores_disjoint : ∀ i ∈ (Finset.univ : Finset (Fin 2)), ∀ j ∈ (Finset.univ : Finset (Fin 2)), i ≠ j → Disjoint (coreS i) (coreS j) := by
  intro i _ j _ h
  refine Finset.disjoint_left.mpr fun x hx hx' => h (Fin.ext ?_)
  have h1 := (Finset.mem_filter.mp hx).2
  have h2 := (Finset.mem_filter.mp hx').2
  omega

theorem cores_cover : ((Finset.univ : Finset (Fin 2)).biUnion coreS) = Finset.univ := by
  refine Finset.ext fun x => ?_
  simp only [Finset.mem_biUnion, Finset.mem_univ, _root_.true_and, coreS, Finset.mem_filter, iff_true]
  exact ⟨⟨(x 0).val % 2, Nat.mod_lt _ (by decide)⟩, rfl⟩

theorem core_rows (d : Dev nD) (c : Fin 2) (o : Vec F S32x16 .f32) :
    (oLoc d ↦[coreS c]{fullShare} o : sProp 𝕄) = bigSep Finset.univ fun i : Fin 16 => oLoc d ↦[rowS (i.val * 2 + c.val)]{fullShare} o := by
  rw [← pointsTo_biUnion Finset.univ (ℓ := oLoc d) (fun i : Fin 16 => rowS (i.val * 2 + c.val)) (rows_disjoint c), rows_cover]

theorem call_rows (d : Dev nD) (o : Vec F S32x16 .f32) :
    (oLoc d ↦{fullShare} o : sProp 𝕄) = bigSep Finset.univ fun c : Fin 2 => oLoc d ↦[coreS c]{fullShare} o := by
  rw [← pointsTo_biUnion Finset.univ (ℓ := oLoc d) coreS cores_disjoint, cores_cover]
  try rfl

theorem leaves16 (ℓ : Loc nD τ sig) (q : PosShare TreeShare) (f : Buf (Elt F) ℓ) :
    (ℓ ↦{q} f : sProp 𝕄) = bigSep Finset.univ fun i : Fin 16 => ℓ ↦{leaf 4 q i} f := pointsTo_leaves Finset.univ f 4 q

theorem leaves2 (ℓ : Loc nD τ sig) (q : PosShare TreeShare) (f : Buf (Elt F) ℓ) :
    (ℓ ↦{q} f : sProp 𝕄) = bigSep Finset.univ fun i : Fin 2 => ℓ ↦{leaf 1 q i} f := pointsTo_leaves Finset.univ f 1 q

theorem core_split (d : Dev nD) (Y : Ins F) (c : Fin 2) (o : Vec F S32x16 .f32) :
    corePts Y d c o = (bigSep Finset.univ fun i : Fin 16 => subPts Y d c i o : sProp 𝕄) := by
  unfold subPts tilePts corePts
  rw [bigSep_sep', bigSep_sep', bigSep_sep', core_rows,
    ← leaves16, ← leaves16, ← leaves16]

theorem call_split (d : Dev nD) (Y : Ins F) (o : Vec F S32x16 .f32) :
    callPts Y d o = (bigSep Finset.univ fun c : Fin 2 => corePts Y d c o : sProp 𝕄) := by
  unfold corePts callPts
  rw [bigSep_sep', bigSep_sep', bigSep_sep', call_rows,
    ← leaves2, ← leaves2, ← leaves2]

theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (c2 i)) = bigSep Finset.univ Φ :=
  bigSep_congr fun _ _ => congrArg Φ (Fin.ext rfl)

theorem vecSplit : (K (F := F)).VecSplit' (P X) 0 := by
  intro d c
  show corePts (X d) d (c2 c) (X d).o0 ⊢ |={Set.univ}=> iprop(
      (bigSep Finset.univ fun i : Fin ((K (F := F)).nSub 0) => subPts (X d) d (c2 c) (i16 i) (X d).o0)
      ∗ ((bigSep Finset.univ fun i : Fin ((K (F := F)).nSub 0) => subPts (X d) d (c2 c) (i16 i) (out (X d))) -∗ corePts (X d) d (c2 c) (out (X d))))
  rw [bigSep_tasks (F := F) (fun i => subPts (X d) d (c2 c) i (X d).o0), bigSep_tasks (F := F) (fun i => subPts (X d) d (c2 c) i (out (X d))), ← core_split, ← core_split]
  iintro H; imodintro
  isplitl [H]; · iexact H
  iintro H
  iexact H

theorem st0_eq (d : Dev nD) : (bigSep Finset.univ fun c : Fin ((K (F := F)).nCore 0) => (P X).st 0 d c) = callPts (X d) d (X d).o0 := by
  rw [call_split, ← bigSep_cores]; rfl
theorem dn0_eq (d : Dev nD) : (bigSep Finset.univ fun c : Fin ((K (F := F)).nCore 0) => (P X).dn 0 d c) = callPts (X d) d (out (X d)) := by
  rw [call_split, ← bigSep_cores]; rfl

end Cert.Proof

end
-- ==== Proof.Main.lean ====
/-
  The run: @main's host operations, its TensorCore call and its SparseCore call, from any memory, and what every
  buffer of the device then holds.
-/
module

public import proofs.«01_k».proof.Proof.Tc
public import proofs.«01_k».proof.Proof.Sc
public import Idealize.ShloMosaic.Lib.SparseCore.Quiescent
public import Idealize.ShloMosaic.Lib.Routing.OpsOrder
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop

@[expose] public section

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Idealize.ShloMosaic.StableHlo (after held seq)

variable {F : FTy → Type} [FloatOps F]

local notation "𝕄" => MT nD τ sig (HIx 1) (Elt F) ℕ UU ℕ

/-! ## The host operations -/

/-- The host operations before the TensorCore call. -/
abbrev ops1 : List (HloOp τ sig (Elt F)) :=
  [ StableHlo.nullary main_c (emptyVec S0 hz_S0),
    StableHlo.unary main_arg0 main_v0 ((transpose S196x64x4096 [1, 0, 2] · transposes_S64x196x4096_S196x64x4096_1_0_2) : (⟨S64x196x4096, .f32⟩ : BufTy).Contents (Elt F) → (⟨S196x64x4096, .f32⟩ : BufTy).Contents (Elt F)),
    StableHlo.unary main_arg1 main_v1 ((transpose S196x64x4096 [1, 0, 2] · transposes_S64x196x4096_S196x64x4096_1_0_2) : (⟨S64x196x4096, .f32⟩ : BufTy).Contents (Elt F) → (⟨S196x64x4096, .f32⟩ : BufTy).Contents (Elt F)),
    StableHlo.reshape main_v0 main_v2 (rfl : (.f32 : EltTy) = .f32) shapeCasts_S196x64x4096_S196x8x8x32x128,
    StableHlo.unary main_v2 main_v3 ((transpose S196x8x32x8x128 [0, 1, 3, 2, 4] · transposes_S196x8x8x32x128_S196x8x32x8x128_0_1_3_2_4) : (⟨S196x8x8x32x128, .f32⟩ : BufTy).Contents (Elt F) → (⟨S196x8x32x8x128, .f32⟩ : BufTy).Contents (Elt F)),
    StableHlo.reshape main_v3 main_v4 (rfl : (.f32 : EltTy) = .f32) shapeCasts_S196x8x32x8x128_S401408x128,
    StableHlo.reshape main_v1 main_v5 (rfl : (.f32 : EltTy) = .f32) shapeCasts_S196x64x4096_S196x8x8x32x128,
    StableHlo.unary main_v5 main_v6 ((transpose S196x8x32x8x128 [0, 1, 3, 2, 4] · transposes_S196x8x8x32x128_S196x8x32x8x128_0_1_3_2_4) : (⟨S196x8x8x32x128, .f32⟩ : BufTy).Contents (Elt F) → (⟨S196x8x32x8x128, .f32⟩ : BufTy).Contents (Elt F)),
    StableHlo.reshape main_v6 main_v7 (rfl : (.f32 : EltTy) = .f32) shapeCasts_S196x8x32x8x128_S401408x128,
    StableHlo.unary main_arg2 main_v8 ((transpose S196x64 [1, 0] · transposes_S64x196_S196x64_1_0) : (⟨S64x196, .i1⟩ : BufTy).Contents (Elt F) → (⟨S196x64, .i1⟩ : BufTy).Contents (Elt F)),
    StableHlo.unary main_v8 main_v9 (uitofp .f32 : (⟨S196x64, .i1⟩ : BufTy).Contents (Elt F) → (⟨S196x64, .f32⟩ : BufTy).Contents (Elt F)),
    StableHlo.unary main_v9 main_v10 (broadcastInDim S196x64x1 ![0, 1] bcast_S196x64_S196x64x1_0_1 : (⟨S196x64, .f32⟩ : BufTy).Contents (Elt F) → (⟨S196x64x1, .f32⟩ : BufTy).Contents (Elt F)),
    StableHlo.unary main_v10 main_v11 (broadcastInDim S196x64x128 ![0, 1, 2] bcast_S196x64x1_S196x64x128_0_1_2 : (⟨S196x64x1, .f32⟩ : BufTy).Contents (Elt F) → (⟨S196x64x128, .f32⟩ : BufTy).Contents (Elt F)) ]

/-- The host operations between the two calls. -/
abbrev ops2 : List (HloOp τ sig (Elt F)) :=
  [ StableHlo.nullary main_c_0 (constantI S_ 32 0#32),
    StableHlo.unary main_c_0 main_v13 (broadcastInDim S5632 ![] bcast_S_S5632 : (⟨S_, .i32⟩ : BufTy).Contents (Elt F) → (⟨S5632, .i32⟩ : BufTy).Contents (Elt F)),
    StableHlo.unary main_v8 main_v14 ((extractStridedSlice S88x64 ![108, 0] · slices_S196x64_S88x64_108_0) : (⟨S196x64, .i1⟩ : BufTy).Contents (Elt F) → (⟨S88x64, .i1⟩ : BufTy).Contents (Elt F)),
    StableHlo.reshape main_v14 main_v15 (rfl : (.i1 : EltTy) = .i1) shapeCasts_S88x64_S5632,
    StableHlo.unary main_v15 main_v16 ((extui 32 · natLt_1_32) : (⟨S5632, .i1⟩ : BufTy).Contents (Elt F) → (⟨S5632, .i32⟩ : BufTy).Contents (Elt F)),
    StableHlo.ternary main_v13 main_c main_v16 main_v17 ((fun x i u => Host.scatter scatter_S5632_S0_S5632_0_n_n_0 (fun _ b => b) x i u) : (⟨S5632, .i32⟩ : BufTy).Contents (Elt F) → (⟨S0, .i32⟩ : BufTy).Contents (Elt F) → (⟨S5632, .i32⟩ : BufTy).Contents (Elt F) → (⟨S5632, .i32⟩ : BufTy).Contents (Elt F)) ]

/-- The host operations after the SparseCore call. -/
abbrev ops3 : List (HloOp τ sig (Elt F)) :=
  [ StableHlo.reshape main_v12_0 main_v19 (rfl : (.f32 : EltTy) = .f32) shapeCasts_S1x1_S_,
    StableHlo.nullary main_cst (constant S_ .f32 0x00000000#32),
    StableHlo.binary main_v18 main_cst main_v20 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v19 main_v20 main_v21 (addf : (⟨S_, .f32⟩ : BufTy).Contents (Elt F) → (⟨S_, .f32⟩ : BufTy).Contents (Elt F) → (⟨S_, .f32⟩ : BufTy).Contents (Elt F)),
    StableHlo.unary main_arg2 main_v22 (uitofp .f32 : (⟨S64x196, .i1⟩ : BufTy).Contents (Elt F) → (⟨S64x196, .f32⟩ : BufTy).Contents (Elt F)),
    StableHlo.nullary main_cst_1 (constant S_ .f32 0x00000000#32),
    StableHlo.binary main_v22 main_cst_1 main_v23 ((fun x v => Host.reduceAdd x v reducesTo_S64x196_S_d0_1 h_S_) : (⟨S64x196, .f32⟩ : BufTy).Contents (Elt F) → (⟨S_, .f32⟩ : BufTy).Contents (Elt F) → (⟨S_, .f32⟩ : BufTy).Contents (Elt F)),
    StableHlo.unary main_v21 main_v24 (Host.negf : (⟨S_, .f32⟩ : BufTy).Contents (Elt F) → (⟨S_, .f32⟩ : BufTy).Contents (Elt F)),
    StableHlo.binary main_v24 main_v23 main_v25 (Host.divf : (⟨S_, .f32⟩ : BufTy).Contents (Elt F) → (⟨S_, .f32⟩ : BufTy).Contents (Elt F) → (⟨S_, .f32⟩ : BufTy).Contents (Elt F)) ]

/-- The TensorCore call, in the pipelines' own signature. -/
abbrev tcCall : Prog (TpuEff nD τ sig (Elt F) (ΛP (F := F)) .tc) PUnit := .op (.customCall (Pipeline.entry 0) ()) .ret

theorem main_eq (d : Dev nD) : main (F := F) d
    = (seq ops1 >>= fun _ => SparseCore.liftProg tcCall >>= fun _ => seq ops2 >>= fun _ => (K (F := F)).run d 0 >>= fun _ => seq ops3 >>= fun _ => pure ⟨⟩) := rfl

/-- The device's buffers that no call scopes. -/
def ucRefs : Finset (DevRef τ sig) := (StableHlo.tcRefs τ sig).filter fun b => ¬ b.isScoped

theorem sub_uc {op : HloOp τ sig (Elt F)} (h : op.bufs ⊆ StableHlo.tcRefs τ sig) : op.bufs ⊆ ucRefs := fun b hb =>
  Finset.mem_filter.mpr ⟨h hb, by rw [op.no_scoped b hb]; decide⟩
theorem ops1_sub : ∀ op ∈ (ops1 : List (HloOp τ sig (Elt F))), op.bufs ⊆ ucRefs := by
  intro op h
  simp only [List.mem_cons, List.not_mem_nil, _root_.or_false] at h
  rcases h with rfl | rfl | rfl | rfl | rfl | rfl | rfl | rfl | rfl | rfl | rfl | rfl | rfl
  · exact sub_uc (StableHlo.nullary_bufs_sub ..)
  · exact sub_uc (StableHlo.unary_bufs_sub ..)
  · exact sub_uc (StableHlo.unary_bufs_sub ..)
  · exact sub_uc (StableHlo.reshape_bufs_sub ..)
  · exact sub_uc (StableHlo.unary_bufs_sub ..)
  · exact sub_uc (StableHlo.reshape_bufs_sub ..)
  · exact sub_uc (StableHlo.reshape_bufs_sub ..)
  · exact sub_uc (StableHlo.unary_bufs_sub ..)
  · exact sub_uc (StableHlo.reshape_bufs_sub ..)
  · exact sub_uc (StableHlo.unary_bufs_sub ..)
  · exact sub_uc (StableHlo.unary_bufs_sub ..)
  · exact sub_uc (StableHlo.unary_bufs_sub ..)
  · exact sub_uc (StableHlo.unary_bufs_sub ..)
theorem ops2_sub : ∀ op ∈ (ops2 : List (HloOp τ sig (Elt F))), op.bufs ⊆ ucRefs := by
  intro op h
  simp only [List.mem_cons, List.not_mem_nil, _root_.or_false] at h
  rcases h with rfl | rfl | rfl | rfl | rfl | rfl
  · exact sub_uc (StableHlo.nullary_bufs_sub ..)
  · exact sub_uc (StableHlo.unary_bufs_sub ..)
  · exact sub_uc (StableHlo.unary_bufs_sub ..)
  · exact sub_uc (StableHlo.reshape_bufs_sub ..)
  · exact sub_uc (StableHlo.unary_bufs_sub ..)
  · exact sub_uc (StableHlo.ternary_bufs_sub ..)
theorem ops3_sub : ∀ op ∈ (ops3 : List (HloOp τ sig (Elt F))), op.bufs ⊆ ucRefs := by
  intro op h
  simp only [List.mem_cons, List.not_mem_nil, _root_.or_false] at h
  rcases h with rfl | rfl | rfl | rfl | rfl | rfl | rfl | rfl | rfl
  · exact sub_uc (StableHlo.reshape_bufs_sub ..)
  · exact sub_uc (StableHlo.nullary_bufs_sub ..)
  · exact sub_uc (StableHlo.binary_bufs_sub ..)
  · exact sub_uc (StableHlo.binary_bufs_sub ..)
  · exact sub_uc (StableHlo.unary_bufs_sub ..)
  · exact sub_uc (StableHlo.nullary_bufs_sub ..)
  · exact sub_uc (StableHlo.binary_bufs_sub ..)
  · exact sub_uc (StableHlo.unary_bufs_sub ..)
  · exact sub_uc (StableHlo.binary_bufs_sub ..)

theorem ops1_fresh : ∀ op ∈ (ops1 : List (HloOp τ sig (Elt F))), op.fresh = ∅ := by
  intro op h
  simp only [List.mem_cons, List.not_mem_nil, _root_.or_false] at h
  rcases h with rfl | rfl | rfl | rfl | rfl | rfl | rfl | rfl | rfl | rfl | rfl | rfl | rfl <;> rfl
theorem ops2_fresh : ∀ op ∈ (ops2 : List (HloOp τ sig (Elt F))), op.fresh = ∅ := by
  intro op h
  simp only [List.mem_cons, List.not_mem_nil, _root_.or_false] at h
  rcases h with rfl | rfl | rfl | rfl | rfl | rfl <;> rfl
theorem ops3_fresh : ∀ op ∈ (ops3 : List (HloOp τ sig (Elt F))), op.fresh = ∅ := by
  intro op h
  simp only [List.mem_cons, List.not_mem_nil, _root_.or_false] at h
  rcases h with rfl | rfl | rfl | rfl | rfl | rfl | rfl | rfl | rfl <;> rfl

section Run
variable (m : (ℓ : Loc nD τ sig) → Buf (Elt F) ℓ) (ρ : Dev nD → PrngReg)

/-! ## What the buffers hold, stage by stage -/

/-- At launch. -/
abbrev W0 (d : Dev nD) : Valuation τ sig (Elt F) := fun b => m (d, b)
/-- Before the TensorCore call. -/
abbrev W1 (d : Dev nD) : Valuation τ sig (Elt F) := after ops1 (W0 m d)
/-- The same, at the TensorCore's references. -/
abbrev V1 (d : Dev nD) (b : Ref sig .tc) : Buf (Elt F) ((d : Thread nD τ).loc b) := W1 m d b
/-- After the TensorCore call. -/
def W2 (d : Dev nD) : Valuation τ sig (Elt F) :=
  Function.update (Function.update (W1 m d) (Proc.devRef .tc main_v12_0) (fun _ => acc1 (V1 m) d 27 : Vec F S1x1 .f32))
    (Proc.devRef .tc main_v12_1) (fun _ => acc2 (V1 m) d 27 : Vec F S1x1 .f32)
abbrev V2 (d : Dev nD) (b : Ref sig .tc) : Buf (Elt F) ((d : Thread nD τ).loc b) := W2 m d b
/-- Before the SparseCore call. -/
abbrev W3 (d : Dev nD) : Valuation τ sig (Elt F) := after ops2 (W2 m d)

/-- The mask's words: what the scatter leaves. -/
theorem W3_v17 (d : Dev nD) : W3 m d main_v17 = (Host.scatter scatter_S5632_S0_S5632_0_n_n_0 (fun _ b => b) (broadcastInDim S5632 ![] bcast_S_S5632 (constantI S_ 32 0#32))
    (W2 m d main_c) (extui 32 (shapeCast S5632 (extractStridedSlice S88x64 ![108, 0] (W2 m d main_v8 : Vec F S196x64 .i1) slices_S196x64_S88x64_108_0) shapeCasts_S88x64_S5632) natLt_1_32) : Vec F S5632 .i32) := by
  after_results
  rfl

theorem W3_v17_01 (d : Dev nD) (y : S5632.Idx) : (W3 m d main_v17 : Vec F S5632 .i32) y = 0#32 ∨ (W3 m d main_v17 : Vec F S5632 .i32) y = 1#32 := by
  rw [W3_v17]
  refine Routing.scatter_forall _ _ (fun v : BitVec 32 => v = 0#32 ∨ v = 1#32) (fun _ _ _ h => h) _ _ _ (fun _ => .inl rfl) (fun j => ?_) y
  exact (show ∀ b : BitVec 1, b.setWidth 32 = 0#32 ∨ b.setWidth 32 = 1#32 by decide) _

/-- What the SparseCore call reads, of the buffers' contents. -/
def insOf (W : Valuation τ sig (Elt F)) (h : ∀ y : S5632.Idx, (W main_v17 : Vec F S5632 .i32) y = 0#32 ∨ (W main_v17 : Vec F S5632 .i32) y = 1#32) : Ins F where
  mw := W main_v17
  gp := W main_v4
  gt := W main_v7
  o0 := W main_v18
  h01 := h

theorem callPts_insOf (W : Valuation τ sig (Elt F)) (h) (d : Dev nD) (o : Vec F S32x16 .f32) : (callPts (insOf W h) d o : sProp 𝕄)
    = iprop((mLoc d ↦{fullShare} (W main_v17 : Vec F S5632 .i32)) ∗ (pLoc d ↦{fullShare} (W main_v4 : Vec F S401408x128 .f32))
        ∗ (tLoc d ↦{fullShare} (W main_v7 : Vec F S401408x128 .f32)) ∗ (oLoc d ↦{fullShare} o)) := rfl

/-- What the SparseCore call reads. -/
def ins (d : Dev nD) : Ins F := insOf (W3 m d) (W3_v17_01 m d)

theorem insOf_o0 (W : Valuation τ sig (Elt F)) (h) : (insOf W h).o0 = (W main_v18 : Vec F S32x16 .f32) := rfl
theorem ins_o0 (d : Dev nD) : (ins m d).o0 = (W3 m d main_v18 : Vec F S32x16 .f32) := by
  unfold ins
  exact insOf_o0 (W3 m d) (W3_v17_01 m d)

theorem callPts_ins (d : Dev nD) (o : Vec F S32x16 .f32) : (callPts (ins m d) d o : sProp 𝕄)
    = iprop((mLoc d ↦{fullShare} (W3 m d main_v17 : Vec F S5632 .i32)) ∗ (pLoc d ↦{fullShare} (W3 m d main_v4 : Vec F S401408x128 .f32))
        ∗ (tLoc d ↦{fullShare} (W3 m d main_v7 : Vec F S401408x128 .f32)) ∗ (oLoc d ↦{fullShare} o)) := by
  unfold ins
  exact callPts_insOf (W3 m d) (W3_v17_01 m d) d o

/-- After the SparseCore call. -/
def W4 (d : Dev nD) : Valuation τ sig (Elt F) := Function.update (W3 m d) (Proc.devRef .tc main_v18) (out (ins m d))
/-- At the end. -/
abbrev W5 (d : Dev nD) : Valuation τ sig (Elt F) := after ops3 (W4 m d)

/-! ## The launch's ghost state -/

/-- The launch's ghost element. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What a TensorCore is dealt for its region. -/
def G (d : Dev nD) : sProp 𝕄 := iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (ins m)).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, Hr⟩
  ihave Hr := (own_pair_emb (embR : Emb (UP × Counters) 𝕄)
    (initOf (Pipeline.cells (nD := nD) (τ := τ) cfgs cellOf_inj) (Pipeline.launchToks (nD := nD) (τ := τ) cfgs cellOf_inj)) (1 : Counters)) $$ Hr
  icases Hr with ⟨HP, -⟩
  ihave HP := (show (BI.own (((Emb.inl : Emb UP (UP × Counters)).trans (embR : Emb (UP × Counters) 𝕄))
      (initOf (Pipeline.cells (nD := nD) (τ := τ) cfgs cellOf_inj) (Pipeline.launchToks (nD := nD) (τ := τ) cfgs cellOf_inj))) : sProp 𝕄)
      ⊢ BI.own ((EP : Emb UP 𝕄) (initOf (Pipeline.cells (nD := nD) (τ := τ) cfgs cellOf_inj) (Pipeline.launchToks (nD := nD) (τ := τ) cfgs cellOf_inj)))
      from .rfl) $$ HP
  imod (Pipeline.fund_ghost (nD := nD) (τ := τ) cfgs (EP : Emb UP 𝕄) cellOf_inj) $$ HP with ⟨Hg, Ht⟩
  imodintro
  isplitl [HH]; · iexact HH
  isplitr []
  · iapply (show iprop((bigSep Finset.univ fun c : Dev nD => bigSep Finset.univ fun p => Pipeline.cellsGhost cfgs (EP : Emb UP 𝕄) p c)
        ∗ (bigSep Finset.univ fun c : Dev nD => bigSep Finset.univ fun p => (Pipeline.toksInit cfgs (EP : Emb UP 𝕄) p c : sProp 𝕄)))
        ⊢ (bigSep Finset.univ fun d : Dev nD => G (F := F) d) from by
      rw [bigSep_univ_of_subsingleton (0 : Dev nD), bigSep_univ_of_subsingleton (0 : Dev nD), bigSep_univ_of_subsingleton (0 : Dev nD),
        bigSep_univ_of_subsingleton (0 : Fin 1), bigSep_univ_of_subsingleton (0 : Fin 1)]
      exact .rfl)
    isplitl [Hg] <;> iassumption
  rw [show (bigSep Finset.univ fun thr : Thread nD τ => bigSep Finset.univ fun q : Fin 1 => (P (ins m)).x q thr) = bigSep Finset.univ fun _ => iprop(emp) from
    bigSep_congr fun _ _ => bigSep_univ_of_subsingleton (0 : Fin 1), bigSep_emp']
  iempintro

/-! ## @main on the TensorCore -/

theorem unscoped_held (d : Dev nD) (W : Valuation τ sig (Elt F)) :
    (unscopedBufs d (fun b => W b) : sProp 𝕄) = held (d : Thread nD τ) ucRefs W := by
  unfold unscopedBufs held ucRefs StableHlo.tcRefs
  rw [Finset.filter_map, BI.bigSep_map]
  rfl

/-- The buffers the SparseCore call takes no part in. -/
def restRefs : Finset (DevRef τ sig) :=
  ucRefs \ {Proc.devRef .tc main_v17, Proc.devRef .tc main_v4, Proc.devRef .tc main_v7, Proc.devRef .tc main_v18}
theorem ucRefs_eq : ucRefs = insert (Proc.devRef .tc main_v17) (insert (Proc.devRef .tc main_v4) (insert (Proc.devRef .tc main_v7) (insert (Proc.devRef .tc main_v18) restRefs))) := by
  decide +kernel
theorem held_call (d : Dev nD) (W : Valuation τ sig (Elt F)) : (held (d : Thread nD τ) ucRefs W : sProp 𝕄)
    = iprop((mLoc d ↦{fullShare} W main_v17) ∗ (pLoc d ↦{fullShare} W main_v4) ∗ (tLoc d ↦{fullShare} W main_v7) ∗ (oLoc d ↦{fullShare} W main_v18)
        ∗ held (d : Thread nD τ) restRefs W) := by
  unfold held
  rw [ucRefs_eq, bigSep_insert (by decide +kernel), bigSep_insert (by decide +kernel), bigSep_insert (by decide +kernel), bigSep_insert (by decide +kernel)]
  rfl
theorem held_rest (d : Dev nD) (o : Vec F S32x16 .f32) (W : Valuation τ sig (Elt F)) :
    (held (d : Thread nD τ) restRefs (Function.update W (Proc.devRef .tc main_v18) o) : sProp 𝕄) = held (d : Thread nD τ) restRefs W := by
  unfold held
  refine bigSep_congr fun b hb => ?_
  rw [Function.update_of_ne]
  rintro rfl
  exact absurd hb (by decide +kernel)

/-- The region, at @main's buffers. -/
def region : Pipeline.RegionSeg (pcfgs (F := F)) adm (pdats (V1 m)) none defs₀ 𝒱₀ (K (F := F)).L (K (F := F)).lev 0 :=
  reg (V1 m) (V2 m)
    (fun c => by show W2 m c _ = _; unfold W2; rw [Function.update_of_ne (by decide), Function.update_self])
    (fun c => by show W2 m c _ = _; unfold W2; rw [Function.update_self])
    (fun c b h0 h1 => by
      show W2 m c _ = _
      unfold W2
      rw [Function.update_of_ne (fun h => h1 ((Proc.devRef_injective _) h)), Function.update_of_ne (fun h => h0 ((Proc.devRef_injective _) h))])

theorem region_pre (d : Dev nD) : (region m).pre d = iprop(unscopedBufs d (V1 m d) ∗ tcOwes F d) := rfl
theorem region_post (d : Dev nD) : (region m).post d = iprop(unscopedBufs d (V2 m d) ∗ tcOwes F d) := rfl

/-- What a TensorCore holds before the SparseCore call beside what it owes. -/
def tcRest (F : FTy → Type) [FloatOps F] (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))
theorem tcSt_zero (d : Dev nD) : ((K (F := F)).tcSt EH d 0 : sProp 𝕄) = iprop(tcOwes F d ∗ tcRest F d) := by
  unfold SparseCore.Cfg.tcSt tcOwes tcRest
  rw [show 8 * SparseCore.Cfg.Blocks.fst 1 1 0 = 0 from rfl]

/-- The end of @main, as a proposition about the memory. -/
abbrev FIN (d : Dev nD) : sProp 𝕄 := held (d : Thread nD τ) ucRefs (W5 m d)

set_option backward.isDefEq.respectTransparency.types false in
set_option maxHeartbeats 4000000 in
theorem hmain [∀ e, Nonempty (Elt F e)] (κ : GSem nD τ sig → ℕ) (d : Dev nD) :
    iprop((K (F := F)).ctx EH (P (ins m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, show (unscopedBufs d (fun b => m ((SparseCore.T d).loc b)) : sProp 𝕄) = held (d : Thread nD τ) ucRefs (W0 m d) from unscoped_held d (W0 m d)]
  iintro ⟨#Hctx, Hst, ⟨Hb, Hh, Hts, -⟩, Hg, Htk⟩
  iapply (StableHlo.wp_seq 𝒱 none Set.univ d ucRefs _ ops1 ops1_sub ops1_fresh (W0 m d)) $$ [Hb Hh]
  · isplitl [Hb] <;> iassumption
  iintro ⟨Hb, Hh⟩
  rw [wp_bind]
  iapply ((K (F := F)).wp_liftProg (D (F := F)) 𝒱 (SparseCore.T d) Set.univ none tcCall)
  ihave Hst := (Entails.of_eq (tcSt_zero (F := F) d)) $$ Hst
  icases Hst with ⟨HO, Hst⟩
  iapply (Pipeline.RegionSeg.wp (pcfgs (F := F)) adm (pdats (V1 m)) none cellOf_inj EP defs₀ 𝒱₀ (K (F := F)).L (K (F := F)).lev (region m) d none (by intro u hu; cases hu))
  isplitr [Hb Hh HO Hg Htk]
  rotate_left
  · isplitl [Hb]; · iexact Hb
    isplitl [Hh HO]
    · rw [region_pre]
      isplitl [Hh]
      · iapply (Entails.of_eq (unscoped_held d (W1 m d)).symm) $$ Hh
      iexact HO
    isplitr; · iapply (K (F := F)).ctx_levAts κ $$ Hctx
    isplitl [Hg] <;> iassumption
  rw [region_post]
  iintro ⟨Hb, Hh, HO⟩
  rw [wp_ret]
  imodintro
  ihave Hh := (Entails.of_eq (unscoped_held d (W2 m d))) $$ Hh
  iapply (StableHlo.wp_seq 𝒱 none Set.univ d ucRefs _ ops2 ops2_sub ops2_fresh (W2 m d)) $$ [Hb Hh]
  · isplitl [Hb] <;> iassumption
  iintro ⟨Hb, Hh⟩
  rw [wp_bind]
  ihave Hh := (Entails.of_eq (held_call d (W3 m d))) $$ Hh
  icases Hh with ⟨Hm, Hp, Ht, Ho, Hr⟩
  iapply ((K (F := F)).wp_run (D (F := F)) 𝒱 (EH := EH) (P := P (ins m)) κ d 0)
  isplitr; · iexact Hctx
  isplitl [HO Hst]
  · iapply (show iprop(tcOwes F d ∗ tcRest F d) ⊢ ((K (F := F)).tcSt EH d (0 : Fin 1).val : sProp 𝕄) from Entails.of_eq (tcSt_zero (F := F) d).symm)
    isplitl [HO] <;> iassumption
  isplitl [Hm Hp Ht Ho]
  · rw [st0_eq, callPts_ins, ins_o0]
    isplitl [Hm]; · iexact Hm
    isplitl [Hp]; · iexact Hp
    isplitl [Ht]; · iexact Ht
    iexact Ho
  iintro ⟨Hst, Hdn⟩
  ihave Hdn := (Entails.of_eq (dn0_eq (ins m) d)) $$ Hdn
  ihave Hh := (show iprop(callPts (ins m d) d (out (ins m d)) ∗ held (d : Thread nD τ) restRefs (W3 m d)) ⊢ (held (d : Thread nD τ) ucRefs (W4 m d) : sProp 𝕄) from by
    rw [held_call, W4, held_rest, Function.update_self, Function.update_of_ne (by decide), Function.update_of_ne (by decide), Function.update_of_ne (by decide)]
    rw [callPts_ins]
    iintro ⟨⟨Hm, Hp, Ht, Ho⟩, Hr⟩
    isplitl [Hm]; · iexact Hm
    isplitl [Hp]; · iexact Hp
    isplitl [Ht]; · iexact Ht
    isplitl [Ho] <;> iassumption) $$ [Hdn Hr]
  · isplitl [Hdn] <;> iassumption
  iapply (StableHlo.wp_seq 𝒱 none Set.univ d ucRefs _ ops3 ops3_sub ops3_fresh (W4 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The end -/

def fq (d : Dev nD) (s' : Phys nD τ sig (Elt F)) : Prop := ∀ b ∈ ucRefs, s'.mem.mem (d, b) = W5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI]; · iexact HSI
    iexact H
  ipureintro
  exact h

/-- What a run ends in. -/
def QC : PUnit × MemSt nD τ sig (Elt F) → Prop := fun r => (∀ c : Dev nD, ∀ b ∈ ucRefs, r.2.mem (c, b) = W5 m c b) ∧ r.2.sem = fun _ => 0

/-- Every run from `m` ends, with every buffer no call scopes at its last stage's contents, and every counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) facts v₀
    (fun q hq => match q with | 0 => nomatch hq)
    (fun q _ => match q with | 0 => tileObl (ins m))
    (fun q _ => match q with | 0 => SparseCore.Cfg.VecSplit.of_plain (vecSplit (ins m)))
    m ρ main (fun d => G d) (FIN m) (u₀ (F := F)) (sep_elim_left.trans (hu₀ m)) (hmain m ρ) (fq m) (hfin m) (QC m) (fun _ h hz => ⟨h, hz⟩)

/-! ## The arguments end as they began -/

theorem W5_arg0 (d : Dev nD) : W5 m d main_arg0 = m (d, Proc.devRef .tc main_arg0) := by
  unfold W5
  after_results
  unfold W4
  rw [Function.update_of_ne (by decide)]
  unfold W3
  after_results
  unfold W2
  rw [Function.update_of_ne (by decide), Function.update_of_ne (by decide)]
  unfold W1
  after_results
theorem W5_arg1 (d : Dev nD) : W5 m d main_arg1 = m (d, Proc.devRef .tc main_arg1) := by
  unfold W5
  after_results
  unfold W4
  rw [Function.update_of_ne (by decide)]
  unfold W3
  after_results
  unfold W2
  rw [Function.update_of_ne (by decide), Function.update_of_ne (by decide)]
  unfold W1
  after_results
theorem W5_arg2 (d : Dev nD) : W5 m d main_arg2 = m (d, Proc.devRef .tc main_arg2) := by
  unfold W5
  after_results
  unfold W4
  rw [Function.update_of_ne (by decide)]
  unfold W3
  after_results
  unfold W2
  rw [Function.update_of_ne (by decide), Function.update_of_ne (by decide)]
  unfold W1
  after_results

end Run
end Cert.Proof
end
-- ==== Proof.Same.lean ====
/-
  The kernel as printed at the machine's numbers and the kernel as printed at the ideal numbers are one text under
  two namespaces. Here the two texts are shown equal, piece by piece, over any numbers, so that a run shown for the
  one is a run of the other.
-/
module
public import proofs.«01_k».proof.Defs
public import proofs.«01_k».proof.Proof.Gen.Kernel
public import proofs.«01_k».proof.Proof.Gen.KernelIdeal
@[expose] public section
noncomputable section
namespace Cert.Proof
open Idealize.ShloMosaic
variable {F : FTy → Type} [FloatOps F]
theorem same_chk56 : @Cert.Kernel.k1_chk56 = @Cert.KernelIdeal.k1_chk56 := rfl

theorem same_dec56 : @Cert.Kernel.k1_chk56.dec = @Cert.KernelIdeal.k1_chk56.dec := by
  funext a b c d e f g h i j k
  exact Subsingleton.elim _ _

/-- The piece that owes the lists' side condition: its decision procedure is exchanged before the texts are read. -/
theorem same_part230 : Cert.Kernel.k1_part230 (F := F) = Cert.KernelIdeal.k1_part230 (F := F) := by
  unfold Cert.Kernel.k1_part230
  rw [same_dec56]
  rfl

set_option maxHeartbeats 2000000 in
/-- The SparseCore kernel's body. -/
theorem same_body1 : Cert.Kernel.cc1__sc_body (F := F) = Cert.KernelIdeal.cc1__sc_body (F := F) := by
  unfold Cert.Kernel.cc1__sc_body
  rw [same_part230]
  rfl

/-- The TensorCore kernel's body. -/
theorem same_body0 : Cert.Kernel.cc0__tc_body (F := F) = Cert.KernelIdeal.cc0__tc_body (F := F) := rfl

set_option maxHeartbeats 8000000 in
/-- The two kernels' body table. -/
theorem same_defs₀ : Cert.Kernel.defs₀ (F := F) = Cert.KernelIdeal.defs₀ (F := F) := by
  unfold Cert.Kernel.defs₀
  rw [same_body1]
  funext p l a
  match p, l, a with
  | .tc, 0, (t, s) => rfl
  | .tc, 1, a => rfl
  | .scScalar c, 0, a => rfl
  | .scScalar c, 1, a => rfl
  | .scVector c s, 0, a => rfl
  | .scVector c s, 1, a => rfl

theorem same_defs : Cert.Kernel.defs (F := F) = Cert.KernelIdeal.defs (F := F) := by
  unfold Cert.Kernel.defs
  rw [same_defs₀]
  rfl

set_option maxHeartbeats 8000000 in
/-- The host program. -/
theorem same_main : Cert.Kernel.main (F := F) = Cert.KernelIdeal.main (F := F) := rfl

theorem same_threads : Cert.Kernel.threads (F := F) = Cert.KernelIdeal.threads (F := F) := by
  show Cert.Kernel.sc.threads Cert.Kernel.main = _
  rw [same_main]
  rfl

end Cert.Proof

end
-- ==== Proof.Frames.lean ====
/-
  The programs' frames.
-/
module

public import proofs.«01_k».proof.Defs
public import proofs.«01_k».proof.Proof.Main
public import proofs.«01_k».proof.Proof.Same
public import proofs.«01_k».proof.Proof.Gen.Kernel
public import proofs.«01_k».proof.Proof.Gen.Pre_domain
public import proofs.«01_k».proof.Proof.Gen.ReferenceIdeal.Run
public import Idealize.ShloMosaic.Lib.StableHlo.Run

@[expose] public section

noncomputable section

namespace Cert.Proof

open Idealize.ShloMosaic Idealize.ShloMosaic.TcCoe Idealize.SL.Sem

section Ends
open Cert.KernelIdeal
variable {F : FTy → Type} [FloatOps F] [∀ e, Nonempty (Elt F e)]

/-- Every run ends with the arguments as they began, every counter at zero, and the result at the last stage's. -/
theorem run_ends (m : (ℓ : Loc nD τ sig) → Buf (Elt F) ℓ) (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_v25) = W5 m c main_v25
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run Cert.KernelIdeal.defs _ _).mono (fun _ h => ⟨fun c =>
    ⟨h.1 c _ (show Proc.devRef .tc main_v25 ∈ ucRefs by decide +kernel),
      (h.1 c _ (show Proc.devRef .tc main_arg0 ∈ ucRefs by decide +kernel)).trans (W5_arg0 m c),
      (h.1 c _ (show Proc.devRef .tc main_arg1 ∈ ucRefs by decide +kernel)).trans (W5_arg1 m c),
      (h.1 c _ (show Proc.devRef .tc main_arg2 ∈ ucRefs by decide +kernel)).trans (W5_arg2 m c)⟩, h.2⟩) (run_main (F := F) m ρ)

end Ends

/-- The kernel's frame: its text is the text read at the ideal numbers. -/
theorem frame_kernel : Cert.quiescent_Kernel (hKernel := Cert.Kernel.Gen.facts) := fun m ρ _ => by
  show θ_run Cert.Kernel.defs Cert.Kernel.threads _ _
  rw [same_defs, same_threads]
  exact (θ_run Cert.KernelIdeal.defs _ _).mono (fun _ h => ⟨fun c => (h.1 c).2, h.2⟩) (run_ends (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_ends (F := Ideal) m ρ)
theorem frame_ideal_domain : Cert.quiescent_KernelIdeal_pre_domain (hKernelIdeal := Cert.KernelIdeal.Gen.facts) (hPre_domain := Cert.Pre_domain.Gen.facts) := fun m ρ _ =>
  (θ_run Cert.KernelIdeal.defs _ _).mono (fun _ h => ⟨fun c => (h.1 c).2, h.2⟩) (run_ends (F := Ideal) m ρ)
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_reference_domain : Cert.quiescent_ReferenceIdeal_pre_domain (hReferenceIdeal := Cert.ReferenceIdeal.Gen.facts) (hPre_domain := Cert.Pre_domain.Gen.facts) := fun m ρ _ =>
  frame_reference m ρ trivial

end Cert.Proof

end
-- ==== Proof.Tables.lean ====
/-
  The host's arrays at an index: the two tables, the mask's words, and the scatter of a full window.
-/
module

public import proofs.«01_k».proof.Proof.Tile
public import Idealize.ShloMosaic.Lib.Pointwise.Index
public import Idealize.ShloMosaic.Lib.Pointwise.Reshape
public import Idealize.ShloMosaic.Lib.Routing.OpsOrder

@[expose] public section

set_option maxRecDepth 4096

noncomputable section

namespace Cert.Proof

open Cert.KernelIdeal Cert.KernelIdeal.Gen
open Idealize.ShloMosaic

section
variable {α : Type}

/-- An argument's entry of batch `b`, token `n`, class `k`. -/
def at3 (x : S64x196x4096.Idx → α) (b n k : ℕ) : α :=
  x (ix3 (n0 := 64) (n1 := 196) (n2 := 4096) ⟨b % 64, Nat.mod_lt _ (by decide)⟩ ⟨n % 196, Nat.mod_lt _ (by decide)⟩ ⟨k % 4096, Nat.mod_lt _ (by decide)⟩)

/-- The mask's entry of batch `b`, token `n`. -/
def at2 (x : S64x196.Idx → α) (b n : ℕ) : α :=
  x (ix2 (n0 := 64) (n1 := 196) ⟨b % 64, Nat.mod_lt _ (by decide)⟩ ⟨n % 196, Nat.mod_lt _ (by decide)⟩)

/-- An argument with its tokens outermost. -/
def byTok (x : S64x196x4096.Idx → α) : S196x64x4096.Idx → α := transpose S196x64x4096 [1, 0, 2] x transposes_S64x196x4096_S196x64x4096_1_0_2

theorem byTok_at (x : S64x196x4096.Idx → α) (n : Fin 196) (b : Fin 64) (k : Fin 4096) : byTok x (ix3 n b k) = x (ix3 b n k) := by
  show x (transposes_S64x196x4096_S196x64x4096_1_0_2.src (ix3 n b k)) = _
  congr 1
  funext a
  match a with
  | 0 => rfl
  | 1 => rfl
  | 2 => rfl

/-- An argument as the table the SparseCore kernel gathers from. -/
def tab (x : S64x196x4096.Idx → α) : S401408x128.Idx → α :=
  shapeCast S401408x128 (transpose S196x8x32x8x128 [0, 1, 3, 2, 4] (shapeCast S196x8x8x32x128 (byTok x) shapeCasts_S196x64x4096_S196x8x8x32x128)
    transposes_S196x8x8x32x128_S196x8x32x8x128_0_1_3_2_4) shapeCasts_S196x8x32x8x128_S401408x128

theorem tab_at (x : S64x196x4096.Idx → α) (R c : ℕ) (hR : R < 401408) (hc : c < 128) :
    tab x (ix2 (n0 := 401408) (n1 := 128) ⟨R, hR⟩ ⟨c, hc⟩) = at3 x (R / 256 % 8 * 8 + R % 8) (R / 2048) (R / 8 % 32 * 128 + c) := by
  have e1 : Shape.reshapeEquiv shapeCasts_S196x8x32x8x128_S401408x128 (ix2 (n0 := 401408) (n1 := 128) ⟨R, hR⟩ ⟨c, hc⟩)
      = ix5 (n0 := 196) (n1 := 8) (n2 := 32) (n3 := 8) (n4 := 128) ⟨R / 2048, by omega⟩ ⟨R / 256 % 8, by omega⟩ ⟨R / 8 % 32, by omega⟩ ⟨R % 8, by omega⟩ ⟨c, hc⟩ :=
    Shape.reshapeEquiv_eq_of_vals _ _ _ _ _ (rowMajor_val5 _ 262144 32768 1024 128 rfl rfl rfl rfl) (rowMajor_val2 _ 128 rfl)
      (by show R / 2048 * 262144 + R / 256 % 8 * 32768 + R / 8 % 32 * 1024 + R % 8 * 128 + c = R * 128 + c; omega)
  have e2 : transposes_S196x8x8x32x128_S196x8x32x8x128_0_1_3_2_4.src
        (ix5 (n0 := 196) (n1 := 8) (n2 := 32) (n3 := 8) (n4 := 128) ⟨R / 2048, by omega⟩ ⟨R / 256 % 8, by omega⟩ ⟨R / 8 % 32, by omega⟩ ⟨R % 8, by omega⟩ ⟨c, hc⟩)
      = ix5 (n0 := 196) (n1 := 8) (n2 := 8) (n3 := 32) (n4 := 128) ⟨R / 2048, by omega⟩ ⟨R / 256 % 8, by omega⟩ ⟨R % 8, by omega⟩ ⟨R / 8 % 32, by omega⟩ ⟨c, hc⟩ := by
    funext a
    match a with
    | 0 => rfl
    | 1 => rfl
    | 2 => rfl
    | 3 => rfl
    | 4 => rfl
  have e3 : Shape.reshapeEquiv shapeCasts_S196x64x4096_S196x8x8x32x128
        (ix5 (n0 := 196) (n1 := 8) (n2 := 8) (n3 := 32) (n4 := 128) ⟨R / 2048, by omega⟩ ⟨R / 256 % 8, by omega⟩ ⟨R % 8, by omega⟩ ⟨R / 8 % 32, by omega⟩ ⟨c, hc⟩)
      = ix3 (n0 := 196) (n1 := 64) (n2 := 4096) ⟨R / 2048, by omega⟩ ⟨R / 256 % 8 * 8 + R % 8, by omega⟩ ⟨R / 8 % 32 * 128 + c, by omega⟩ :=
    Shape.reshapeEquiv_eq_of_vals _ _ _ _ _ (rowMajor_val3 _ 262144 4096 rfl rfl) (rowMajor_val5 _ 262144 32768 4096 128 rfl rfl rfl rfl)
      (by show R / 2048 * 262144 + (R / 256 % 8 * 8 + R % 8) * 4096 + (R / 8 % 32 * 128 + c) = R / 2048 * 262144 + R / 256 % 8 * 32768 + R % 8 * 4096 + R / 8 % 32 * 128 + c; omega)
  show byTok x (Shape.reshapeEquiv shapeCasts_S196x64x4096_S196x8x8x32x128 (transposes_S196x8x8x32x128_S196x8x32x8x128_0_1_3_2_4.src (Shape.reshapeEquiv shapeCasts_S196x8x32x8x128_S401408x128 _))) = _
  rw [e1, e2, e3, byTok_at]
  unfold at3
  congr 1
  rw [ix3_inj]
  exact ⟨Fin.ext (Nat.mod_eq_of_lt (by omega)).symm, Fin.ext (Nat.mod_eq_of_lt (by omega)).symm, Fin.ext (Nat.mod_eq_of_lt (by omega)).symm⟩

/-- The mask with its tokens outermost. -/
def byTok2 (x : S64x196.Idx → α) : S196x64.Idx → α := transpose S196x64 [1, 0] x transposes_S64x196_S196x64_1_0

theorem byTok2_at (x : S64x196.Idx → α) (n : Fin 196) (b : Fin 64) : byTok2 x (ix2 n b) = x (ix2 b n) := by
  show x (transposes_S64x196_S196x64_1_0.src (ix2 n b)) = _
  congr 1
  funext a
  match a with
  | 0 => rfl
  | 1 => rfl

theorem late_at (x : S64x196.Idx → α) (j : ℕ) (hj : j < 5632) :
    shapeCast S5632 (extractStridedSlice S88x64 ![108, 0] (byTok2 x) slices_S196x64_S88x64_108_0) shapeCasts_S88x64_S5632 (atM j hj) = at2 x (j % 64) (108 + j / 64) := by
  have e1 : Shape.reshapeEquiv shapeCasts_S88x64_S5632 (atM j hj) = ix2 (n0 := 88) (n1 := 64) ⟨j / 64, by omega⟩ ⟨j % 64, by omega⟩ :=
    Shape.reshapeEquiv_eq_of_vals _ _ _ _ _ (rowMajor_val2 _ 64 rfl) (rowMajor_val1 _) (by show j / 64 * 64 + j % 64 = j; omega)
  show extractStridedSlice S88x64 ![108, 0] (byTok2 x) slices_S196x64_S88x64_108_0 (Shape.reshapeEquiv shapeCasts_S88x64_S5632 (atM j hj)) = _
  rw [e1]
  have e2 : extractStridedSlice S88x64 ![108, 0] (byTok2 x) slices_S196x64_S88x64_108_0 (ix2 (n0 := 88) (n1 := 64) ⟨j / 64, by omega⟩ ⟨j % 64, by omega⟩)
      = byTok2 x (ix2 (n0 := 196) (n1 := 64) ⟨108 + j / 64, by omega⟩ ⟨j % 64, by omega⟩) := by
    show byTok2 x _ = byTok2 x _
    congr 1
    funext a
    match a with
    | 0 => exact Fin.ext (by simp; try omega)
    | 1 => exact Fin.ext (by simp; try omega)
  rw [e2, byTok2_at]
  unfold at2
  congr 1
  rw [ix2_inj]
  exact ⟨Fin.ext (by simp; try omega), Fin.ext (by simp; try omega)⟩

/-- A scatter of one window as large as what it is written into leaves the window. -/
theorem scatter_full (x : S5632.Idx → α) (idx : IVec S0 32) (u : S5632.Idx → α) :
    Host.scatter scatter_S5632_S0_S5632_0_n_n_0 (fun _ b => b) x idx u = u := by
  have hr : ∀ j : S5632.Idx, scatter_S5632_S0_S5632_0_n_n_0.resultIdx? j idx = some j := by
    intro j
    have hs : ∀ a, scatter_S5632_S0_S5632_0_n_n_0.start j idx a = 0 := fun a => dif_neg (by show ¬ a ∈ ([] : List (Fin 1)); simp)
    have hw : ∀ a, scatter_S5632_S0_S5632_0_n_n_0.window j a = (j a).val := fun a => match a with | 0 => rfl
    have hlt : ∀ a, (j a).val < S5632.size a := fun a => (j a).isLt
    unfold ScatterDims.resultIdx?
    rw [dif_pos (fun a => by rw [hs, hw]; have := hlt a; omega)]
    congr 1
    funext a
    apply Fin.ext
    show (scatter_S5632_S0_S5632_0_n_n_0.start j idx a + scatter_S5632_S0_S5632_0_n_n_0.window j a).toNat = _
    rw [hs, hw]; omega
  funext i
  rw [← Routing.scatterIn_finRange, Routing.scatterIn_at]
  have key : ∀ (L : List (Fin S5632.numel)) (a : α), (a = u i ∨ ∃ n ∈ L, S5632.rowMajor.symm n = i) →
      L.foldl (fun a n => if scatter_S5632_S0_S5632_0_n_n_0.resultIdx? (S5632.rowMajor.symm n) idx = some i then u (S5632.rowMajor.symm n) else a) a = u i := by
    intro L
    induction L with
    | nil => rintro a (h | ⟨n, h, _⟩)
             · exact h
             · cases h
    | cons n L ih =>
      intro a h
      rw [List.foldl_cons]
      apply ih
      rw [hr]
      by_cases hn : S5632.rowMajor.symm n = i
      · left; rw [if_pos (by rw [hn]), hn]
      · rw [if_neg (fun e => hn (Option.some.inj e))]
        rcases h with h | ⟨n', h', e⟩
        · exact .inl h
        · rcases List.mem_cons.1 h' with rfl | h'
          · exact absurd e hn
          · exact .inr ⟨n', h', e⟩
  exact key _ _ (.inr ⟨S5632.rowMajor i, List.mem_finRange _, Equiv.symm_apply_apply _ _⟩)

end

end Cert.Proof

end
-- ==== Proof.Sums.lean ====
/-
  Sums regrouped: the loops' orders of adding are sums over the tokens and their lanes.
-/
module

public import proofs.«01_k».proof.Proof.Words
public import proofs.«01_k».proof.Proof.Units
public import Mathlib.Data.EReal.Operations
public import Mathlib.Algebra.BigOperators.Intervals

@[expose] public section

noncomputable section

namespace Cert.Proof

open Finset

section
variable {M : Type} [AddCommMonoid M]

/-- A range of `a * b` is `a` ranges of `b`. -/
theorem sum_range_mul (f : ℕ → M) (a b : ℕ) : ∑ i ∈ range (a * b), f i = ∑ i ∈ range a, ∑ j ∈ range b, f (i * b + j) := by
  induction a with
  | zero => simp
  | succ a ih => rw [Nat.succ_mul, sum_range_add, ih, sum_range_succ]

/-- The masked entries in order are the masked entries. -/
theorem sum_nth (mk : ℕ → Prop) [DecidablePred mk] (f : ℕ → M) (n : ℕ) (hn : n ≤ 176) :
    ∑ p ∈ range (Nat.count mk n), f (nthM mk p) = ∑ i ∈ range n, if mk i then f i else 0 := by
  induction n with
  | zero => simp
  | succ n ih =>
    rw [Nat.count_succ, sum_range_succ, ← ih (by omega)]
    by_cases h : mk n
    · rw [if_pos h, if_pos h, sum_range_succ]
      congr 2
      exact findM_count mk h 176 (by omega)
    · rw [if_neg h, if_neg h]; simp

/-- Sixteen places a group, the last group cut short. -/
theorem sum_groups (f : ℕ → M) (n : ℕ) :
    ∑ g ∈ range ((n + 15) / 16), ∑ t ∈ range (min (n - 16 * g) 16), f (16 * g + t) = ∑ p ∈ range n, f p := by
  have key : ∀ G, 16 * G ≤ n + 15 → ∑ g ∈ range G, ∑ t ∈ range (min (n - 16 * g) 16), f (16 * g + t) = ∑ p ∈ range (min (16 * G) n), f p := by
    intro G
    induction G with
    | zero => intro _; simp
    | succ G ih =>
      intro h
      rw [sum_range_succ, ih (by omega)]
      have e1 : min (16 * G) n = 16 * G := by omega
      have e2 : min (16 * (G + 1)) n = 16 * G + min (n - 16 * G) 16 := by omega
      rw [e1, e2, sum_range_add]
  rw [key _ (by omega)]
  congr 2
  omega

/-- The units of a subcore, four to a group of sixteen tokens, eight rows of each token to a unit. -/
theorem sum_units (f : ℕ → ℕ → M) (n : ℕ) :
    ∑ u ∈ range (unitsN n), ∑ t ∈ range (validN n u), ∑ r ∈ range 8, f (16 * (u / 4) + t) (u % 4 * 8 + r)
      = ∑ p ∈ range n, ∑ k ∈ range 32, f p k := by
  have e : unitsN n = (n + 15) / 16 * 4 := Nat.mul_comm _ _
  rw [e, sum_range_mul, ← sum_groups (fun p => ∑ k ∈ range 32, f p k)]
  refine sum_congr rfl fun g _ => ?_
  have : ∀ q ∈ range 4, (∑ t ∈ range (validN n (g * 4 + q)), ∑ r ∈ range 8, f (16 * ((g * 4 + q) / 4) + t) ((g * 4 + q) % 4 * 8 + r))
      = ∑ t ∈ range (min (n - 16 * g) 16), ∑ r ∈ range 8, f (16 * g + t) (q * 8 + r) := by
    intro q hq
    have hq := mem_range.1 hq
    have h1 : (g * 4 + q) / 4 = g := by omega
    have h2 : (g * 4 + q) % 4 = q := by omega
    simp only [validN, h1, h2]
  rw [sum_congr rfl this, sum_comm]
  refine sum_congr rfl fun t _ => ?_
  exact (sum_range_mul (fun k => f (16 * g + t) k) 4 8).symm

end

/-- A negated sum of numbers none of which is `+∞`. -/
theorem neg_sum {ι : Type} (s : Finset ι) (f : ι → EReal) (h : ∀ i ∈ s, f i ≠ ⊤) : -(∑ i ∈ s, f i) = ∑ i ∈ s, -f i ∧ ∑ i ∈ s, f i ≠ ⊤ := by
  classical
  induction s using Finset.induction_on with
  | empty => simp
  | insert a s ha ih =>
    obtain ⟨h1, h2⟩ := ih fun i hi => h i (mem_insert_of_mem hi)
    have h3 := h a (mem_insert_self a s)
    rw [sum_insert ha, sum_insert ha, ← h1]
    exact ⟨EReal.neg_add (Or.inr h2) (Or.inl h3), EReal.add_ne_top h3 h2⟩

end Cert.Proof

end
-- ==== Proof.Lane.lean ====
/-
  What a lane of a subcore holds at the ideal numbers: the sum of its terms `y · log x`, whether or not one of them is
  `-∞`.
-/
module

public import proofs.«01_k».proof.Proof.Sums
public import proofs.«01_k».proof.Proof.Whole
public import Idealize.ShloMosaic.Lib.IdealHost
public import Idealize.ShloMosaic.Lib.Pointwise.ElementwiseCore

@[expose] public section

noncomputable section

namespace Cert.Proof

open Cert.KernelIdeal Cert.KernelIdeal.Gen
open Idealize.ShloMosaic Idealize.ShloMosaic.ValueIdx
open Finset

/-- The number the kernel divides each logarithm by and multiplies each lane's sum by. -/
def ln2 : EReal := Ideal.ofBits .f32 0x3F317218#32

theorem ln2_pos : ∃ r : ℝ, 0 < r ∧ ln2 = (r : EReal) := by
  refine ⟨(1 + 3240472 / 8388608) * 2 ^ (-1 : ℤ), by norm_num, ?_⟩
  unfold ln2
  simp [Ideal.ofBits, Ideal.ieee, -EReal.coe_mul]; norm_num

/-- A term: `y · log x`. -/
def tm (x y : EReal) : EReal := y * Ideal.log x

/-- The pairs a term is meant of: real numbers, the first positive, or zero under a positive second. -/
def Dom (x y : EReal) : Prop := x ≠ ⊤ ∧ x ≠ ⊥ ∧ y ≠ ⊤ ∧ y ≠ ⊥ ∧ (0 < x ∨ (x = 0 ∧ 0 < y))

theorem tm_zero {y : EReal} (h : 0 < y) : tm 0 y = ⊥ := by
  have : Ideal.log 0 = ⊥ := by
    show (if (0 : ℝ) ≤ 0 then (⊥ : EReal) else _) = ⊥
    exact if_pos le_rfl
  rw [tm, this]
  exact EReal.mul_bot_of_pos h

theorem tm_ne_top {x y : EReal} (h : Dom x y) : tm x y ≠ ⊤ := by
  obtain ⟨h1, h2, h3, h4, h5⟩ := h
  rcases h5 with h5 | ⟨rfl, h5⟩
  · lift x to ℝ using ⟨h1, h2⟩
    lift y to ℝ using ⟨h3, h4⟩
    have h5 : 0 < x := by exact_mod_cast h5
    have e : Ideal.log (x : EReal) = (Real.log x : EReal) := if_neg (not_le.2 h5)
    rw [tm, e, ← EReal.coe_mul]
    exact EReal.coe_ne_top _
  · rw [tm_zero h5]; exact bot_ne_top

theorem scaled (x y : EReal) : y * Ideal.div (Ideal.log x) ln2 * ln2 = tm x y := by
  obtain ⟨r, hr, e⟩ := ln2_pos
  have h0 : ln2 ≠ 0 := by rw [e]; exact_mod_cast hr.ne'
  have h1 : ln2⁻¹ * ln2 = 1 := by
    rw [e, ← EReal.coe_inv, ← EReal.coe_mul, inv_mul_cancel₀ hr.ne']; rfl
  rw [Ideal.div, if_neg h0, mul_assoc, mul_assoc, h1, mul_one, tm]

theorem add_scaled (a b : EReal) : (a + b) * ln2 = a * ln2 + b * ln2 := by
  obtain ⟨r, hr, e⟩ := ln2_pos
  refine EReal.right_distrib_of_nonneg_of_ne_top ?_ ?_ a b
  · rw [e]; exact_mod_cast hr.le
  · rw [e]; exact EReal.coe_ne_top r

/-- A zero mark's two values. -/
def Mark (z : BitVec 32) : Prop := z = 0#32 ∨ z = 2147483647#32

theorem mark_min {z w : BitVec 32} (hz : Mark z) (hw : Mark w) : Mark (IntOp.minsi z w) ∧ (IntOp.minsi z w = 0#32 ↔ z = 0#32 ∨ w = 0#32) := by
  rcases hz with rfl | rfl <;> rcases hw with rfl | rfl <;> simp [Mark, IntOp.minsi] <;> decide

/-- What lane `l` of the sums and marks stands for: the sum `S` once scaled; and a mark is zero only if `S` is `-∞`. -/
def Inv (l : S16.Idx) (S : EReal) : Acc Ideal → Prop :=
  fun (a0, a1, a2, a3, a4, a5, a6, a7, z0, z1, z2, z3, z4, z5, z6, z7) =>
    (a0 l + a1 l + a2 l + a3 l + a4 l + a5 l + a6 l + a7 l) * ln2 = S
    ∧ (Mark (z0 l) ∧ Mark (z1 l) ∧ Mark (z2 l) ∧ Mark (z3 l) ∧ Mark (z4 l) ∧ Mark (z5 l) ∧ Mark (z6 l) ∧ Mark (z7 l))
    ∧ ((z0 l = 0#32 ∨ z1 l = 0#32 ∨ z2 l = 0#32 ∨ z3 l = 0#32 ∨ z4 l = 0#32 ∨ z5 l = 0#32 ∨ z6 l = 0#32 ∨ z7 l = 0#32) → S = ⊥)

theorem inv_start (l : S16.Idx) : Inv l 0 (accZ (F := Ideal)) := by
  have e : ∀ x : EReal, x = Ideal.ofBits .f32 0x00000000#32 → x = 0 := fun x h => h.trans (by simp [Ideal.ofBits, Ideal.ieee])
  refine ⟨?_, ⟨.inr rfl, .inr rfl, .inr rfl, .inr rfl, .inr rfl, .inr rfl, .inr rfl, .inr rfl⟩, fun h => ?_⟩
  · rw [e (k1_pay2049 (F := Ideal) l) rfl, e (k1_pay2050 (F := Ideal) l) rfl, e (k1_pay2051 (F := Ideal) l) rfl, e (k1_pay2052 (F := Ideal) l) rfl,
      e (k1_pay2053 (F := Ideal) l) rfl, e (k1_pay2054 (F := Ideal) l) rfl, e (k1_pay2055 (F := Ideal) l) rfl, e (k1_pay2056 (F := Ideal) l) rfl]
    simp
  · exfalso
    have hne : ¬ ((2147483647#32 : BitVec 32) = 0#32) := by decide
    rcases h with h | h | h | h | h | h | h | h <;> exact hne h

theorem zUp_mark (z : IVec S16 32) (x : FVec Ideal S16 .f32) (l : S16.Idx) (h : Mark (z l)) :
    Mark (zUp (F := Ideal) z x l) ∧ (zUp (F := Ideal) z x l = 0#32 → z l = 0#32 ∨ x l = 0) := by
  have e0 : Ideal.ofBits .f32 0x00000000#32 = 0 := by simp [Ideal.ofBits, Ideal.ieee]
  by_cases hx : x l = 0
  · have e : zUp (F := Ideal) z x l = IntOp.minsi (z l) 0#32 := by
      show IntOp.minsi (z l) (if Ideal.cmp .oeq (x l) (Ideal.ofBits .f32 0x00000000#32) = 1#1 then 0#32 else 2147483647#32) = _
      rw [e0, hx]
      simp [Ideal.cmp]
    rw [e]
    exact ⟨(mark_min h (.inl rfl)).1, fun _ => .inr hx⟩
  · have e : zUp (F := Ideal) z x l = IntOp.minsi (z l) 2147483647#32 := by
      show IntOp.minsi (z l) (if Ideal.cmp .oeq (x l) (Ideal.ofBits .f32 0x00000000#32) = 1#1 then 0#32 else 2147483647#32) = _
      rw [e0]
      simp [Ideal.cmp, hx]
    rw [e]
    refine ⟨(mark_min h (.inr rfl)).1, fun h' => ?_⟩
    rcases (mark_min h (.inr rfl)).2.1 h' with h' | h'
    · exact .inl h'
    · exact absurd h' (by decide)

/-- The terms of lane `l` in row `r` of two gathered blocks. -/
def rowT (g h : Vec Ideal S128x128 .f32) (r : Fin 128) (l : S16.Idx) : EReal :=
  tm (blk g r 0 (by decide) l) (blk h r 0 (by decide) l) + tm (blk g r 16 (by decide) l) (blk h r 16 (by decide) l)
    + tm (blk g r 32 (by decide) l) (blk h r 32 (by decide) l) + tm (blk g r 48 (by decide) l) (blk h r 48 (by decide) l)
    + tm (blk g r 64 (by decide) l) (blk h r 64 (by decide) l) + tm (blk g r 80 (by decide) l) (blk h r 80 (by decide) l)
    + tm (blk g r 96 (by decide) l) (blk h r 96 (by decide) l) + tm (blk g r 112 (by decide) l) (blk h r 112 (by decide) l)

theorem inv_row (g h : Vec Ideal S128x128 .f32) (hD : ∀ x, Dom (g x) (h x)) (r : Fin 128) (l : S16.Idx) (S : EReal) (a : Acc Ideal) (ha : Inv l S a) :
    Inv l (S + rowT g h r l) (rowUp g h r a) := by
  obtain ⟨a0, a1, a2, a3, a4, a5, a6, a7, z0, z1, z2, z3, z4, z5, z6, z7⟩ := a
  obtain ⟨hs, ⟨m0, m1, m2, m3, m4, m5, m6, m7⟩, hz⟩ := ha
  have hb : ∀ n (hn : n + 16 ≤ 128), Dom (blk g r n hn l) (blk h r n hn l) := fun n hn => hD _
  have ht : ∀ n (hn : n + 16 ≤ 128), blk g r n hn l = 0 → tm (blk g r n hn l) (blk h r n hn l) = ⊥ := by
    intro n hn h0
    rcases (hb n hn).2.2.2.2 with h5 | ⟨_, h5⟩
    · exact absurd h0 h5.ne'
    · rw [h0]; exact tm_zero h5
  refine ⟨?_, ⟨(zUp_mark _ _ l m0).1, (zUp_mark _ _ l m1).1, (zUp_mark _ _ l m2).1, (zUp_mark _ _ l m3).1, (zUp_mark _ _ l m4).1, (zUp_mark _ _ l m5).1, (zUp_mark _ _ l m6).1, (zUp_mark _ _ l m7).1⟩, ?_⟩
  · have hu : ∀ (a x y : FVec Ideal S16 .f32), accUp (F := Ideal) a x y l = a l + y l * Ideal.div (Ideal.log (x l)) ln2 := fun _ _ _ => rfl
    simp only [hu]
    rw [← hs, rowT]
    simp only [← scaled, ← add_scaled]
    congr 1
    abel
  · intro h'
    have hor : S = ⊥ ∨ ∃ n, ∃ hn : n + 16 ≤ 128, (n = 0 ∨ n = 16 ∨ n = 32 ∨ n = 48 ∨ n = 64 ∨ n = 80 ∨ n = 96 ∨ n = 112) ∧ tm (blk g r n hn l) (blk h r n hn l) = ⊥ := by
      rcases h' with h' | h' | h' | h' | h' | h' | h' | h'
      · rcases (zUp_mark _ _ l m0).2 h' with q | q
        · exact .inl (hz (.inl q))
        · exact .inr ⟨0, by decide, by simp, ht _ _ q⟩
      · rcases (zUp_mark _ _ l m1).2 h' with q | q
        · exact .inl (hz (.inr (.inl q)))
        · exact .inr ⟨16, by decide, by simp, ht _ _ q⟩
      · rcases (zUp_mark _ _ l m2).2 h' with q | q
        · exact .inl (hz (.inr (.inr (.inl q))))
        · exact .inr ⟨32, by decide, by simp, ht _ _ q⟩
      · rcases (zUp_mark _ _ l m3).2 h' with q | q
        · exact .inl (hz (.inr (.inr (.inr (.inl q)))))
        · exact .inr ⟨48, by decide, by simp, ht _ _ q⟩
      · rcases (zUp_mark _ _ l m4).2 h' with q | q
        · exact .inl (hz (.inr (.inr (.inr (.inr (.inl q))))))
        · exact .inr ⟨64, by decide, by simp, ht _ _ q⟩
      · rcases (zUp_mark _ _ l m5).2 h' with q | q
        · exact .inl (hz (.inr (.inr (.inr (.inr (.inr (.inl q)))))))
        · exact .inr ⟨80, by decide, by simp, ht _ _ q⟩
      · rcases (zUp_mark _ _ l m6).2 h' with q | q
        · exact .inl (hz (.inr (.inr (.inr (.inr (.inr (.inr (.inl q))))))))
        · exact .inr ⟨96, by decide, by simp, ht _ _ q⟩
      · rcases (zUp_mark _ _ l m7).2 h' with q | q
        · exact .inl (hz (.inr (.inr (.inr (.inr (.inr (.inr (.inr (q)))))))))
        · exact .inr ⟨112, by decide, by simp, ht _ _ q⟩
    rcases hor with q | ⟨n, hn, hc, q⟩
    · rw [q, EReal.bot_add]
    · unfold rowT
      rcases hc with rfl | rfl | rfl | rfl | rfl | rfl | rfl | rfl <;> rw [q] <;> simp only [EReal.add_bot, EReal.bot_add]

theorem inv_tok (g h : Vec Ideal S128x128 .f32) (hD : ∀ x, Dom (g x) (h x)) (t : ℕ) (ht : t < 16) (l : S16.Idx) (S : EReal) (a : Acc Ideal) (ha : Inv l S a) :
    Inv l (S + ∑ r : Fin 8, rowT g h ⟨16 * r.val + t, by omega⟩ l) (tokUp g h t ht a) := by
  rw [Fin.sum_univ_eight]
  have := inv_row g h hD ⟨16 * ((7 : Fin 8)).val + t, by simp; omega⟩ l _ _ (inv_row g h hD ⟨16 * ((6 : Fin 8)).val + t, by simp; omega⟩ l _ _
    (inv_row g h hD ⟨16 * ((5 : Fin 8)).val + t, by simp; omega⟩ l _ _ (inv_row g h hD ⟨16 * ((4 : Fin 8)).val + t, by simp; omega⟩ l _ _
    (inv_row g h hD ⟨16 * ((3 : Fin 8)).val + t, by simp; omega⟩ l _ _ (inv_row g h hD ⟨16 * ((2 : Fin 8)).val + t, by simp; omega⟩ l _ _
    (inv_row g h hD ⟨16 * ((1 : Fin 8)).val + t, by simp; omega⟩ l _ _ (inv_row g h hD ⟨16 * ((0 : Fin 8)).val + t, by simp; omega⟩ l _ _ ha)))))))
  simp only [add_assoc] at this ⊢
  exact this

/-- The term of column `k` of row `R` of the two tables. -/
def cell (GP GT : Vec Ideal S401408x128 .f32) (R k : ℕ) : EReal :=
  tm (GP (ix2 ⟨R % 401408, Nat.mod_lt _ (by decide)⟩ ⟨k % 128, Nat.mod_lt _ (by decide)⟩)) (GT (ix2 ⟨R % 401408, Nat.mod_lt _ (by decide)⟩ ⟨k % 128, Nat.mod_lt _ (by decide)⟩))

theorem rowT_gath (GP GT : Vec Ideal S401408x128 .f32) (R : ℕ → ℕ) (r : Fin 128) (l : S16.Idx) :
    rowT (gath GP R) (gath GT R) r l = ∑ c ∈ range 8, cell GP GT (R r.val) (16 * c + (l 0).val) := by
  have hl : (l 0).val < 16 := (l 0).isLt
  have e : ∀ c (hn : 16 * c + 16 ≤ 128), tm (blk (gath GP R) r (16 * c) hn l) (blk (gath GT R) r (16 * c) hn l) = cell GP GT (R r.val) (16 * c + (l 0).val) := by
    intro c hn
    unfold cell
    have ek : (⟨(16 * c + (l 0).val) % 128, Nat.mod_lt _ (by decide)⟩ : Fin 128) = ⟨16 * c + (l 0).val, by omega⟩ := Fin.ext (Nat.mod_eq_of_lt (by omega))
    rw [ek]
    rfl
  simp only [sum_range_succ, range_zero, sum_empty, zero_add]
  rw [← e 0 (by decide), ← e 1 (by decide), ← e 2 (by decide), ← e 3 (by decide), ← e 4 (by decide), ← e 5 (by decide), ← e 6 (by decide), ← e 7 (by decide)]
  rfl

section
variable (GP GT : Vec Ideal S401408x128 .f32) (hD : ∀ x, Dom (GP x) (GT x))
include hD

theorem inv_toks (R : ℕ → ℕ) (l : S16.Idx) (S : EReal) (a : Acc Ideal) (ha : Inv l S a) : ∀ v, v ≤ 16 →
    Inv l (S + ∑ t ∈ range v, ∑ r ∈ range 8, ∑ c ∈ range 8, cell GP GT (R (16 * r + t)) (16 * c + (l 0).val)) (toksUp (gath GP R) (gath GT R) v a)
  | 0, _ => by simpa [toksUp] using ha
  | v + 1, h => by
    have hv : v < 16 := by omega
    have := inv_tok (gath GP R) (gath GT R) (fun x => hD _) v hv l _ _ (inv_toks R l S a ha v (by omega))
    rw [toksUp, dif_pos hv, sum_range_succ, ← add_assoc]
    simp only [rowT_gath] at this
    rw [Fin.sum_univ_eq_sum_range (fun r => ∑ c ∈ range 8, cell GP GT (R (16 * r + v)) (16 * c + (l 0).val)) 8] at this
    exact this

theorem inv_units (mk : ℕ → Prop) [DecidablePred mk] (base n : ℕ) (l : S16.Idx) (a : Acc Ideal) (ha : Inv l 0 a) : ∀ u,
    Inv l (∑ u' ∈ range u, ∑ t ∈ range (validN n u'), ∑ r ∈ range 8, ∑ c ∈ range 8, cell GP GT (unitRow mk base u' (16 * r + t)) (16 * c + (l 0).val))
      (unitsUp GP GT mk base n u a)
  | 0 => by simpa [unitsUp] using ha
  | u + 1 => by
    rw [unitsUp, sum_range_succ]
    exact inv_toks GP GT hD _ l _ _ (inv_units mk base n l a ha u) _ (by simp only [validN]; omega)

theorem laneOut_eq (l : S16.Idx) (S : EReal) (a : Acc Ideal) (ha : Inv l S a) : laneOut a l = S := by
  obtain ⟨a0, a1, a2, a3, a4, a5, a6, a7, z0, z1, z2, z3, z4, z5, z6, z7⟩ := a
  obtain ⟨hs, ⟨m0, m1, m2, m3, m4, m5, m6, m7⟩, hz⟩ := ha
  obtain ⟨n1, i1⟩ := mark_min m0 m1
  obtain ⟨n2, i2⟩ := mark_min n1 m2
  obtain ⟨n3, i3⟩ := mark_min n2 m3
  obtain ⟨n4, i4⟩ := mark_min n3 m4
  obtain ⟨n5, i5⟩ := mark_min n4 m5
  obtain ⟨n6, i6⟩ := mark_min n5 m6
  obtain ⟨n7, i7⟩ := mark_min n6 m7
  show (if IntOp.cmpi .eq (IntOp.minsi (IntOp.minsi (IntOp.minsi (IntOp.minsi (IntOp.minsi (IntOp.minsi (IntOp.minsi (z0 l) (z1 l)) (z2 l)) (z3 l)) (z4 l)) (z5 l)) (z6 l)) (z7 l)) 0#32 = 1#1
    then Ideal.ofBits .f32 0xFF800000#32 else (a0 l + a1 l + a2 l + a3 l + a4 l + a5 l + a6 l + a7 l) * ln2) = S
  split
  · next h =>
    have h0 : IntOp.minsi (IntOp.minsi (IntOp.minsi (IntOp.minsi (IntOp.minsi (IntOp.minsi (IntOp.minsi (z0 l) (z1 l)) (z2 l)) (z3 l)) (z4 l)) (z5 l)) (z6 l)) (z7 l) = 0#32 := by
      rcases n7 with q | q
      · exact q
      · rw [q] at h; exact absurd h (by decide)
    rw [i7, i6, i5, i4, i3, i2, i1] at h0
    rw [hz (by simpa only [or_assoc] using h0)]
    simp [Ideal.ofBits, Ideal.ieee]
  · exact hs

/-- What a subcore writes out at lane `l`. -/
theorem tileOut_eq (mk : ℕ → Prop) [DecidablePred mk] (base : ℕ) (l : S16.Idx) :
    tileOut GP GT mk base l = ∑ u ∈ range (unitsN (Nat.count mk 176)), ∑ t ∈ range (validN (Nat.count mk 176) u), ∑ r ∈ range 8, ∑ c ∈ range 8,
      cell GP GT (unitRow mk base u (16 * r + t)) (16 * c + (l 0).val) :=
  laneOut_eq GP GT hD l _ _ (inv_units GP GT hD mk base _ l _ (inv_start l) _)

end

end Cert.Proof

end
-- ==== Proof.ScSum.lean ====
/-
  What the SparseCore kernel's lanes add up to: the masked terms of the late tokens.
-/
module

public import proofs.«01_k».proof.Proof.Tables
public import proofs.«01_k».proof.Proof.Lane

@[expose] public section

set_option maxRecDepth 4096

noncomputable section

namespace Cert.Proof

open Cert.KernelIdeal Cert.KernelIdeal.Gen
open Idealize.ShloMosaic
open Finset

section
variable (mask : S64x196.Idx → BitVec 1) (ps pt : S64x196x4096.Idx → EReal)

/-- The term of batch `b`, token `n`, class `k`. -/
def term (b n k : ℕ) : EReal := tm (at3 ps b n k) (at3 pt b n k)

/-- The sum over the classes, where the mask is set. -/
def tokSum (b n : ℕ) : EReal := if at2 mask b n = 1#1 then ∑ k ∈ range 4096, term ps pt b n k else 0

theorem term_mod (b n k : ℕ) : term ps pt (b % 64) n k = term ps pt b n k := by
  unfold term at3
  simp only [Nat.mod_mod]

theorem cell_tab (R k : ℕ) (hR : R < 401408) (hk : k < 128) :
    cell (tab ps) (tab pt) R k = term ps pt (R / 256 % 8 * 8 + R % 8) (R / 2048) (R / 8 % 32 * 128 + k) := by
  have e : ∀ x : S64x196x4096.Idx → EReal, tab x (ix2 (n0 := 401408) (n1 := 128) ⟨R % 401408, Nat.mod_lt _ (by decide)⟩ ⟨k % 128, Nat.mod_lt _ (by decide)⟩)
      = at3 x (R / 256 % 8 * 8 + R % 8) (R / 2048) (R / 8 % 32 * 128 + k) := fun x => by
    rw [← tab_at x R k hR hk]
    congr 1
    rw [ix2_inj]
    exact ⟨Fin.ext (Nat.mod_eq_of_lt hR), Fin.ext (Nat.mod_eq_of_lt hk)⟩
  unfold term
  rw [← e ps, ← e pt]
  rfl

theorem row_split (a b c q r : ℕ) (hb : b < 8) (hc : c < 8) (hq : q < 4) (hr : r < 8) :
    (a * 2048 + b * 256 + c + q * 64 + 8 * r) / 256 = a * 8 + b ∧ (a * 2048 + b * 256 + c + q * 64 + 8 * r) % 8 = c
      ∧ (a * 2048 + b * 256 + c + q * 64 + 8 * r) / 8 = (a * 8 + b) * 32 + (q * 8 + r) := by
  refine ⟨?_, by omega, ?_⟩
  · rw [show a * 2048 + b * 256 + c + q * 64 + 8 * r = (c + q * 64 + 8 * r) + 256 * (a * 8 + b) by ring, Nat.add_mul_div_left _ _ (by decide),
      Nat.div_eq_of_lt (by omega)]; omega
  · rw [show a * 2048 + b * 256 + c + q * 64 + 8 * r = c + 8 * ((a * 8 + b) * 32 + (q * 8 + r)) by ring, Nat.add_mul_div_left _ _ (by decide),
      Nat.div_eq_of_lt hc]; omega

theorem cell_row (u n r k : ℕ) (hn : n < 12544) (hr : r < 8) (hk : k < 128) :
    cell (tab ps) (tab pt) (rowN u n r) k = term ps pt n (n / 64) ((u % 4 * 8 + r) * 128 + k) := by
  rw [cell_tab ps pt _ _ (rowN_lt _ _ _ hn hr) hk, ← term_mod ps pt n (n / 64)]
  obtain ⟨e1, e2, e3⟩ := row_split (n / 64) (n % 64 / 8) (n % 8) (u % 4) r (by omega) (by omega) (by omega) hr
  have h1 : rowN u n r / 256 % 8 * 8 + rowN u n r % 8 = n % 64 := by unfold rowN; rw [e1, e2]; omega
  have h2 : rowN u n r / 2048 = n / 64 := by
    rw [show 2048 = 256 * 8 from rfl, ← Nat.div_div_eq_div_mul]; unfold rowN; rw [e1]; omega
  have h3 : rowN u n r / 8 % 32 = u % 4 * 8 + r := by unfold rowN; rw [e3]; omega
  rw [h1, h2, h3]

variable (hD : ∀ x, Dom (tab ps x) (tab pt x))
include hD

/-- One lane of one subcore. -/
theorem lane_sum (mk : ℕ → Prop) [DecidablePred mk] (base : ℕ) (hb : base ≤ 12368) (l : S16.Idx) :
    tileOut (F := Ideal) (tab ps) (tab pt) mk base l
      = ∑ i ∈ range 176, if mk i then ∑ k ∈ range 32, ∑ c ∈ range 8, term ps pt (base + i) ((base + i) / 64) (k * 128 + (16 * c + (l 0).val)) else 0 := by
  have hl : (l 0).val < 16 := (l 0).isLt
  rw [tileOut_eq (tab ps) (tab pt) hD mk base l,
    ← sum_nth mk (fun i => ∑ k ∈ range 32, ∑ c ∈ range 8, term ps pt (base + i) ((base + i) / 64) (k * 128 + (16 * c + (l 0).val))) 176 le_rfl]
  rw [show (∑ p ∈ range (Nat.count mk 176), (fun i => ∑ k ∈ range 32, ∑ c ∈ range 8, term ps pt (base + i) ((base + i) / 64) (k * 128 + (16 * c + (l 0).val))) (nthM mk p))
      = ∑ p ∈ range (Nat.count mk 176), ∑ k ∈ range 32,
        (fun p k => ∑ c ∈ range 8, term ps pt (tokenAt mk base p) (tokenAt mk base p / 64) (k * 128 + (16 * c + (l 0).val))) p k from
    sum_congr rfl fun p hp => by
      have e : tokenAt mk base p = base + nthM mk p := if_pos (mem_range.1 hp)
      dsimp only
      rw [e], ← sum_units]
  refine sum_congr rfl fun u _ => sum_congr rfl fun t ht => sum_congr rfl fun r hr => sum_congr rfl fun c hc => ?_
  have ht : t < 16 := lt_of_lt_of_le (mem_range.1 ht) (Nat.min_le_right _ _)
  have hr := mem_range.1 hr
  have hc := mem_range.1 hc
  have e1 : (16 * r + t) % 16 = t := by omega
  have e2 : (16 * r + t) / 16 = r := by omega
  unfold unitRow
  rw [e1, e2]
  exact cell_row ps pt u _ r _ (tokenAt_lt mk base hb _) hr (by omega)

omit hD in
theorem classes (f : ℕ → EReal) : ∑ l ∈ range 16, ∑ k ∈ range 32, ∑ c ∈ range 8, f (k * 128 + (16 * c + l)) = ∑ k ∈ range 4096, f k := by
  rw [show (4096 : ℕ) = 32 * 128 from rfl, sum_range_mul, sum_comm]
  refine sum_congr rfl fun k _ => ?_
  rw [show (128 : ℕ) = 8 * 16 from rfl, sum_range_mul (fun j => f (k * (8 * 16) + j)) 8 16, sum_comm]
  refine sum_congr rfl fun c _ => sum_congr rfl fun l _ => ?_
  rw [Nat.mul_comm 16 c]

/-- All the lanes of all the subcores. -/
theorem sc_sum (mw : Vec Ideal S5632 .i32) (hm : ∀ j (h : j < 5632), mw (atM j h) = (at2 mask (j % 64) (108 + j / 64)).setWidth 32) :
    ∑ x : S32x16.Idx, outV mw (tab ps) (tab pt) x = ∑ n ∈ range 88, ∑ b ∈ range 64, tokSum mask ps pt b (108 + n) := by
  have hmk : ∀ j, j < 5632 → (wordAt mw j = 1#32 ↔ at2 mask (j % 64) (108 + j / 64) = 1#1) := fun j hj => by
    unfold wordAt
    rw [dif_pos hj, hm j hj]
    generalize at2 mask (j % 64) (108 + j / 64) = q
    revert q
    decide
  have h1 : ∀ x : S32x16.Idx, outV mw (tab ps) (tab pt) x
      = (fun w l : ℕ => ∑ i ∈ range 176, if mkOf mw w i then ∑ k ∈ range 32, ∑ c ∈ range 8, term ps pt (6912 + w * 176 + i) ((6912 + w * 176 + i) / 64) (k * 128 + (16 * c + l)) else 0)
        (x 0).val (x 1).val := fun x => by
    have : (x 0).val < 32 := (x 0).isLt
    exact lane_sum ps pt hD (mkOf mw (x 0).val) (6912 + (x 0).val * 176) (by omega) (atL (x 1).val (x 1).isLt)
  rw [sum_congr rfl fun x _ => h1 x]
  generalize hG : (fun w l : ℕ => ∑ i ∈ range 176, if mkOf mw w i then ∑ k ∈ range 32, ∑ c ∈ range 8, term ps pt (6912 + w * 176 + i) ((6912 + w * 176 + i) / 64) (k * 128 + (16 * c + l)) else 0) = G
  rw [sum_idx2]
  show ∑ a : Fin 32, ∑ b : Fin 16, G a.val b.val = _
  have h2 : ∀ w ∈ range 32, ∑ l ∈ range 16, G w l = ∑ i ∈ range 176, (fun j => tokSum mask ps pt (j % 64) (108 + j / 64)) (w * 176 + i) := fun w hw => by
    have hw := mem_range.1 hw
    subst hG
    dsimp only
    rw [sum_comm]
    refine sum_congr rfl fun i hi => ?_
    have hi := mem_range.1 hi
    have e1 : (6912 + w * 176 + i) % 64 = (w * 176 + i) % 64 := by omega
    have e2 : (6912 + w * 176 + i) / 64 = 108 + (w * 176 + i) / 64 := by omega
    unfold tokSum
    by_cases h : at2 mask ((w * 176 + i) % 64) (108 + (w * 176 + i) / 64) = 1#1
    · rw [if_pos h, ← e2, ← e1]
      simp only [term_mod]
      rw [← classes]
      refine sum_congr rfl fun l _ => ?_
      exact if_pos ((hmk _ (by omega)).2 h)
    · rw [if_neg h]
      refine sum_eq_zero fun l _ => ?_
      exact if_neg (fun e => h ((hmk _ (by omega)).1 e))
  rw [show (∑ a : Fin 32, ∑ b : Fin 16, G a.val b.val) = ∑ w ∈ range 32, ∑ l ∈ range 16, G w l from by
    rw [← Fin.sum_univ_eq_sum_range (fun w => ∑ l ∈ range 16, G w l) 32]
    exact sum_congr rfl fun a _ => Fin.sum_univ_eq_sum_range (fun l => G a.val l) 16]
  rw [sum_congr rfl h2, ← sum_range_mul (fun j => tokSum mask ps pt (j % 64) (108 + j / 64)) 32 176, show 32 * 176 = 88 * 64 from rfl, sum_range_mul]
  refine sum_congr rfl fun n _ => sum_congr rfl fun b hb => ?_
  have hb := mem_range.1 hb
  have e1 : (n * 64 + b) % 64 = b := by omega
  have e2 : (n * 64 + b) / 64 = n := by omega
  rw [e1, e2]

end

end Cert.Proof

end
-- ==== Proof.TcSum.lean ====
/-
  What the TensorCore kernel adds up to: the masked terms of the early tokens.
-/
module

public import proofs.«01_k».proof.Proof.ScSum
public import proofs.«01_k».proof.Proof.Tc
public import Idealize.ShloMosaic.Lib.Pointwise
public import Idealize.ShloMosaic.Lib.Pipeline.ValueKit

@[expose] public section

set_option maxRecDepth 4096

noncomputable section

namespace Cert.Proof

open Cert.KernelIdeal Cert.KernelIdeal.Gen
open Idealize.ShloMosaic
open Idealize.ShloMosaic.TcCoe
open Finset

theorem log_one : Ideal.log 1 = 0 := by
  show (if (1 : ℝ) ≤ 0 then (⊥ : EReal) else ((Real.log 1 : ℝ) : EReal)) = 0
  rw [if_neg (by norm_num), Real.log_one]; rfl

/-- A masked entry's product is the term where the mask is positive, and zero elsewhere. -/
theorem masked (p : Prop) [Decidable p] (x y : EReal) : y * Ideal.log (if p then x else 1) = if p then tm x y else 0 := by
  by_cases h : p
  · rw [if_pos h, if_pos h]; rfl
  · rw [if_neg h, if_neg h, log_one, mul_zero]

theorem pay1_eq (a : Vec Ideal S4x64x1 .f32) (x y : Vec Ideal S4x64x4096 .f32) (acc : EReal) :
    k0_pay1 (F := Ideal) a x acc y
      = acc + ∑ i : Fin 4, ∑ b : Fin 64, ∑ k : Fin 4096, if 0 < a (ix3 i b (0 : Fin 1)) then tm (x (ix3 i b k)) (y (ix3 i b k)) else 0 := by
  unfold k0_pay1
  refine congrArg (acc + ·) ?_
  refine (Ideal.multiReduction_add_total (t := S1) _ 0x00000000#32 reduces_S1x4x64x4096_S1 (fun b => match b with | 0 => rfl) (.inl rfl) rfl _).trans ?_
  refine (Equiv.sum_comp (Shape.reshapeEquiv shapeCasts_S4x64x4096_S1x4x64x4096) _).trans ?_
  rw [sum_idx3]
  refine sum_congr rfl fun i _ => sum_congr rfl fun b _ => sum_congr rfl fun k _ => ?_
  rw [← masked]
  pointwise

section
variable (V : (c : Dev nD) → (b : Ref sig .tc) → Buf (Elt Ideal) ((c : Thread nD τ).loc b)) (c : Dev nD)

theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![t.val, 0, 0] := by decide +kernel

theorem b1_at (t : Fin grid0.N) (i : Fin 4) (b : Fin 64) (k : Fin 4096) (h : t.val * 4 + i.val < 196) :
    full3 (b1 V c t) (ix3 i b k) = (V c main_v0 : Vec Ideal S196x64x4096 .f32) (ix3 ⟨t.val * 4 + i.val, h⟩ b k) := by
  unfold full3 b1
  blk_simp [idx1 t]
  blk_ext [idx1 t]

theorem b2_at (t : Fin grid0.N) (i : Fin 4) (b : Fin 64) (k : Fin 4096) (h : t.val * 4 + i.val < 196) :
    full3 (b2 V c t) (ix3 i b k) = (V c main_v1 : Vec Ideal S196x64x4096 .f32) (ix3 ⟨t.val * 4 + i.val, h⟩ b k) := by
  unfold full3 b2
  blk_simp [idx2 t]
  blk_ext [idx2 t]

theorem b0_at (t : Fin grid0.N) (i : Fin 4) (b : Fin 64) (h : t.val * 4 + i.val < 196) :
    head3 (b0 V c t) (ix3 i b (0 : Fin 1)) = (V c main_v11 : Vec Ideal S196x64x128 .f32) (ix3 ⟨t.val * 4 + i.val, h⟩ b (0 : Fin 128)) := by
  unfold head3 b0
  blk_simp [idx0 t]
  blk_ext [idx0 t]

variable (mask : S64x196.Idx → BitVec 1) (ps pt : S64x196x4096.Idx → EReal)

theorem at3_fin (x : S64x196x4096.Idx → EReal) (b : Fin 64) (n : Fin 196) (k : Fin 4096) : x (ix3 b n k) = at3 x b.val n.val k.val := by
  unfold at3
  congr 1
  rw [ix3_inj]
  exact ⟨Fin.ext (Nat.mod_eq_of_lt b.isLt).symm, Fin.ext (Nat.mod_eq_of_lt n.isLt).symm, Fin.ext (Nat.mod_eq_of_lt k.isLt).symm⟩

theorem at2_fin (x : S64x196.Idx → BitVec 1) (b : Fin 64) (n : Fin 196) : x (ix2 b n) = at2 x b.val n.val := by
  unfold at2
  congr 1
  rw [ix2_inj]
  exact ⟨Fin.ext (Nat.mod_eq_of_lt b.isLt).symm, Fin.ext (Nat.mod_eq_of_lt n.isLt).symm⟩

theorem bit_pos (q : BitVec 1) : (0 : EReal) < ((q.toNat : ℝ) : EReal) ↔ q = 1#1 := by
  have h : q = 0#1 ∨ q = 1#1 := by revert q; decide
  rcases h with rfl | rfl <;> simp

/-- The sum of one masked row of classes. -/
theorem row_sum (b : Fin 64) (n : Fin 196) (q : BitVec 1) (hq : q = mask (ix2 b n)) :
    (∑ k : Fin 4096, if (0 : EReal) < ((q.toNat : ℝ) : EReal) then tm (ps (ix3 b n k)) (pt (ix3 b n k)) else 0) = tokSum mask ps pt b.val n.val := by
  unfold tokSum
  rw [← at2_fin, ← hq]
  by_cases h : q = 1#1
  · rw [if_pos h, ← Fin.sum_univ_eq_sum_range (fun k => term ps pt b.val n.val k) 4096]
    refine sum_congr rfl fun k _ => ?_
    rw [if_pos ((bit_pos q).2 h), at3_fin ps b n k, at3_fin pt b n k]; rfl
  · rw [if_neg h]
    exact sum_eq_zero fun k _ => if_neg (fun e => h ((bit_pos q).1 e))

variable (h0 : (V c main_v0 : Vec Ideal S196x64x4096 .f32) = byTok ps) (h1 : (V c main_v1 : Vec Ideal S196x64x4096 .f32) = byTok pt)
  (h11 : ∀ (n : Fin 196) (b : Fin 64) (l : Fin 128), (V c main_v11 : Vec Ideal S196x64x128 .f32) (ix3 n b l) = (((mask (ix2 b n)).toNat : ℝ) : EReal))
include h0 h1 h11

theorem step_sum (t : Fin grid0.N) (acc : EReal) :
    k0_pay1 (F := Ideal) (head3 (b0 V c t)) (full3 (b1 V c t)) acc (full3 (b2 V c t)) = acc + ∑ i ∈ range 4, ∑ b ∈ range 64, tokSum mask ps pt b (t.val * 4 + i) := by
  have ht : t.val < 27 := t.isLt
  rw [pay1_eq, ← Fin.sum_univ_eq_sum_range (fun i => ∑ b ∈ range 64, tokSum mask ps pt b (t.val * 4 + i)) 4]
  refine congrArg (acc + ·) (sum_congr rfl fun i _ => ?_)
  have h : t.val * 4 + i.val < 196 := by have := i.isLt; omega
  rw [← Fin.sum_univ_eq_sum_range (fun b => tokSum mask ps pt b (t.val * 4 + i.val)) 64]
  refine sum_congr rfl fun b _ => ?_
  rw [← row_sum mask ps pt b ⟨t.val * 4 + i.val, h⟩ _ rfl]
  refine sum_congr rfl fun k _ => ?_
  rw [b0_at V c t i b h, b1_at V c t i b k h, b2_at V c t i b k h, h0, h1, h11, byTok_at, byTok_at]

theorem acc_sum (n : ℕ) (hn : n ≤ 27) : (acc1 (F := Ideal) V c n : EReal) = ∑ j ∈ range n, ∑ i ∈ range 4, ∑ b ∈ range 64, tokSum mask ps pt b (j * 4 + i) := by
  induction n with
  | zero => rw [sum_range_zero]; exact Ideal.ofBits_zero_f32
  | succ n ih =>
    rw [sum_range_succ, ← ih (by omega)]
    exact (acc1_succ V c ⟨n, by show n < 27; omega⟩).trans (step_sum V c mask ps pt h0 h1 h11 _ _)

/-- The whole TensorCore call. -/
theorem tc_sum : (acc1 (F := Ideal) V c 27 : EReal) = ∑ n ∈ range 108, ∑ b ∈ range 64, tokSum mask ps pt b n := by
  rw [acc_sum V c mask ps pt h0 h1 h11 27 le_rfl, show 108 = 27 * 4 from rfl, sum_range_mul]

end

end Cert.Proof

end
-- ==== Proof.RefSum.lean ====
/-
  What the reference's numerator adds up to: the same masked terms.
-/
module

public import proofs.«01_k».proof.Proof.TcSum
public import proofs.«01_k».proof.Proof.Gen.ReferenceIdeal

@[expose] public section

set_option maxRecDepth 4096

noncomputable section

namespace Cert.Proof

open Idealize.ShloMosaic
open Finset

section
variable (mask : Cert.KernelIdeal.S64x196.Idx → BitVec 1) (ps pt : Cert.KernelIdeal.S64x196x4096.Idx → EReal) (hD : ∀ x, Dom (ps x) (pt x))
include hD

theorem tab_dom (y : Cert.KernelIdeal.S401408x128.Idx) : Dom (tab ps y) (tab pt y) := hD _

theorem tokSum_ne_top (b n : ℕ) : tokSum mask ps pt b n ≠ ⊤ := by
  unfold tokSum
  split
  · exact (neg_sum _ _ fun k _ => tm_ne_top (hD _)).2
  · exact EReal.zero_ne_top

theorem neg_total : -(∑ n ∈ range 196, ∑ b ∈ range 64, tokSum mask ps pt b n) = ∑ b : Fin 64, ∑ n : Fin 196, -tokSum mask ps pt b.val n.val := by
  rw [(neg_sum _ _ fun n _ => (neg_sum _ _ fun b _ => tokSum_ne_top mask ps pt hD b n).2).1,
    sum_congr rfl fun n _ => (neg_sum _ _ fun b _ => tokSum_ne_top mask ps pt hD b n).1, sum_comm,
    ← Fin.sum_univ_eq_sum_range (fun b => ∑ n ∈ range 196, -tokSum mask ps pt b n) 64]
  exact sum_congr rfl fun b _ => (Fin.sum_univ_eq_sum_range (fun n => -tokSum mask ps pt b.val n) 196).symm

omit hD in
/-- One entry of the reference's sum. -/
theorem ref_entry (b : Fin 64) (n : Fin 196) :
    -(0 + ∑ k : Fin 4096, pt (ix3 b n k) * Ideal.log (if mask (ix2 b n) = 1#1 then ps (ix3 b n k) else 1)) * (((mask (ix2 b n)).toNat : ℝ) : EReal)
      = -tokSum mask ps pt b.val n.val := by
  rw [← row_sum mask ps pt b n _ rfl, zero_add]
  generalize mask (ix2 b n) = q
  have h : q = 0#1 ∨ q = 1#1 := by revert q; decide
  rcases h with rfl | rfl
  · rw [show (((0#1 : BitVec 1).toNat : ℝ) : EReal) = 0 by simp, mul_zero]
    simp
  · rw [show (((1#1 : BitVec 1).toNat : ℝ) : EReal) = 1 by simp, mul_one]
    refine congrArg (- ·) (sum_congr rfl fun k _ => ?_)
    rw [if_pos rfl, if_pos (by norm_num)]
    rfl

open Cert.ReferenceIdeal Cert.ReferenceIdeal.Gen in
/-- The reference's numerator. -/
theorem ref_num (j : Cert.ReferenceIdeal.S_.Idx) :
    Host.reduceAdd (F := Ideal) (mulf (Host.negf (Host.reduceAdd (mulf pt (Host.log (select (broadcastInDim S64x196x4096 ![0, 1, 2] bcast_S64x196x1_S64x196x4096_0_1_2
        (broadcastInDim S64x196x1 ![0, 1] bcast_S64x196_S64x196x1_0_1 mask)) ps (broadcastInDim S64x196x4096 ![] bcast_S_S64x196x4096 (constant S_ .f32 0x3F800000#32)))))
        (constant S_ .f32 0x00000000#32) reducesTo_S64x196x4096_S64x196_d2 h_S_)) (uitofp .f32 mask)) (constant S_ .f32 0x00000000#32) reducesTo_S64x196_S_d0_1 h_S_ j
      = -(∑ n ∈ range 196, ∑ b ∈ range 64, tokSum mask ps pt b n) := by
  rw [neg_total mask ps pt hD]
  refine (Ideal.hostReduceAdd_total reducesTo_S64x196_S_d0_1 (fun b => b.elim0) _ _ _).trans ?_
  rw [sum_idx2, show (constant S_ .f32 0x00000000#32 : FVec Ideal S_ .f32) = fun _ => 0 from funext fun _ => Ideal.ofBits_zero_f32, zero_add]
  refine sum_congr rfl fun b _ => sum_congr rfl fun n _ => ?_
  rw [← ref_entry mask ps pt b n]
  refine congrArg (fun z => -z * (((mask (ix2 b n)).toNat : ℝ) : EReal)) ?_
  pointwise
  rfl

end

end Cert.Proof

end
-- ==== Proof.Values.lean ====
/-
  The kernel's result, in terms of its arguments; and what the precondition gives.
-/
module

public import proofs.«01_k».proof.Proof.RefSum
public import proofs.«01_k».proof.Proof.Main
public import proofs.«01_k».proof.Pre_domain
public import Idealize.ShloMosaic.Lib.ReduceAll

@[expose] public section

set_option maxRecDepth 4096

noncomputable section

namespace Cert.Proof

open Cert.KernelIdeal Cert.KernelIdeal.Gen
open Idealize.ShloMosaic
open Idealize.ShloMosaic.TcCoe
open Finset

/-- The precondition, entry by entry. -/
theorem dom_of_fn [Cert.Pre_domain.Facts] (ps pt : S64x196x4096.Idx → EReal) (mask : S64x196.Idx → BitVec 1) (h : Cert.Pre_domain.fn (F := Ideal) ps pt mask = fun _ => 1#1)
    (x : S64x196x4096.Idx) : Dom (ps x) (pt x) := by
  have h0 := congrFun h (fun a => a.elim0)
  unfold Cert.Pre_domain.fn at h0
  dsimp only at h0
  have h1 := Host.reduce_andi_all _ _ _ _ _ h0 x
  change IntOp.andi (IntOp.andi (Ideal.cmp .olt (max (ps x) (-(ps x))) (Ideal.ofBits .f32 0x7F800000#32)) (Ideal.cmp .olt (max (pt x) (-(pt x))) (Ideal.ofBits .f32 0x7F800000#32)))
    (IntOp.ori (Ideal.cmp .ogt (ps x) (Ideal.ofBits .f32 0x00000000#32))
      (IntOp.andi (Ideal.cmp .oeq (ps x) (Ideal.ofBits .f32 0x00000000#32)) (Ideal.cmp .ogt (pt x) (Ideal.ofBits .f32 0x00000000#32)))) = 1#1 at h1
  have ei : Ideal.ofBits .f32 0x7F800000#32 = ⊤ := by simp [Ideal.ofBits, Ideal.ieee]
  have and1 : ∀ a b : BitVec 1, IntOp.andi a b = 1#1 ↔ a = 1#1 ∧ b = 1#1 := by decide
  have or1 : ∀ a b : BitVec 1, IntOp.ori a b = 1#1 ↔ a = 1#1 ∨ b = 1#1 := by decide
  have bool1 : ∀ p : Prop, ∀ [Decidable p], BitVec.ofBool (decide p) = 1#1 ↔ p := fun p _ => by
    by_cases q : p
    · simp [q]
    · simp [q]
  have fin : ∀ z : EReal, max z (-z) < ⊤ → z ≠ ⊤ ∧ z ≠ ⊥ := fun z hz =>
    ⟨fun e => by subst e; simp at hz, fun e => by subst e; simp at hz⟩
  rw [and1, and1, or1, and1, ei, Ideal.ofBits_zero_f32] at h1
  obtain ⟨⟨a, b⟩, c⟩ := h1
  have a' := fin _ ((bool1 _).1 a)
  have b' := fin _ ((bool1 _).1 b)
  refine ⟨a'.1, a'.2, b'.1, b'.2, ?_⟩
  rcases c with c | ⟨c, d⟩
  · exact .inl ((bool1 _).1 c)
  · exact .inr ⟨(bool1 _).1 c, (bool1 _).1 d⟩

section
variable (m : (ℓ : Loc nD τ sig) → Buf (Elt Ideal) ℓ) (d : Dev nD)

/-- The arguments. -/
abbrev psOf : S64x196x4096.Idx → EReal := m (d, Proc.devRef .tc main_arg0)
abbrev ptOf : S64x196x4096.Idx → EReal := m (d, Proc.devRef .tc main_arg1)
abbrev maskOf : S64x196.Idx → BitVec 1 := m (d, Proc.devRef .tc main_arg2)

theorem W1_v0 : (W1 m d main_v0 : Vec Ideal S196x64x4096 .f32) = byTok (psOf m d) := by
  unfold W1
  after_results
  rfl
theorem W1_v1 : (W1 m d main_v1 : Vec Ideal S196x64x4096 .f32) = byTok (ptOf m d) := by
  unfold W1
  after_results
  rfl
theorem W1_v4 : (W1 m d main_v4 : Vec Ideal S401408x128 .f32) = tab (psOf m d) := by
  unfold W1
  after_results
  rfl
theorem W1_v7 : (W1 m d main_v7 : Vec Ideal S401408x128 .f32) = tab (ptOf m d) := by
  unfold W1
  after_results
  rfl
theorem W1_v8 : (W1 m d main_v8 : Vec Ideal S196x64 .i1) = byTok2 (maskOf m d) := by
  unfold W1
  after_results
  rfl
theorem W1_v11 : (W1 m d main_v11 : Vec Ideal S196x64x128 .f32) = broadcastInDim S196x64x128 ![0, 1, 2] bcast_S196x64x1_S196x64x128_0_1_2
    (broadcastInDim S196x64x1 ![0, 1] bcast_S196x64_S196x64x1_0_1 (uitofp (F := Ideal) .f32 (byTok2 (maskOf m d)))) := by
  unfold W1
  after_results
  rfl

theorem W1_v11_at (n : Fin 196) (b : Fin 64) (l : Fin 128) : (W1 m d main_v11 : Vec Ideal S196x64x128 .f32) (ix3 n b l) = (((maskOf m d (ix2 b n)).toNat : ℝ) : EReal) := by
  rw [W1_v11]
  have h : broadcastInDim S196x64x128 ![0, 1, 2] bcast_S196x64x1_S196x64x128_0_1_2
      (broadcastInDim S196x64x1 ![0, 1] bcast_S196x64_S196x64x1_0_1 (uitofp (F := Ideal) .f32 (byTok2 (maskOf m d)))) (ix3 n b l)
      = uitofp (F := Ideal) .f32 (byTok2 (maskOf m d)) (ix2 n b) := by
    pointwise
  rw [h, ← byTok2_at (maskOf m d) n b]
  rfl

theorem W2_v8 : (W2 m d main_v8 : Vec Ideal S196x64 .i1) = byTok2 (maskOf m d) := by
  unfold W2
  rw [Function.update_of_ne (by decide), Function.update_of_ne (by decide)]
  exact W1_v8 m d

theorem W3_v4 : (W3 m d main_v4 : Vec Ideal S401408x128 .f32) = tab (psOf m d) := by
  unfold W3
  after_results
  unfold W2
  rw [Function.update_of_ne (by decide), Function.update_of_ne (by decide)]
  exact W1_v4 m d
theorem W3_v7 : (W3 m d main_v7 : Vec Ideal S401408x128 .f32) = tab (ptOf m d) := by
  unfold W3
  after_results
  unfold W2
  rw [Function.update_of_ne (by decide), Function.update_of_ne (by decide)]
  exact W1_v7 m d

theorem W3_word (j : ℕ) (h : j < 5632) : (W3 m d main_v17 : Vec Ideal S5632 .i32) (atM j h) = (at2 (maskOf m d) (j % 64) (108 + j / 64)).setWidth 32 := by
  rw [W3_v17, scatter_full, W2_v8, ← late_at _ j h]
  rfl

theorem out_insOf (W : Valuation τ sig (Elt Ideal)) (h) : out (insOf W h) = outV (W main_v17 : Vec Ideal S5632 .i32) (W main_v4 : Vec Ideal S401408x128 .f32) (W main_v7 : Vec Ideal S401408x128 .f32) := rfl

theorem W4_v18 : (W4 m d main_v18 : Vec Ideal S32x16 .f32) = outV (W3 m d main_v17 : Vec Ideal S5632 .i32) (tab (psOf m d)) (tab (ptOf m d)) := by
  unfold W4
  rw [Function.update_self]
  unfold ins
  rw [out_insOf, W3_v4, W3_v7]

theorem W4_v12 : (W4 m d main_v12_0 : Vec Ideal S1x1 .f32) = fun _ => acc1 (V1 m) d 27 := by
  unfold W4
  rw [Function.update_of_ne (by decide)]
  unfold W3
  after_results
  unfold W2
  rw [Function.update_of_ne (by decide), Function.update_self]
  rfl

theorem W4_arg2 : (W4 m d main_arg2 : Vec Ideal S64x196 .i1) = maskOf m d := by
  unfold W4
  rw [Function.update_of_ne (by decide)]
  unfold W3
  after_results
  unfold W2
  rw [Function.update_of_ne (by decide), Function.update_of_ne (by decide)]
  unfold W1
  after_results

theorem W5_v25 : (W5 m d main_v25 : Vec Ideal S_ .f32) = Host.divf (Host.negf (addf (shapeCast S_ (W4 m d main_v12_0 : Vec Ideal S1x1 .f32) shapeCasts_S1x1_S_)
      (Host.reduceAdd (W4 m d main_v18 : Vec Ideal S32x16 .f32) (constant S_ .f32 0x00000000#32) reducesTo_S32x16_S_d0_1 h_S_)))
    (Host.reduceAdd (uitofp (F := Ideal) .f32 (W4 m d main_arg2 : Vec Ideal S64x196 .i1)) (constant S_ .f32 0x00000000#32) reducesTo_S64x196_S_d0_1 h_S_) := by
  unfold W5
  after_results
  rfl

/-- The kernel's numerator. -/
theorem ker_num (hD : ∀ x, Dom (psOf m d x) (ptOf m d x)) (j : S_.Idx) :
    addf (F := Ideal) (shapeCast S_ (W4 m d main_v12_0 : Vec Ideal S1x1 .f32) shapeCasts_S1x1_S_)
      (Host.reduceAdd (F := Ideal) (W4 m d main_v18 : Vec Ideal S32x16 .f32) (constant S_ .f32 0x00000000#32) reducesTo_S32x16_S_d0_1 h_S_) j
    = ∑ n ∈ range 196, ∑ b ∈ range 64, tokSum (maskOf m d) (psOf m d) (ptOf m d) b n := by
  rw [W4_v12, W4_v18]
  have h1 : (acc1 (F := Ideal) (V1 m) d 27 : EReal) = ∑ n ∈ range 108, ∑ b ∈ range 64, tokSum (maskOf m d) (psOf m d) (ptOf m d) b n :=
    tc_sum (V1 m) d (maskOf m d) (psOf m d) (ptOf m d) (W1_v0 m d) (W1_v1 m d) (W1_v11_at m d)
  have h2 := sc_sum (maskOf m d) (psOf m d) (ptOf m d) (tab_dom (psOf m d) (ptOf m d) hD) (W3 m d main_v17 : Vec Ideal S5632 .i32) (W3_word m d)
  have h3 : Host.reduceAdd (outV (W3 m d main_v17 : Vec Ideal S5632 .i32) (tab (psOf m d)) (tab (ptOf m d))) (constant S_ .f32 0x00000000#32) reducesTo_S32x16_S_d0_1 h_S_ j
      = ∑ n ∈ range 88, ∑ b ∈ range 64, tokSum (maskOf m d) (psOf m d) (ptOf m d) b (108 + n) := by
    refine (Ideal.hostReduceAdd_total reducesTo_S32x16_S_d0_1 (fun b => b.elim0) _ _ _).trans ?_
    rw [h2, show (constant S_ .f32 0x00000000#32 : FVec Ideal S_ .f32) = fun _ => 0 from funext fun _ => Ideal.ofBits_zero_f32, zero_add]
  show (acc1 (F := Ideal) (V1 m) d 27 : EReal) + _ = _
  rw [h1, h3, show 196 = 108 + 88 from rfl, sum_range_add]

end

end Cert.Proof

end
-- ==== Proof.Algebraic.lean ====
/-
  The kernel and the reference leave the same number.
-/
module

public import proofs.«01_k».proof.Proof.Values
public import proofs.«01_k».proof.Proof.Frames

@[expose] public section

set_option maxRecDepth 4096

noncomputable section

namespace Cert.Proof

open Idealize.ShloMosaic Idealize.ShloMosaic.TcCoe Idealize.SL.Sem
open Finset

section
open Cert.ReferenceIdeal Cert.ReferenceIdeal.Gen

/-- The reference's result, of its arguments. -/
def refVal (ps pt : Vec Ideal S64x196x4096 .f32) (mask : Vec Ideal S64x196 .i1) : Vec Ideal S_ .f32 :=
  Host.divf (F := Ideal) (Host.reduceAdd (mulf (Host.negf (Host.reduceAdd (mulf pt (Host.log (select (broadcastInDim S64x196x4096 ![0, 1, 2] bcast_S64x196x1_S64x196x4096_0_1_2
        (broadcastInDim S64x196x1 ![0, 1] bcast_S64x196_S64x196x1_0_1 mask)) ps (broadcastInDim S64x196x4096 ![] bcast_S_S64x196x4096 (constant S_ .f32 0x3F800000#32)))))
        (constant S_ .f32 0x00000000#32) reducesTo_S64x196x4096_S64x196_d2 h_S_)) (uitofp .f32 mask)) (constant S_ .f32 0x00000000#32) reducesTo_S64x196_S_d0_1 h_S_)
    (Host.reduceAdd (uitofp .f32 mask) (constant S_ .f32 0x00000000#32) reducesTo_S64x196_S_d0_1 h_S_)

end

section
open Cert.KernelIdeal
variable (m : (ℓ : Loc nD τ sig) → Buf (Elt Ideal) ℓ) (d : Dev nD)

theorem result_eq (hD : ∀ x, Dom (psOf m d x) (ptOf m d x)) : (W5 m d main_v25 : Vec Ideal S_ .f32) = refVal (psOf m d) (ptOf m d) (maskOf m d) := by
  rw [W5_v25, W4_arg2]
  unfold refVal
  refine congrArg (fun z => Host.divf (F := Ideal) z _) ?_
  funext j
  refine Eq.trans ?_ (ref_num (maskOf m d) (psOf m d) (ptOf m d) hD j).symm
  exact congrArg (fun z : EReal => -z) (ker_num m d hD j)

end

theorem algebraic : Cert.algebraic_KernelIdeal_ReferenceIdeal_pre_domain (hKernelIdeal := Cert.KernelIdeal.Gen.facts) (hReferenceIdeal := Cert.ReferenceIdeal.Gen.facts)
    (hPre_domain := Cert.Pre_domain.Gen.facts) := by
  intro m g m' g' hP hA
  refine ⟨fun c => W5 m c Cert.KernelIdeal.main_v25, ?_, ?_⟩
  · exact (θ_run Cert.KernelIdeal.defs _ _).mono (fun _ h => h.1) (run_ends (F := Ideal) m g)
  · refine (θ_run Cert.ReferenceIdeal.defs _ _).mono (fun r h c => ?_) (Cert.ReferenceIdeal.Value.run (F := Ideal) m' g')
    refine ⟨?_, (h c).2⟩
    have hD : ∀ x, Dom (psOf m c x) (ptOf m c x) := dom_of_fn (psOf m c) (ptOf m c) (maskOf m c) (hP c)
    obtain ⟨a0, a1, a2⟩ := hA c
    have key : ∀ p q k, p = psOf m c → q = ptOf m c → k = maskOf m c → refVal p q k = W5 m c Cert.KernelIdeal.main_v25 := fun p q k hp hq hk => by
      subst hp hq hk
      exact (result_eq m c hD).symm
    exact (h c).1.trans (key _ _ _ a0 a1 a2)

end Cert.Proof

end
-- ==== Proof.lean ====
/-
  The claim: each conjunct is proved in its own module; here they are put together, after the witnesses of the
  programs' stated facts.
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_domain.Gen.facts,
    frame_kernel, frame_ideal, frame_ideal_domain, frame_reference, frame_reference_domain, trivial, algebraic⟩

end Cert.Proof

end
